-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_separated [hPre_separated : Cert.Pre_separated.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_separated.fn (F := Ideal) (m ((c.tc : Thread Cert.Kernel2Ideal.nD Cert.Kernel2Ideal.τ).loc Cert.Kernel2Ideal.main_arg0))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_separated [hPre_separated : Cert.Pre_separated.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_separated.fn (F := Ideal) (m ((c.tc : Thread Cert.Reference2Ideal.nD Cert.Reference2Ideal.τ).loc Cert.Reference2Ideal.main_arg0))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_separated3 [hPre_separated3 : Cert.Pre_separated3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_separated3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_separated3 [hPre_separated3 : Cert.Pre_separated3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_separated3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Kernel2Ideal_pre_separated [hKernel2Ideal : Cert.Kernel2Ideal.Facts] [hPre_separated : Cert.Pre_separated.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_separated m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Reference2Ideal_pre_separated [hReference2Ideal : Cert.Reference2Ideal.Facts] [hPre_separated : Cert.Pre_separated.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_separated m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_separated3 [hKernel3Ideal : Cert.Kernel3Ideal.Facts] [hPre_separated3 : Cert.Pre_separated3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_separated3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_separated3 [hReference3Ideal : Cert.Reference3Ideal.Facts] [hPre_separated3 : Cert.Pre_separated3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_separated3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "eps2" .f32 0x179ABE15#32 ((5316911940649 / 5316911983139663491615228241121378304 : ℝ) : EReal)
  ∧ IdealRules.named_const.Statement Cert.KernelIdeal.κ "neg_inv_two_var" .f32 0xC0829CBC#32 ((-8388608 / 2055209 : ℝ) : EReal)
  ∧ IdealRules.named_const.Statement Cert.KernelIdeal.κ "inv_temp" .f32 0x41649249#32 ((134217728 / 9395241 : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "mask" .f32 0xF149F2CA#32 ⊥

def algebraic_Kernel2Ideal_Reference2Ideal_pre_separated [hKernel2Ideal : Cert.Kernel2Ideal.Facts] [hReference2Ideal : Cert.Reference2Ideal.Facts] [hPre_separated : Cert.Pre_separated.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_separated m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def preserves_Kernel3_Kernel3Ideal : Prop :=
  IdealRules.named_const.Statement Cert.Kernel3Ideal.κ "eps2" .f32 0x179ABE15#32 ((5316911940649 / 5316911983139663491615228241121378304 : ℝ) : EReal)
  ∧ IdealRules.named_const.Statement Cert.Kernel3Ideal.κ "neg_inv_two_var" .f32 0xC0829CBC#32 ((-8388608 / 2055209 : ℝ) : EReal)
  ∧ IdealRules.named_const.Statement Cert.Kernel3Ideal.κ "inv_temp" .f32 0x41649249#32 ((134217728 / 9395241 : ℝ) : EReal)
  ∧ IdealRules.named_const.Statement Cert.Kernel3Ideal.κ "mask" .f32 0xF149F2CA#32 ⊥

def algebraic_Kernel3Ideal_Reference3Ideal_pre_separated3 [hKernel3Ideal : Cert.Kernel3Ideal.Facts] [hReference3Ideal : Cert.Reference3Ideal.Facts] [hPre_separated3 : Cert.Pre_separated3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_separated3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v112) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_separated : Cert.Pre_separated.Facts) (hPre_separated3 : Cert.Pre_separated3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_separated (hKernel2Ideal := hKernel2Ideal) (hPre_separated := hPre_separated)
    ∧ quiescent_Reference2Ideal (hReference2Ideal := hReference2Ideal)
    ∧ quiescent_Reference2Ideal_pre_separated (hReference2Ideal := hReference2Ideal) (hPre_separated := hPre_separated)
    ∧ quiescent_Kernel3 (hKernel3 := hKernel3)
    ∧ quiescent_Kernel3Ideal (hKernel3Ideal := hKernel3Ideal)
    ∧ quiescent_Kernel3Ideal_pre_separated3 (hKernel3Ideal := hKernel3Ideal) (hPre_separated3 := hPre_separated3)
    ∧ quiescent_Reference3Ideal (hReference3Ideal := hReference3Ideal)
    ∧ quiescent_Reference3Ideal_pre_separated3 (hReference3Ideal := hReference3Ideal) (hPre_separated3 := hPre_separated3)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_separated (hKernel2Ideal := hKernel2Ideal) (hReference2Ideal := hReference2Ideal) (hPre_separated := hPre_separated)
    ∧ preserves_Kernel3_Kernel3Ideal
    ∧ algebraic_Kernel3Ideal_Reference3Ideal_pre_separated3 (hKernel3Ideal := hKernel3Ideal) (hReference3Ideal := hReference3Ideal) (hPre_separated3 := hPre_separated3)
-- ==== Pre_separated.lean ====
abbrev S128x100352 : Shape := ⟨2, ![128, 100352]⟩
abbrev S128x100000 : Shape := ⟨2, ![128, 100000]⟩
abbrev S128x51 : Shape := ⟨2, ![128, 51]⟩
abbrev S128x1 : Shape := ⟨2, ![128, 1]⟩
abbrev S_ : Shape := ⟨0, ![]⟩
abbrev S128 : Shape := ⟨1, ![128]⟩
abbrev S128x50 : Shape := ⟨2, ![128, 50]⟩
abbrev S128x352 : Shape := ⟨2, ![128, 352]⟩
abbrev S50 : Shape := ⟨1, ![50]⟩
abbrev S128x50x1 : Shape := ⟨3, ![128, 50, 1]⟩
abbrev S128x1x50 : Shape := ⟨3, ![128, 1, 50]⟩
abbrev S128x50x50 : Shape := ⟨3, ![128, 50, 50]⟩
abbrev S1x1x50 : Shape := ⟨3, ![1, 1, 50]⟩
abbrev S1x50x1 : Shape := ⟨3, ![1, 50, 1]⟩
abbrev S1x50x50 : Shape := ⟨3, ![1, 50, 50]⟩

class Facts : Prop where
  slices_S128x100352_S128x100000_0_0 : S128x100352.Slices ![0, 0] S128x100000
  sliceFits_S128x100000_S128x51 : S128x100000.Slices (fun _ => 0) S128x51
  slices_S128x51_S128x1_0_0 : S128x51.Slices ![0, 0] S128x1
  bcast_S_S128x1 : S_.BroadcastsInDim S128x1 (![] : Fin 0 → Fin S128x1.rank)
  reducesTo_S128x1_S128_d1 : S128x1.ReducesTo [1] S128
  h_S_ : 0 < S_.numel
  slices_S128x51_S128x50_0_0 : S128x51.Slices ![0, 0] S128x50
  slices_S128x51_S128x50_0_1 : S128x51.Slices ![0, 1] S128x50
  reducesTo_S128x50_S128_d1 : S128x50.ReducesTo [1] S128
  slices_S128x100352_S128x352_0_100000 : S128x100352.Slices ![0, 100000] S128x352
  slices_S128x51_S128x1_0_49 : S128x51.Slices ![0, 49] S128x1
  bcast_S128x1_S128x352_0_1 : S128x1.BroadcastsInDim S128x352 (![0, 1] : Fin 2 → Fin S128x352.rank)
  reducesTo_S128x352_S128_d1 : S128x352.ReducesTo [1] S128
  bcast_S_S128x50 : S_.BroadcastsInDim S128x50 (![] : Fin 0 → Fin S128x50.rank)
  bcast_S128x50_S128x50x1_0_1 : S128x50.BroadcastsInDim S128x50x1 (![0, 1] : Fin 2 → Fin S128x50x1.rank)
  bcast_S128x50_S128x1x50_0_2 : S128x50.BroadcastsInDim S128x1x50 (![0, 2] : Fin 2 → Fin S128x1x50.rank)
  bcast_S128x50x1_S128x50x50_0_1_2 : S128x50x1.BroadcastsInDim S128x50x50 (![0, 1, 2] : Fin 3 → Fin S128x50x50.rank)
  bcast_S128x1x50_S128x50x50_0_1_2 : S128x1x50.BroadcastsInDim S128x50x50 (![0, 1, 2] : Fin 3 → Fin S128x50x50.rank)
  bcast_S50_S1x1x50_2 : S50.BroadcastsInDim S1x1x50 (![2] : Fin 1 → Fin S1x1x50.rank)
  bcast_S50_S1x50x1_1 : S50.BroadcastsInDim S1x50x1 (![1] : Fin 1 → Fin S1x50x1.rank)
  bcast_S1x1x50_S1x50x50_0_1_2 : S1x1x50.BroadcastsInDim S1x50x50 (![0, 1, 2] : Fin 3 → Fin S1x50x50.rank)
  bcast_S1x50x1_S1x50x50_0_1_2 : S1x50x1.BroadcastsInDim S1x50x50 (![0, 1, 2] : Fin 3 → Fin S1x50x50.rank)
  bcast_S1x50x50_S128x50x50_0_1_2 : S1x50x50.BroadcastsInDim S128x50x50 (![0, 1, 2] : Fin 3 → Fin S128x50x50.rank)
  bcast_S_S128x50x50 : S_.BroadcastsInDim S128x50x50 (![] : Fin 0 → Fin S128x50x50.rank)
  reducesTo_S128x50x50_S128x50_d2 : S128x50x50.ReducesTo [2] S128x50
  bcast_S_S128 : S_.BroadcastsInDim S128 (![] : Fin 0 → Fin S128.rank)

variable [Facts]

def fn_where {F : FTy → Type} [FloatOps F] (arg0 : IVec S128x50x50 1) (arg1 : FVec F S_ .f32) (arg2 : FVec F S_ .f32) : FVec F S128x50x50 .f32 :=
  let v0 : FVec F S128x50x50 .f32 := broadcastInDim S128x50x50 ![] bcast_S_S128x50x50 arg1
  let v1 : FVec F S128x50x50 .f32 := broadcastInDim S128x50x50 ![] bcast_S_S128x50x50 arg2
  let v2 : FVec F S128x50x50 .f32 := select arg0 v0 v1
  v2

def fn_where_0 {F : FTy → Type} [FloatOps F] (arg0 : IVec S128x50 1) (arg1 : FVec F S_ .f32) (arg2 : FVec F S_ .f32) : FVec F S128x50 .f32 :=
  let v0 : FVec F S128x50 .f32 := broadcastInDim S128x50 ![] bcast_S_S128x50 arg1
  let v1 : FVec F S128x50 .f32 := broadcastInDim S128x50 ![] bcast_S_S128x50 arg2
  let v2 : FVec F S128x50 .f32 := select arg0 v0 v1
  v2

def fn_part2 {F : FTy → Type} [FloatOps F] (main_v4 : IVec S128 1) (main_v8 : IVec S128 1) (main_v13 : IVec S128 1) (main_v32 : FVec F S128x50 .f32) (main_v35 : IVec S128 1) : IVec S128 1 :=
  let main_cst_8 : FVec F S_ .f32 := constant S_ .f32 0x3F800000#32
  let main_v36 : FVec F S128x50 .f32 := broadcastInDim S128x50 ![] bcast_S_S128x50 main_cst_8
  let main_v37 : IVec S128x50 1 := cmpf .oge main_v32 main_v36
  let main_cst_9 : FVec F S_ .f32 := constant S_ .f32 0x3F800000#32
  let main_cst_10 : FVec F S_ .f32 := constant S_ .f32 0x00000000#32
  let main_v38 : FVec F S128x50 .f32 := fn_where_0 (F := F) main_v37 main_cst_9 main_cst_10
  let main_v39 : FVec F S128x50 .f32 := id main_v38
  let main_cst_11 : FVec F S_ .f32 := constant S_ .f32 0x00000000#32
  let main_v40 : FVec F S128 .f32 := (fun x v => Host.reduceAdd x v reducesTo_S128x50_S128_d1 h_S_) main_v39 main_cst_11
  let main_cst_12 : FVec F S_ .f32 := constant S_ .f32 0x41000000#32
  let main_v41 : FVec F S128 .f32 := broadcastInDim S128 ![] bcast_S_S128 main_cst_12
  let main_v42 : IVec S128 1 := cmpf .ole main_v40 main_v41
  let main_v43 : IVec S128 1 := andi main_v4 main_v8
  let main_v44 : IVec S128 1 := andi main_v43 main_v13
  let main_v45 : IVec S128 1 := andi main_v44 main_v35
  let main_v46 : IVec S128 1 := andi main_v45 main_v42
  main_v46

def fn_part1 {F : FTy → Type} [FloatOps F] (main_v4 : IVec S128 1) (main_v8 : IVec S128 1) (main_v13 : IVec S128 1) (main_v16 : IVec S128x50 32) : IVec S128 1 :=
  let main_v17 : IVec S50 32 := iotaInDim S50 32 0
  let main_v18 : IVec S128x50x1 32 := broadcastInDim S128x50x1 ![0, 1] bcast_S128x50_S128x50x1_0_1 main_v16
  let main_v19 : IVec S128x1x50 32 := broadcastInDim S128x1x50 ![0, 2] bcast_S128x50_S128x1x50_0_2 main_v16
  let main_v20 : IVec S128x50x50 32 := broadcastInDim S128x50x50 ![0, 1, 2] bcast_S128x50x1_S128x50x50_0_1_2 main_v18
  let main_v21 : IVec S128x50x50 32 := broadcastInDim S128x50x50 ![0, 1, 2] bcast_S128x1x50_S128x50x50_0_1_2 main_v19
  let main_v22 : IVec S128x50x50 1 := cmpi .eq main_v20 main_v21
  let main_v23 : IVec S1x1x50 32 := broadcastInDim S1x1x50 ![2] bcast_S50_S1x1x50_2 main_v17
  let main_v24 : IVec S1x50x1 32 := broadcastInDim S1x50x1 ![1] bcast_S50_S1x50x1_1 main_v17
  let main_v25 : IVec S1x50x50 32 := broadcastInDim S1x50x50 ![0, 1, 2] bcast_S1x1x50_S1x50x50_0_1_2 main_v23
  let main_v26 : IVec S1x50x50 32 := broadcastInDim S1x50x50 ![0, 1, 2] bcast_S1x50x1_S1x50x50_0_1_2 main_v24
  let main_v27 : IVec S1x50x50 1 := cmpi .slt main_v25 main_v26
  let main_v28 : IVec S128x50x50 1 := broadcastInDim S128x50x50 ![0, 1, 2] bcast_S1x50x50_S128x50x50_0_1_2 main_v27
  let main_v29 : IVec S128x50x50 1 := andi main_v22 main_v28
  let main_cst_3 : FVec F S_ .f32 := constant S_ .f32 0x3F800000#32
  let main_cst_4 : FVec F S_ .f32 := constant S_ .f32 0x00000000#32
  let main_v30 : FVec F S128x50x50 .f32 := fn_where (F := F) main_v29 main_cst_3 main_cst_4
  let main_v31 : FVec F S128x50x50 .f32 := id main_v30
  let main_cst_5 : FVec F S_ .f32 := constant S_ .f32 0x00000000#32
  let main_v32 : FVec F S128x50 .f32 := (fun x v => Host.reduceAdd x v reducesTo_S128x50x50_S128x50_d2 h_S_) main_v31 main_cst_5
  let main_cst_6 : FVec F S_ .f32 := constant S_ .f32 0x40000000#32
  let main_v33 : FVec F S128x50 .f32 := broadcastInDim S128x50 ![] bcast_S_S128x50 main_cst_6
  let main_v34 : IVec S128x50 1 := cmpf .ole main_v32 main_v33
  let main_c_7 : IVec S_ 1 := constantI S_ 1 1#1
  let main_v35 : IVec S128 1 := (fun x v => Host.reduce IntOp.andi x v reducesTo_S128x50_S128_d1 h_S_) main_v34 main_c_7
  fn_part2 (F := F) main_v4 main_v8 main_v13 main_v32 main_v35

def fn {F : FTy → Type} [FloatOps F] (main_arg0 : FVec F S128x100352 .f32) : IVec S128 1 :=
  let main_v0 : FVec F S128x100000 .f32 := (extractStridedSlice S128x100000 ![0, 0] · slices_S128x100352_S128x100000_0_0) main_arg0
  let main_values : FVec F S128x51 .f32 := (fun x => (Host.topK S128x51 1 (FloatOps.cmpfTotal .gt) x sliceFits_S128x100000_S128x51).1) main_v0
  let main_indices : IVec S128x51 32 := (fun x => (Host.topK S128x51 1 (FloatOps.cmpfTotal .gt) x sliceFits_S128x100000_S128x51).2) main_v0
  let main_v1 : FVec F S128x1 .f32 := (extractStridedSlice S128x1 ![0, 0] · slices_S128x51_S128x1_0_0) main_values
  let main_cst : FVec F S_ .f32 := constant S_ .f32 0x7F800000#32
  let main_v2 : FVec F S128x1 .f32 := broadcastInDim S128x1 ![] bcast_S_S128x1 main_cst
  let main_v3 : IVec S128x1 1 := cmpf .olt main_v1 main_v2
  let main_c : IVec S_ 1 := constantI S_ 1 1#1
  let main_v4 : IVec S128 1 := (fun x v => Host.reduce IntOp.andi x v reducesTo_S128x1_S128_d1 h_S_) main_v3 main_c
  let main_v5 : FVec F S128x50 .f32 := (extractStridedSlice S128x50 ![0, 0] · slices_S128x51_S128x50_0_0) main_values
  let main_v6 : FVec F S128x50 .f32 := (extractStridedSlice S128x50 ![0, 1] · slices_S128x51_S128x50_0_1) main_values
  let main_v7 : IVec S128x50 1 := cmpf .ogt main_v5 main_v6
  let main_c_0 : IVec S_ 1 := constantI S_ 1 1#1
  let main_v8 : IVec S128 1 := (fun x v => Host.reduce IntOp.andi x v reducesTo_S128x50_S128_d1 h_S_) main_v7 main_c_0
  let main_v9 : FVec F S128x352 .f32 := (extractStridedSlice S128x352 ![0, 100000] · slices_S128x100352_S128x352_0_100000) main_arg0
  let main_v10 : FVec F S128x1 .f32 := (extractStridedSlice S128x1 ![0, 49] · slices_S128x51_S128x1_0_49) main_values
  let main_v11 : FVec F S128x352 .f32 := broadcastInDim S128x352 ![0, 1] bcast_S128x1_S128x352_0_1 main_v10
  let main_v12 : IVec S128x352 1 := cmpf .olt main_v9 main_v11
  let main_c_1 : IVec S_ 1 := constantI S_ 1 1#1
  let main_v13 : IVec S128 1 := (fun x v => Host.reduce IntOp.andi x v reducesTo_S128x352_S128_d1 h_S_) main_v12 main_c_1
  let main_v14 : IVec S128x50 32 := (extractStridedSlice S128x50 ![0, 0] · slices_S128x51_S128x50_0_0) main_indices
  let main_c_2 : IVec S_ 32 := constantI S_ 32 6272#32
  let main_v15 : IVec S128x50 32 := broadcastInDim S128x50 ![] bcast_S_S128x50 main_c_2
  let main_v16 : IVec S128x50 32 := Host.remsi main_v14 main_v15
  fn_part1 (F := F) main_v4 main_v8 main_v13 main_v16
-- ==== Pre_separated3.lean ====
abbrev S128x1152 : Shape := ⟨2, ![128, 1152]⟩
abbrev S128x3 : Shape := ⟨2, ![128, 3]⟩
abbrev S100000x1152 : Shape := ⟨2, ![100000, 1152]⟩
abbrev S100000x3 : Shape := ⟨2, ![100000, 3]⟩
abbrev S_ : Shape := ⟨0, ![]⟩
abbrev S128 : Shape := ⟨1, ![128]⟩
abbrev S128x1 : Shape := ⟨2, ![128, 1]⟩
abbrev S100000 : Shape := ⟨1, ![100000]⟩
abbrev S100000x1 : Shape := ⟨2, ![100000, 1]⟩
abbrev S1152x128 : Shape := ⟨2, ![1152, 128]⟩
abbrev S100000x128 : Shape := ⟨2, ![100000, 128]⟩
abbrev S1x128 : Shape := ⟨2, ![1, 128]⟩
abbrev S3x128 : Shape := ⟨2, ![3, 128]⟩
abbrev S128x100000 : Shape := ⟨2, ![128, 100000]⟩
abbrev S128x100352 : Shape := ⟨2, ![128, 100352]⟩
abbrev S128x51 : Shape := ⟨2, ![128, 51]⟩
abbrev S128x50 : Shape := ⟨2, ![128, 50]⟩
abbrev S128x352 : Shape := ⟨2, ![128, 352]⟩
abbrev S50 : Shape := ⟨1, ![50]⟩
abbrev S128x50x1 : Shape := ⟨3, ![128, 50, 1]⟩
abbrev S128x1x50 : Shape := ⟨3, ![128, 1, 50]⟩
abbrev S128x50x50 : Shape := ⟨3, ![128, 50, 50]⟩
abbrev S1x1x50 : Shape := ⟨3, ![1, 1, 50]⟩
abbrev S1x50x1 : Shape := ⟨3, ![1, 50, 1]⟩
abbrev S1x50x50 : Shape := ⟨3, ![1, 50, 50]⟩

class Facts : Prop where
  reducesTo_S128x1152_S128_d1 : S128x1152.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x1152_0_1 : S128x1.BroadcastsInDim S128x1152 (![0, 1] : Fin 2 → Fin S128x1152.rank)
  reducesTo_S100000x1152_S100000_d1 : S100000x1152.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x1152_0_1 : S100000x1.BroadcastsInDim S100000x1152 (![0, 1] : Fin 2 → Fin S100000x1152.rank)
  transposes_S128x1152_S1152x128_1_0 : S128x1152.Transposes [1, 0] S1152x128
  reducesTo_S100000x3_S100000_d1 : S100000x3.ReducesTo [1] S100000
  reducesTo_S128x3_S128_d1 : S128x3.ReducesTo [1] S128
  bcast_S128_S1x128_1 : S128.BroadcastsInDim S1x128 (![1] : Fin 1 → Fin S1x128.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  transposes_S128x3_S3x128_1_0 : S128x3.Transposes [1, 0] S3x128
  bcast_S_S100000x128 : S_.BroadcastsInDim S100000x128 (![] : Fin 0 → Fin S100000x128.rank)
  transposes_S100000x128_S128x100000_1_0 : S100000x128.Transposes [1, 0] S128x100000
  bcast_S_S128x100000 : S_.BroadcastsInDim S128x100000 (![] : Fin 0 → Fin S128x100000.rank)
  pads_S128x100000_S128x100352_000_03520 : S128x100000.Pads (![0, 0] : Fin 2 → Nat) ![0, 352] ![0, 0] S128x100352
  slices_S128x100352_S128x100000_0_0 : S128x100352.Slices ![0, 0] S128x100000
  sliceFits_S128x100000_S128x51 : S128x100000.Slices (fun _ => 0) S128x51
  slices_S128x51_S128x1_0_0 : S128x51.Slices ![0, 0] S128x1
  reducesTo_S128x1_S128_d1 : S128x1.ReducesTo [1] S128
  slices_S128x51_S128x50_0_0 : S128x51.Slices ![0, 0] S128x50
  slices_S128x51_S128x50_0_1 : S128x51.Slices ![0, 1] S128x50
  reducesTo_S128x50_S128_d1 : S128x50.ReducesTo [1] S128
  slices_S128x100352_S128x352_0_100000 : S128x100352.Slices ![0, 100000] S128x352
  slices_S128x51_S128x1_0_49 : S128x51.Slices ![0, 49] S128x1
  bcast_S128x1_S128x352_0_1 : S128x1.BroadcastsInDim S128x352 (![0, 1] : Fin 2 → Fin S128x352.rank)
  reducesTo_S128x352_S128_d1 : S128x352.ReducesTo [1] S128
  bcast_S_S128x50 : S_.BroadcastsInDim S128x50 (![] : Fin 0 → Fin S128x50.rank)
  bcast_S128x50_S128x50x1_0_1 : S128x50.BroadcastsInDim S128x50x1 (![0, 1] : Fin 2 → Fin S128x50x1.rank)
  bcast_S128x50_S128x1x50_0_2 : S128x50.BroadcastsInDim S128x1x50 (![0, 2] : Fin 2 → Fin S128x1x50.rank)
  bcast_S128x50x1_S128x50x50_0_1_2 : S128x50x1.BroadcastsInDim S128x50x50 (![0, 1, 2] : Fin 3 → Fin S128x50x50.rank)
  bcast_S128x1x50_S128x50x50_0_1_2 : S128x1x50.BroadcastsInDim S128x50x50 (![0, 1, 2] : Fin 3 → Fin S128x50x50.rank)
  bcast_S50_S1x1x50_2 : S50.BroadcastsInDim S1x1x50 (![2] : Fin 1 → Fin S1x1x50.rank)
  bcast_S50_S1x50x1_1 : S50.BroadcastsInDim S1x50x1 (![1] : Fin 1 → Fin S1x50x1.rank)
  bcast_S1x1x50_S1x50x50_0_1_2 : S1x1x50.BroadcastsInDim S1x50x50 (![0, 1, 2] : Fin 3 → Fin S1x50x50.rank)
  bcast_S1x50x1_S1x50x50_0_1_2 : S1x50x1.BroadcastsInDim S1x50x50 (![0, 1, 2] : Fin 3 → Fin S1x50x50.rank)
  bcast_S1x50x50_S128x50x50_0_1_2 : S1x50x50.BroadcastsInDim S128x50x50 (![0, 1, 2] : Fin 3 → Fin S128x50x50.rank)
  bcast_S_S128x50x50 : S_.BroadcastsInDim S128x50x50 (![] : Fin 0 → Fin S128x50x50.rank)
  reducesTo_S128x50x50_S128x50_d2 : S128x50x50.ReducesTo [2] S128x50
  bcast_S_S128 : S_.BroadcastsInDim S128 (![] : Fin 0 → Fin S128.rank)
  dot_S100000x1152_S1152x128_S100000x128_1_0_0_1_n_n_wf : DotDims.WF S100000x1152 S1152x128 S100000x128 [1] [0] [0] [1] [] []
  dot_S100000x3_S3x128_S100000x128_1_0_0_1_n_n_wf : DotDims.WF S100000x3 S3x128 S100000x128 [1] [0] [0] [1] [] []

variable [Facts]

def dot_S100000x1152_S1152x128_S100000x128_1_0_0_1_n_n : DotDims S100000x1152 S1152x128 S100000x128 where
  lhsContracting := [1]
  rhsContracting := [0]
  lhsNonContracting := [0]
  rhsNonContracting := [1]
  lhsBatch := []
  rhsBatch := []
  wf := dot_S100000x1152_S1152x128_S100000x128_1_0_0_1_n_n_wf
def dot_S100000x3_S3x128_S100000x128_1_0_0_1_n_n : DotDims S100000x3 S3x128 S100000x128 where
  lhsContracting := [1]
  rhsContracting := [0]
  lhsNonContracting := [0]
  rhsNonContracting := [1]
  lhsBatch := []
  rhsBatch := []
  wf := dot_S100000x3_S3x128_S100000x128_1_0_0_1_n_n_wf
def fn_norm {F : FTy → Type} [FloatOps F] (arg0 : FVec F S128x1152 .f32) : FVec F S128x1 .f32 :=
  let v0 : FVec F S128x1152 .f32 := mulf arg0 arg0
  let cst : FVec F S_ .f32 := constant S_ .f32 0x00000000#32
  let v1 : FVec F S128 .f32 := (fun x v => Host.reduceAdd x v reducesTo_S128x1152_S128_d1 h_S_) v0 cst
  let v2 : FVec F S128x1 .f32 := broadcastInDim S128x1 ![0] bcast_S128_S128x1_0 v1
  let v3 : FVec F S128x1 .f32 := Host.sqrt v2
  v3

def fn_clip {F : FTy → Type} [FloatOps F] (arg0 : FVec F S128x1 .f32) (arg1 : FVec F S_ .f32) : FVec F S128x1 .f32 :=
  let v0 : FVec F S_ .f32 := id arg1
  let v1 : FVec F S128x1 .f32 := broadcastInDim S128x1 ![] bcast_S_S128x1 v0
  let v2 : FVec F S128x1 .f32 := maximumf v1 arg0
  v2

def fn_norm_0 {F : FTy → Type} [FloatOps F] (arg0 : FVec F S100000x1152 .f32) : FVec F S100000x1 .f32 :=
  let v0 : FVec F S100000x1152 .f32 := mulf arg0 arg0
  let cst : FVec F S_ .f32 := constant S_ .f32 0x00000000#32
  let v1 : FVec F S100000 .f32 := (fun x v => Host.reduceAdd x v reducesTo_S100000x1152_S100000_d1 h_S_) v0 cst
  let v2 : FVec F S100000x1 .f32 := broadcastInDim S100000x1 ![0] bcast_S100000_S100000x1_0 v1
  let v3 : FVec F S100000x1 .f32 := Host.sqrt v2
  v3

def fn_clip_1 {F : FTy → Type} [FloatOps F] (arg0 : FVec F S100000x1 .f32) (arg1 : FVec F S_ .f32) : FVec F S100000x1 .f32 :=
  let v0 : FVec F S_ .f32 := id arg1
  let v1 : FVec F S100000x1 .f32 := broadcastInDim S100000x1 ![] bcast_S_S100000x1 v0
  let v2 : FVec F S100000x1 .f32 := maximumf v1 arg0
  v2

def fn_pad {F : FTy → Type} [FloatOps F] (arg0 : FVec F S128x100000 .f32) (arg1 : FVec F S_ .f32) : FVec F S128x100352 .f32 :=
  let v0 : FVec F S_ .f32 := id arg1
  let v1 : FVec F S128x100352 .f32 := (fun x v => pad S128x100352 ![0, 0] ![0, 352] ![0, 0] x v pads_S128x100000_S128x100352_000_03520 h_S_) arg0 v0
  v1

def fn_where {F : FTy → Type} [FloatOps F] (arg0 : IVec S128x50x50 1) (arg1 : FVec F S_ .f32) (arg2 : FVec F S_ .f32) : FVec F S128x50x50 .f32 :=
  let v0 : FVec F S128x50x50 .f32 := broadcastInDim S128x50x50 ![] bcast_S_S128x50x50 arg1
  let v1 : FVec F S128x50x50 .f32 := broadcastInDim S128x50x50 ![] bcast_S_S128x50x50 arg2
  let v2 : FVec F S128x50x50 .f32 := select arg0 v0 v1
  v2

def fn_where_2 {F : FTy → Type} [FloatOps F] (arg0 : IVec S128x50 1) (arg1 : FVec F S_ .f32) (arg2 : FVec F S_ .f32) : FVec F S128x50 .f32 :=
  let v0 : FVec F S128x50 .f32 := broadcastInDim S128x50 ![] bcast_S_S128x50 arg1
  let v1 : FVec F S128x50 .f32 := broadcastInDim S128x50 ![] bcast_S_S128x50 arg2
  let v2 : FVec F S128x50 .f32 := select arg0 v0 v1
  v2

def fn_part4 {F : FTy → Type} [FloatOps F] (main_v41 : IVec S128 1) (main_v45 : IVec S128 1) (main_v50 : IVec S128 1) (main_v69 : FVec F S128x50 .f32) (main_v72 : IVec S128 1) (main_cst_18 : FVec F S_ .f32) : IVec S128 1 :=
  let main_v73 : FVec F S128x50 .f32 := broadcastInDim S128x50 ![] bcast_S_S128x50 main_cst_18
  let main_v74 : IVec S128x50 1 := cmpf .oge main_v69 main_v73
  let main_cst_19 : FVec F S_ .f32 := constant S_ .f32 0x3F800000#32
  let main_cst_20 : FVec F S_ .f32 := constant S_ .f32 0x00000000#32
  let main_v75 : FVec F S128x50 .f32 := fn_where_2 (F := F) main_v74 main_cst_19 main_cst_20
  let main_v76 : FVec F S128x50 .f32 := id main_v75
  let main_cst_21 : FVec F S_ .f32 := constant S_ .f32 0x00000000#32
  let main_v77 : FVec F S128 .f32 := (fun x v => Host.reduceAdd x v reducesTo_S128x50_S128_d1 h_S_) main_v76 main_cst_21
  let main_cst_22 : FVec F S_ .f32 := constant S_ .f32 0x41000000#32
  let main_v78 : FVec F S128 .f32 := broadcastInDim S128 ![] bcast_S_S128 main_cst_22
  let main_v79 : IVec S128 1 := cmpf .ole main_v77 main_v78
  let main_v80 : IVec S128 1 := andi main_v41 main_v45
  let main_v81 : IVec S128 1 := andi main_v80 main_v50
  let main_v82 : IVec S128 1 := andi main_v81 main_v72
  let main_v83 : IVec S128 1 := andi main_v82 main_v79
  main_v83

def fn_part3 {F : FTy → Type} [FloatOps F] (main_v41 : IVec S128 1) (main_v45 : IVec S128 1) (main_v50 : IVec S128 1) (main_v53 : IVec S128x50 32) (main_v54 : IVec S50 32) : IVec S128 1 :=
  let main_v55 : IVec S128x50x1 32 := broadcastInDim S128x50x1 ![0, 1] bcast_S128x50_S128x50x1_0_1 main_v53
  let main_v56 : IVec S128x1x50 32 := broadcastInDim S128x1x50 ![0, 2] bcast_S128x50_S128x1x50_0_2 main_v53
  let main_v57 : IVec S128x50x50 32 := broadcastInDim S128x50x50 ![0, 1, 2] bcast_S128x50x1_S128x50x50_0_1_2 main_v55
  let main_v58 : IVec S128x50x50 32 := broadcastInDim S128x50x50 ![0, 1, 2] bcast_S128x1x50_S128x50x50_0_1_2 main_v56
  let main_v59 : IVec S128x50x50 1 := cmpi .eq main_v57 main_v58
  let main_v60 : IVec S1x1x50 32 := broadcastInDim S1x1x50 ![2] bcast_S50_S1x1x50_2 main_v54
  let main_v61 : IVec S1x50x1 32 := broadcastInDim S1x50x1 ![1] bcast_S50_S1x50x1_1 main_v54
  let main_v62 : IVec S1x50x50 32 := broadcastInDim S1x50x50 ![0, 1, 2] bcast_S1x1x50_S1x50x50_0_1_2 main_v60
  let main_v63 : IVec S1x50x50 32 := broadcastInDim S1x50x50 ![0, 1, 2] bcast_S1x50x1_S1x50x50_0_1_2 main_v61
  let main_v64 : IVec S1x50x50 1 := cmpi .slt main_v62 main_v63
  let main_v65 : IVec S128x50x50 1 := broadcastInDim S128x50x50 ![0, 1, 2] bcast_S1x50x50_S128x50x50_0_1_2 main_v64
  let main_v66 : IVec S128x50x50 1 := andi main_v59 main_v65
  let main_cst_13 : FVec F S_ .f32 := constant S_ .f32 0x3F800000#32
  let main_cst_14 : FVec F S_ .f32 := constant S_ .f32 0x00000000#32
  let main_v67 : FVec F S128x50x50 .f32 := fn_where (F := F) main_v66 main_cst_13 main_cst_14
  let main_v68 : FVec F S128x50x50 .f32 := id main_v67
  let main_cst_15 : FVec F S_ .f32 := constant S_ .f32 0x00000000#32
  let main_v69 : FVec F S128x50 .f32 := (fun x v => Host.reduceAdd x v reducesTo_S128x50x50_S128x50_d2 h_S_) main_v68 main_cst_15
  let main_cst_16 : FVec F S_ .f32 := constant S_ .f32 0x40000000#32
  let main_v70 : FVec F S128x50 .f32 := broadcastInDim S128x50 ![] bcast_S_S128x50 main_cst_16
  let main_v71 : IVec S128x50 1 := cmpf .ole main_v69 main_v70
  let main_c_17 : IVec S_ 1 := constantI S_ 1 1#1
  let main_v72 : IVec S128 1 := (fun x v => Host.reduce IntOp.andi x v reducesTo_S128x50_S128_d1 h_S_) main_v71 main_c_17
  let main_cst_18 : FVec F S_ .f32 := constant S_ .f32 0x3F800000#32
  fn_part4 (F := F) main_v41 main_v45 main_v50 main_v69 main_v72 main_cst_18

def fn_part2 {F : FTy → Type} [FloatOps F] (main_v36 : FVec F S128x100352 .f32) (main_v37 : FVec F S128x100000 .f32) : IVec S128 1 :=
  let main_values : FVec F S128x51 .f32 := (fun x => (Host.topK S128x51 1 (FloatOps.cmpfTotal .gt) x sliceFits_S128x100000_S128x51).1) main_v37
  let main_indices : IVec S128x51 32 := (fun x => (Host.topK S128x51 1 (FloatOps.cmpfTotal .gt) x sliceFits_S128x100000_S128x51).2) main_v37
  let main_v38 : FVec F S128x1 .f32 := (extractStridedSlice S128x1 ![0, 0] · slices_S128x51_S128x1_0_0) main_values
  let main_cst_9 : FVec F S_ .f32 := constant S_ .f32 0x7F800000#32
  let main_v39 : FVec F S128x1 .f32 := broadcastInDim S128x1 ![] bcast_S_S128x1 main_cst_9
  let main_v40 : IVec S128x1 1 := cmpf .olt main_v38 main_v39
  let main_c : IVec S_ 1 := constantI S_ 1 1#1
  let main_v41 : IVec S128 1 := (fun x v => Host.reduce IntOp.andi x v reducesTo_S128x1_S128_d1 h_S_) main_v40 main_c
  let main_v42 : FVec F S128x50 .f32 := (extractStridedSlice S128x50 ![0, 0] · slices_S128x51_S128x50_0_0) main_values
  let main_v43 : FVec F S128x50 .f32 := (extractStridedSlice S128x50 ![0, 1] · slices_S128x51_S128x50_0_1) main_values
  let main_v44 : IVec S128x50 1 := cmpf .ogt main_v42 main_v43
  let main_c_10 : IVec S_ 1 := constantI S_ 1 1#1
  let main_v45 : IVec S128 1 := (fun x v => Host.reduce IntOp.andi x v reducesTo_S128x50_S128_d1 h_S_) main_v44 main_c_10
  let main_v46 : FVec F S128x352 .f32 := (extractStridedSlice S128x352 ![0, 100000] · slices_S128x100352_S128x352_0_100000) main_v36
  let main_v47 : FVec F S128x1 .f32 := (extractStridedSlice S128x1 ![0, 49] · slices_S128x51_S128x1_0_49) main_values
  let main_v48 : FVec F S128x352 .f32 := broadcastInDim S128x352 ![0, 1] bcast_S128x1_S128x352_0_1 main_v47
  let main_v49 : IVec S128x352 1 := cmpf .olt main_v46 main_v48
  let main_c_11 : IVec S_ 1 := constantI S_ 1 1#1
  let main_v50 : IVec S128 1 := (fun x v => Host.reduce IntOp.andi x v reducesTo_S128x352_S128_d1 h_S_) main_v49 main_c_11
  let main_v51 : IVec S128x50 32 := (extractStridedSlice S128x50 ![0, 0] · slices_S128x51_S128x50_0_0) main_indices
  let main_c_12 : IVec S_ 32 := constantI S_ 32 6272#32
  let main_v52 : IVec S128x50 32 := broadcastInDim S128x50 ![] bcast_S_S128x50 main_c_12
  let main_v53 : IVec S128x50 32 := Host.remsi main_v51 main_v52
  let main_v54 : IVec S50 32 := iotaInDim S50 32 0
  fn_part3 (F := F) main_v41 main_v45 main_v50 main_v53 main_v54

def fn_part1 {F : FTy → Type} [FloatOps F] (main_arg3 : FVec F S100000x3 .f32) (main_v9 : FVec F S100000x128 .f32) (main_v18 : FVec F S100000x128 .f32) (main_v19 : FVec F S3x128 .f32) : IVec S128 1 :=
  let main_v20 : FVec F S100000x128 .f32 := (fun l r => Host.dotGeneral dot_S100000x3_S3x128_S100000x128_1_0_0_1_n_n none l r) main_arg3 main_v19
  let main_cst_3 : FVec F S_ .f32 := constant S_ .f32 0x40000000#32
  let main_v21 : FVec F S100000x128 .f32 := broadcastInDim S100000x128 ![] bcast_S_S100000x128 main_cst_3
  let main_v22 : FVec F S100000x128 .f32 := mulf main_v21 main_v20
  let main_v23 : FVec F S100000x128 .f32 := subf main_v18 main_v22
  let main_v24 : FVec F S100000x128 .f32 := Host.negf main_v23
  let main_cst_4 : FVec F S_ .f32 := constant S_ .f32 0x3E7AE148#32
  let main_v25 : FVec F S100000x128 .f32 := broadcastInDim S100000x128 ![] bcast_S_S100000x128 main_cst_4
  let main_v26 : FVec F S100000x128 .f32 := Host.divf main_v24 main_v25
  let main_v27 : FVec F S100000x128 .f32 := Host.exp main_v26
  let main_cst_5 : FVec F S_ .f32 := constant S_ .f32 0x3F000000#32
  let main_v28 : FVec F S100000x128 .f32 := broadcastInDim S100000x128 ![] bcast_S_S100000x128 main_cst_5
  let main_v29 : FVec F S100000x128 .f32 := mulf main_v28 main_v9
  let main_cst_6 : FVec F S_ .f32 := constant S_ .f32 0x3F000000#32
  let main_v30 : FVec F S100000x128 .f32 := broadcastInDim S100000x128 ![] bcast_S_S100000x128 main_cst_6
  let main_v31 : FVec F S100000x128 .f32 := mulf main_v30 main_v27
  let main_v32 : FVec F S100000x128 .f32 := addf main_v29 main_v31
  let main_v33 : FVec F S128x100000 .f32 := (transpose S128x100000 [1, 0] · transposes_S100000x128_S128x100000_1_0) main_v32
  let main_cst_7 : FVec F S_ .f32 := constant S_ .f32 0x3D8F5C29#32
  let main_v34 : FVec F S128x100000 .f32 := broadcastInDim S128x100000 ![] bcast_S_S128x100000 main_cst_7
  let main_v35 : FVec F S128x100000 .f32 := Host.divf main_v33 main_v34
  let main_cst_8 : FVec F S_ .f32 := constant S_ .f32 0xFF800000#32
  let main_v36 : FVec F S128x100352 .f32 := fn_pad (F := F) main_v35 main_cst_8
  let main_v37 : FVec F S128x100000 .f32 := (extractStridedSlice S128x100000 ![0, 0] · slices_S128x100352_S128x100000_0_0) main_v36
  fn_part2 (F := F) main_v36 main_v37

def fn {F : FTy → Type} [FloatOps F] (main_arg0 : FVec F S128x1152 .f32) (main_arg1 : FVec F S128x3 .f32) (main_arg2 : FVec F S100000x1152 .f32) (main_arg3 : FVec F S100000x3 .f32) : IVec S128 1 :=
  let main_v0 : FVec F S128x1 .f32 := fn_norm (F := F) main_arg0
  let main_cst : FVec F S_ .f32 := constant S_ .f32 0x2B8CBCCC#32
  let main_v1 : FVec F S128x1 .f32 := fn_clip (F := F) main_v0 main_cst
  let main_v2 : FVec F S128x1152 .f32 := broadcastInDim S128x1152 ![0, 1] bcast_S128x1_S128x1152_0_1 main_v1
  let main_v3 : FVec F S128x1152 .f32 := Host.divf main_arg0 main_v2
  let main_v4 : FVec F S100000x1 .f32 := fn_norm_0 (F := F) main_arg2
  let main_cst_0 : FVec F S_ .f32 := constant S_ .f32 0x2B8CBCCC#32
  let main_v5 : FVec F S100000x1 .f32 := fn_clip_1 (F := F) main_v4 main_cst_0
  let main_v6 : FVec F S100000x1152 .f32 := broadcastInDim S100000x1152 ![0, 1] bcast_S100000x1_S100000x1152_0_1 main_v5
  let main_v7 : FVec F S100000x1152 .f32 := Host.divf main_arg2 main_v6
  let main_v8 : FVec F S1152x128 .f32 := (transpose S1152x128 [1, 0] · transposes_S128x1152_S1152x128_1_0) main_v3
  let main_v9 : FVec F S100000x128 .f32 := (fun l r => Host.dotGeneral dot_S100000x1152_S1152x128_S100000x128_1_0_0_1_n_n none l r) main_v7 main_v8
  let main_v10 : FVec F S100000x3 .f32 := mulf main_arg3 main_arg3
  let main_cst_1 : FVec F S_ .f32 := constant S_ .f32 0x00000000#32
  let main_v11 : FVec F S100000 .f32 := (fun x v => Host.reduceAdd x v reducesTo_S100000x3_S100000_d1 h_S_) main_v10 main_cst_1
  let main_v12 : FVec F S128x3 .f32 := mulf main_arg1 main_arg1
  let main_cst_2 : FVec F S_ .f32 := constant S_ .f32 0x00000000#32
  let main_v13 : FVec F S128 .f32 := (fun x v => Host.reduceAdd x v reducesTo_S128x3_S128_d1 h_S_) main_v12 main_cst_2
  let main_v14 : FVec F S100000x1 .f32 := broadcastInDim S100000x1 ![0] bcast_S100000_S100000x1_0 main_v11
  let main_v15 : FVec F S1x128 .f32 := broadcastInDim S1x128 ![1] bcast_S128_S1x128_1 main_v13
  let main_v16 : FVec F S100000x128 .f32 := broadcastInDim S100000x128 ![0, 1] bcast_S100000x1_S100000x128_0_1 main_v14
  let main_v17 : FVec F S100000x128 .f32 := broadcastInDim S100000x128 ![0, 1] bcast_S1x128_S100000x128_0_1 main_v15
  let main_v18 : FVec F S100000x128 .f32 := addf main_v16 main_v17
  let main_v19 : FVec F S3x128 .f32 := (transpose S3x128 [1, 0] · transposes_S128x3_S3x128_1_0) main_arg1
  fn_part1 (F := F) main_arg3 main_v9 main_v18 main_v19
-- ==== Kernel.lean ====
abbrev S128x1152 : Shape := ⟨2, ![128, 1152]⟩
abbrev S128x3 : Shape := ⟨2, ![128, 3]⟩
abbrev S100000x1152 : Shape := ⟨2, ![100000, 1152]⟩
abbrev S100000x3 : Shape := ⟨2, ![100000, 3]⟩
abbrev S128x100352 : Shape := ⟨2, ![128, 100352]⟩
abbrev S2048x1152 : Shape := ⟨2, ![2048, 1152]⟩
abbrev S2048x3 : Shape := ⟨2, ![2048, 3]⟩
abbrev S128x2048 : Shape := ⟨2, ![128, 2048]⟩
abbrev S2048 : Shape := ⟨1, ![2048]⟩
abbrev S2048x1 : Shape := ⟨2, ![2048, 1]⟩
abbrev S128 : Shape := ⟨1, ![128]⟩
abbrev S128x1 : Shape := ⟨2, ![128, 1]⟩

abbrev nBuf : Space → Nat
  | .hbm => 5
  | .vmem => 8
  | .smem => 0
  | _ => 0

abbrev bufTy : (tb : Table) → Fin (tcTables nBuf tb) → BufTy
  | .hbm, ⟨0, _⟩ => ⟨S128x1152, .f32⟩
  | .hbm, ⟨1, _⟩ => ⟨S128x3, .f32⟩
  | .hbm, ⟨2, _⟩ => ⟨S100000x1152, .f32⟩
  | .hbm, ⟨3, _⟩ => ⟨S100000x3, .f32⟩
  | .hbm, ⟨4, _⟩ => ⟨S128x100352, .f32⟩
  | .local _ .vmem, ⟨0, _⟩ => ⟨S128x1152, .f32⟩
  | .local _ .vmem, ⟨1, _⟩ => ⟨S128x3, .f32⟩
  | .local _ .vmem, ⟨2, _⟩ => ⟨S2048x1152, .f32⟩
  | .local _ .vmem, ⟨3, _⟩ => ⟨S2048x1152, .f32⟩
  | .local _ .vmem, ⟨4, _⟩ => ⟨S2048x3, .f32⟩
  | .local _ .vmem, ⟨5, _⟩ => ⟨S2048x3, .f32⟩
  | .local _ .vmem, ⟨6, _⟩ => ⟨S128x2048, .f32⟩
  | .local _ .vmem, ⟨7, _⟩ => ⟨S128x2048, .f32⟩
  | _, _ => ⟨S128x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1152 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "eps2" => some ((5316911940649 / 5316911983139663491615228241121378304 : ℝ) : EReal)
  | "inv_temp" => some ((134217728 / 9395241 : ℝ) : EReal)
  | "mask" => some ⊥
  | "neg_inv_two_var" => some ((-8388608 / 2055209 : ℝ) : EReal)
  | _ => none
-- ==== ReferenceIdeal.lean ====
abbrev S128x1152 : Shape := ⟨2, ![128, 1152]⟩
abbrev S128x3 : Shape := ⟨2, ![128, 3]⟩
abbrev S100000x1152 : Shape := ⟨2, ![100000, 1152]⟩
abbrev S100000x3 : Shape := ⟨2, ![100000, 3]⟩
abbrev S_ : Shape := ⟨0, ![]⟩
abbrev S100000 : Shape := ⟨1, ![100000]⟩
abbrev S100000x1 : Shape := ⟨2, ![100000, 1]⟩
abbrev S1152x128 : Shape := ⟨2, ![1152, 128]⟩
abbrev S100000x128 : Shape := ⟨2, ![100000, 128]⟩
abbrev S128 : Shape := ⟨1, ![128]⟩
abbrev S1x128 : Shape := ⟨2, ![1, 128]⟩
abbrev S3x128 : Shape := ⟨2, ![3, 128]⟩
abbrev S128x100000 : Shape := ⟨2, ![128, 100000]⟩
abbrev S128x100352 : Shape := ⟨2, ![128, 100352]⟩

abbrev nBuf : Space → Nat
  | .hbm => 53
  | .vmem => 0
  | .smem => 0
  | _ => 0

abbrev bufTy : (tb : Table) → Fin (tcTables nBuf tb) → BufTy
  | .hbm, ⟨0, _⟩ => ⟨S128x1152, .f32⟩
  | .hbm, ⟨1, _⟩ => ⟨S128x3, .f32⟩
  | .hbm, ⟨2, _⟩ => ⟨S100000x1152, .f32⟩
  | .hbm, ⟨3, _⟩ => ⟨S100000x3, .f32⟩
  | .hbm, ⟨4, _⟩ => ⟨S100000x1152, .f32⟩
  | .hbm, ⟨5, _⟩ => ⟨S_, .f32⟩
  | .hbm, ⟨6, _⟩ => ⟨S100000, .f32⟩
  | .hbm, ⟨7, _⟩ => ⟨S100000x1, .f32⟩
  | .hbm, ⟨8, _⟩ => ⟨S100000x1, .f32⟩
  | .hbm, ⟨9, _⟩ => ⟨S_, .f32⟩
  | .hbm, ⟨10, _⟩ => ⟨S_, .f32⟩
  | .hbm, ⟨11, _⟩ => ⟨S100000x1, .f32⟩
  | .hbm, ⟨12, _⟩ => ⟨S100000x1, .f32⟩
  | .hbm, ⟨13, _⟩ => ⟨S100000x1152, .f32⟩
  | .hbm, ⟨14, _⟩ => ⟨S100000x1152, .f32⟩
  | .hbm, ⟨15, _⟩ => ⟨S1152x128, .f32⟩
  | .hbm, ⟨16, _⟩ => ⟨S100000x128, .f32⟩
  | .hbm, ⟨17, _⟩ => ⟨S100000x3, .f32⟩
  | .hbm, ⟨18, _⟩ => ⟨S_, .f32⟩
  | .hbm, ⟨19, _⟩ => ⟨S100000, .f32⟩
  | .hbm, ⟨20, _⟩ => ⟨S128x3, .f32⟩
  | .hbm, ⟨21, _⟩ => ⟨S_, .f32⟩
  | .hbm, ⟨22, _⟩ => ⟨S128, .f32⟩
  | .hbm, ⟨23, _⟩ => ⟨S100000x1, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S3x128, .f32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S128x100000, .f32⟩
  | .hbm, ⟨47, _⟩ => ⟨S_, .f32⟩
  | .hbm, ⟨48, _⟩ => ⟨S128x100000, .f32⟩
  | .hbm, ⟨49, _⟩ => ⟨S128x100000, .f32⟩
  | .hbm, ⟨50, _⟩ => ⟨S_, .f32⟩
  | .hbm, ⟨51, _⟩ => ⟨S_, .f32⟩
  | .hbm, ⟨52, _⟩ => ⟨S128x100352, .f32⟩
  | _, _ => ⟨S128x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_call1_v0 : Ref sig .tc := ⟨.hbm, 10, rfl⟩
abbrev main_call1_v1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_call2_v0 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel2.lean ====
abbrev S128x100352 : Shape := ⟨2, ![128, 100352]⟩
abbrev S128x100000 : Shape := ⟨2, ![128, 100000]⟩
abbrev S8x100352 : Shape := ⟨2, ![8, 100352]⟩
abbrev S8x64 : Shape := ⟨2, ![8, 64]⟩
abbrev S8x50176 : Shape := ⟨2, ![8, 50176]⟩
abbrev S8x25088 : Shape := ⟨2, ![8, 25088]⟩
abbrev S8x12544 : Shape := ⟨2, ![8, 12544]⟩
abbrev S8x6272 : Shape := ⟨2, ![8, 6272]⟩
abbrev S8x1 : Shape := ⟨2, ![8, 1]⟩
abbrev S8 : Shape := ⟨1, ![8]⟩
abbrev S8x63 : Shape := ⟨2, ![8, 63]⟩
abbrev S64x64 : Shape := ⟨2, ![64, 64]⟩

abbrev nBuf : Space → Nat
  | .hbm => 2
  | .vmem => 4
  | .smem => 0
  | _ => 0

abbrev bufTy : (tb : Table) → Fin (tcTables nBuf tb) → BufTy
  | .hbm, ⟨0, _⟩ => ⟨S128x100352, .f32⟩
  | .hbm, ⟨1, _⟩ => ⟨S128x100000, .f32⟩
  | .local _ .vmem, ⟨0, _⟩ => ⟨S8x100352, .f32⟩
  | .local _ .vmem, ⟨1, _⟩ => ⟨S8x100352, .f32⟩
  | .local _ .vmem, ⟨2, _⟩ => ⟨S8x100352, .f32⟩
  | .local _ .vmem, ⟨3, _⟩ => ⟨S8x100352, .f32⟩
  | _, _ => ⟨S128x100352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c50_i32 : BitVec 32 := 50#32
  let v16 : BitVec 32 := Scalar.addi c0_i32 c50_i32
  let c1_i32 : BitVec 32 := 1#32
  ⟨c0_i32, v16, c1_i32⟩
@[reducible] def k0_t2_loop : Scf.Loop 32 :=
  let c0_i32_37 : BitVec 32 := 0#32
  let c8_i32 : BitVec 32 := 8#32
  let v181 : BitVec 32 := Scalar.addi c0_i32_37 c8_i32
  let c1_i32_38 : BitVec 32 := 1#32
  ⟨c0_i32_37, v181, c1_i32_38⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Kernel2Ideal.lean ====
variable {F : FTy → Type} [FloatOps F] [Named F]
def κ : String → Option EReal := fun
  | "mask" => some ⊥
  | _ => none
-- ==== Reference2Ideal.lean ====
abbrev S128x100352 : Shape := ⟨2, ![128, 100352]⟩
abbrev S128x100000 : Shape := ⟨2, ![128, 100000]⟩
abbrev S128 : Shape := ⟨1, ![128]⟩
abbrev S128x1 : Shape := ⟨2, ![128, 1]⟩
abbrev S128x50 : Shape := ⟨2, ![128, 50]⟩
abbrev S_ : Shape := ⟨0, ![]⟩
abbrev S128x50x1 : Shape := ⟨3, ![128, 50, 1]⟩
abbrev S128x50x2 : Shape := ⟨3, ![128, 50, 2]⟩
abbrev S128x100000x1 : Shape := ⟨3, ![128, 100000, 1]⟩
abbrev S128x100000x2 : Shape := ⟨3, ![128, 100000, 2]⟩
abbrev S128x99999 : Shape := ⟨2, ![128, 99999]⟩

abbrev nBuf : Space → Nat
  | .hbm => 109
  | .vmem => 0
  | .smem => 0
  | _ => 0

abbrev bufTy : (tb : Table) → Fin (tcTables nBuf tb) → BufTy
  | .hbm, ⟨0, _⟩ => ⟨S128x100352, .f32⟩
  | .hbm, ⟨1, _⟩ => ⟨S128x100000, .f32⟩
  | .hbm, ⟨2, _⟩ => ⟨S128, .i32⟩
  | .hbm, ⟨3, _⟩ => ⟨S128x1, .i32⟩
  | .hbm, ⟨4, _⟩ => ⟨S128x50, .f32⟩
  | .hbm, ⟨5, _⟩ => ⟨S128x50, .i32⟩
  | .hbm, ⟨6, _⟩ => ⟨S_, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128x1, .f32⟩
  | .hbm, ⟨12, _⟩ => ⟨S128x50, .f32⟩
  | .hbm, ⟨13, _⟩ => ⟨S128x50, .f32⟩
  | .hbm, ⟨14, _⟩ => ⟨S128x50, .f32⟩
  | .hbm, ⟨15, _⟩ => ⟨S_, .f32⟩
  | .hbm, ⟨16, _⟩ => ⟨S128, .f32⟩
  | .hbm, ⟨17, _⟩ => ⟨S128x1, .f32⟩
  | .hbm, ⟨18, _⟩ => ⟨S128x50, .f32⟩
  | .hbm, ⟨19, _⟩ => ⟨S128x50, .f32⟩
  | .hbm, ⟨20, _⟩ => ⟨S_, .f32⟩
  | .hbm, ⟨21, _⟩ => ⟨S128x100000, .f32⟩
  | .hbm, ⟨22, _⟩ => ⟨S_, .i32⟩
  | .hbm, ⟨23, _⟩ => ⟨S128x1, .i32⟩
  | .hbm, ⟨24, _⟩ => ⟨S128x1, .i1⟩
  | .hbm, ⟨25, _⟩ => ⟨S_, .i32⟩
  | .hbm, ⟨26, _⟩ => ⟨S128x1, .i32⟩
  | .hbm, ⟨27, _⟩ => ⟨S128x1, .i32⟩
  | .hbm, ⟨28, _⟩ => ⟨S128x1, .i32⟩
  | .hbm, ⟨29, _⟩ => ⟨S_, .i32⟩
  | .hbm, ⟨30, _⟩ => ⟨S128x50, .i32⟩
  | .hbm, ⟨31, _⟩ => ⟨S128x50, .i1⟩
  | .hbm, ⟨32, _⟩ => ⟨S_, .i32⟩
  | .hbm, ⟨33, _⟩ => ⟨S128x50, .i32⟩
  | .hbm, ⟨34, _⟩ => ⟨S128x50, .i32⟩
  | .hbm, ⟨35, _⟩ => ⟨S128x50, .i32⟩
  | .hbm, ⟨36, _⟩ => ⟨S128x50, .i32⟩
  | .hbm, ⟨37, _⟩ => ⟨S128x50x1, .i32⟩
  | .hbm, ⟨38, _⟩ => ⟨S128x50x1, .i32⟩
  | .hbm, ⟨39, _⟩ => ⟨S128x50x2, .i32⟩
  | .hbm, ⟨40, _⟩ => ⟨S128x100000, .f32⟩
  | .hbm, ⟨41, _⟩ => ⟨S_, .f32⟩
  | .hbm, ⟨42, _⟩ => ⟨S128, .f32⟩
  | .hbm, ⟨43, _⟩ => ⟨S128x1, .f32⟩
  | .hbm, ⟨44, _⟩ => ⟨S128x100000, .f32⟩
  | .hbm, ⟨45, _⟩ => ⟨S128x100000, .f32⟩
  | .hbm, ⟨46, _⟩ => ⟨S128x100000, .f32⟩
  | .hbm, ⟨47, _⟩ => ⟨S128x100000, .i32⟩
  | .hbm, ⟨48, _⟩ => ⟨S128x100000, .f32⟩
  | .hbm, ⟨49, _⟩ => ⟨S128x100000, .i32⟩
  | .hbm, ⟨50, _⟩ => ⟨S_, .i32⟩
  | .hbm, ⟨51, _⟩ => ⟨S128x1, .i32⟩
  | .hbm, ⟨52, _⟩ => ⟨S128x1, .i1⟩
  | .hbm, ⟨53, _⟩ => ⟨S_, .i32⟩
  | .hbm, ⟨54, _⟩ => ⟨S128x1, .i32⟩
  | .hbm, ⟨55, _⟩ => ⟨S128x1, .i32⟩
  | .hbm, ⟨56, _⟩ => ⟨S128x1, .i32⟩
  | .hbm, ⟨57, _⟩ => ⟨S_, .i32⟩
  | .hbm, ⟨58, _⟩ => ⟨S128x100000, .i32⟩
  | .hbm, ⟨59, _⟩ => ⟨S128x100000, .i1⟩
  | .hbm, ⟨60, _⟩ => ⟨S_, .i32⟩
  | .hbm, ⟨61, _⟩ => ⟨S128x100000, .i32⟩
  | .hbm, ⟨62, _⟩ => ⟨S128x100000, .i32⟩
  | .hbm, ⟨63, _⟩ => ⟨S128x100000, .i32⟩
  | .hbm, ⟨64, _⟩ => ⟨S128x100000, .i32⟩
  | .hbm, ⟨65, _⟩ => ⟨S128x100000x1, .i32⟩
  | .hbm, ⟨66, _⟩ => ⟨S128x100000x1, .i32⟩
  | .hbm, ⟨67, _⟩ => ⟨S128x100000x2, .i32⟩
  | .hbm, ⟨68, _⟩ => ⟨S128x100000, .f32⟩
  | .hbm, ⟨69, _⟩ => ⟨S_, .f32⟩
  | .hbm, ⟨70, _⟩ => ⟨S_, .f32⟩
  | .hbm, ⟨71, _⟩ => ⟨S128x100000, .f32⟩
  | .hbm, ⟨72, _⟩ => ⟨S_, .f32⟩
  | .hbm, ⟨73, _⟩ => ⟨S128x100000, .f32⟩
  | .hbm, ⟨74, _⟩ => ⟨S128x100000, .i1⟩
  | .hbm, ⟨75, _⟩ => ⟨S_, .i1⟩
  | .hbm, ⟨76, _⟩ => ⟨S128x1, .i1⟩
  | .hbm, ⟨77, _⟩ => ⟨S128x99999, .i1⟩
  | .hbm, ⟨78, _⟩ => ⟨S128x100000, .i1⟩
  | .hbm, ⟨79, _⟩ => ⟨S_, .f32⟩
  | .hbm, ⟨80, _⟩ => ⟨S_, .f32⟩
  | .hbm, ⟨81, _⟩ => ⟨S128x100000, .f32⟩
  | .hbm, ⟨82, _⟩ => ⟨S128x100000, .f32⟩
  | .hbm, ⟨83, _⟩ => ⟨S_, .f32⟩
  | .hbm, ⟨84, _⟩ => ⟨S128x100000, .f32⟩
  | .hbm, ⟨85, _⟩ => ⟨S_, .i32⟩
  | .hbm, ⟨86, _⟩ => ⟨S128x1, .i32⟩
  | .hbm, ⟨87, _⟩ => ⟨S128x1, .i1⟩
  | .hbm, ⟨88, _⟩ => ⟨S_, .i32⟩
  | .hbm, ⟨89, _⟩ => ⟨S128x1, .i32⟩
  | .hbm, ⟨90, _⟩ => ⟨S128x1, .i32⟩
  | .hbm, ⟨91, _⟩ => ⟨S128x1, .i32⟩
  | .hbm, ⟨92, _⟩ => ⟨S_, .i32⟩
  | .hbm, ⟨93, _⟩ => ⟨S128x100000, .i32⟩
  | .hbm, ⟨94, _⟩ => ⟨S128x100000, .i1⟩
  | .hbm, ⟨95, _⟩ => ⟨S_, .i32⟩
  | .hbm, ⟨96, _⟩ => ⟨S128x100000, .i32⟩
  | .hbm, ⟨97, _⟩ => ⟨S128x100000, .i32⟩
  | .hbm, ⟨98, _⟩ => ⟨S128x100000, .i32⟩
  | .hbm, ⟨99, _⟩ => ⟨S128x100000, .i32⟩
  | .hbm, ⟨100, _⟩ => ⟨S128x100000x1, .i32⟩
  | .hbm, ⟨101, _⟩ => ⟨S128x100000x1, .i32⟩
  | .hbm, ⟨102, _⟩ => ⟨S128x100000x2, .i32⟩
  | .hbm, ⟨103, _⟩ => ⟨S128x100000, .f32⟩
  | .hbm, ⟨104, _⟩ => ⟨S_, .f32⟩
  | .hbm, ⟨105, _⟩ => ⟨S128, .f32⟩
  | .hbm, ⟨106, _⟩ => ⟨S128x1, .f32⟩
  | .hbm, ⟨107, _⟩ => ⟨S128x100000, .f32⟩
  | .hbm, ⟨108, _⟩ => ⟨S128x100000, .f32⟩
  | _, _ => ⟨S128x100352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_values : Ref sig .tc := ⟨.hbm, 4, rfl⟩
abbrev main_indices : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_v1_0 : Ref sig .tc := ⟨.hbm, 48, rfl⟩
abbrev main_v35 : Ref sig .tc := ⟨.hbm, 49, rfl⟩
abbrev main_c_7 : Ref sig .tc := ⟨.hbm, 50, rfl⟩
abbrev main_v36 : Ref sig .tc := ⟨.hbm, 51, rfl⟩
abbrev main_v37 : Ref sig .tc := ⟨.hbm, 52, rfl⟩
abbrev main_c_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_c_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call1_call0_cst : Ref sig .tc := ⟨.hbm, 69, rfl⟩
abbrev main_call1_call0_v0 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_c_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_call2_v0 : Ref sig .tc := ⟨.hbm, 80, rfl⟩
abbrev main_call2_v1 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_c_15 : Ref sig .tc := ⟨.hbm, 85, rfl⟩
abbrev main_v59 : Ref sig .tc := ⟨.hbm, 86, rfl⟩
abbrev main_v60 : Ref sig .tc := ⟨.hbm, 87, rfl⟩
abbrev main_c_16 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_17 : Ref sig .tc := ⟨.hbm, 92, rfl⟩
abbrev main_v64 : Ref sig .tc := ⟨.hbm, 93, rfl⟩
abbrev main_v65 : Ref sig .tc := ⟨.hbm, 94, rfl⟩
abbrev main_c_18 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_19 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]
-- ==== Kernel3.lean ====
abbrev S128x1152 : Shape := ⟨2, ![128, 1152]⟩
abbrev S128x3 : Shape := ⟨2, ![128, 3]⟩
abbrev S100000x1152 : Shape := ⟨2, ![100000, 1152]⟩
abbrev S100000x3 : Shape := ⟨2, ![100000, 3]⟩
abbrev S128 : Shape := ⟨1, ![128]⟩
abbrev S128x1 : Shape := ⟨2, ![128, 1]⟩
abbrev S128x100352 : Shape := ⟨2, ![128, 100352]⟩
abbrev S2048x1152 : Shape := ⟨2, ![2048, 1152]⟩
abbrev S2048x3 : Shape := ⟨2, ![2048, 3]⟩
abbrev S128x2048 : Shape := ⟨2, ![128, 2048]⟩
abbrev S2048 : Shape := ⟨1, ![2048]⟩
abbrev S2048x1 : Shape := ⟨2, ![2048, 1]⟩
abbrev S128x100000 : Shape := ⟨2, ![128, 100000]⟩
abbrev S8x100352 : Shape := ⟨2, ![8, 100352]⟩
abbrev S8x64 : Shape := ⟨2, ![8, 64]⟩
abbrev S8x50176 : Shape := ⟨2, ![8, 50176]⟩
abbrev S8x25088 : Shape := ⟨2, ![8, 25088]⟩
abbrev S8x12544 : Shape := ⟨2, ![8, 12544]⟩
abbrev S8x6272 : Shape := ⟨2, ![8, 6272]⟩
abbrev S8x1 : Shape := ⟨2, ![8, 1]⟩
abbrev S8 : Shape := ⟨1, ![8]⟩
abbrev S8x63 : Shape := ⟨2, ![8, 63]⟩
abbrev S64x64 : Shape := ⟨2, ![64, 64]⟩

abbrev nBuf : Space → Nat
  | .hbm => 7
  | .vmem => 14
  | .smem => 0
  | _ => 0

abbrev bufTy : (tb : Table) → Fin (tcTables nBuf tb) → BufTy
  | .hbm, ⟨0, _⟩ => ⟨S128x1152, .f32⟩
  | .hbm, ⟨1, _⟩ => ⟨S128x3, .f32⟩
  | .hbm, ⟨2, _⟩ => ⟨S100000x1152, .f32⟩
  | .hbm, ⟨3, _⟩ => ⟨S100000x3, .f32⟩
  | .hbm, ⟨4, _⟩ => ⟨S128x1152, .f32⟩
  | .hbm, ⟨5, _⟩ => ⟨S128x100352, .f32⟩
  | .hbm, ⟨6, _⟩ => ⟨S128x100000, .f32⟩
  | .local _ .vmem, ⟨0, _⟩ => ⟨S128x1152, .f32⟩
  | .local _ .vmem, ⟨1, _⟩ => ⟨S128x1152, .f32⟩
  | .local _ .vmem, ⟨2, _⟩ => ⟨S128x1152, .f32⟩
  | .local _ .vmem, ⟨3, _⟩ => ⟨S128x3, .f32⟩
  | .local _ .vmem, ⟨4, _⟩ => ⟨S2048x1152, .f32⟩
  | .local _ .vmem, ⟨5, _⟩ => ⟨S2048x1152, .f32⟩
  | .local _ .vmem, ⟨6, _⟩ => ⟨S2048x3, .f32⟩
  | .local _ .vmem, ⟨7, _⟩ => ⟨S2048x3, .f32⟩
  | .local _ .vmem, ⟨8, _⟩ => ⟨S128x2048, .f32⟩
  | .local _ .vmem, ⟨9, _⟩ => ⟨S128x2048, .f32⟩
  | .local _ .vmem, ⟨10, _⟩ => ⟨S8x100352, .f32⟩
  | .local _ .vmem, ⟨11, _⟩ => ⟨S8x100352, .f32⟩
  | .local _ .vmem, ⟨12, _⟩ => ⟨S8x100352, .f32⟩
  | .local _ .vmem, ⟨13, _⟩ => ⟨S8x100352, .f32⟩
  | _, _ => ⟨S128x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev cc1_sem2_1 : DmaSem sig := 5
abbrev cc1_sem3_0 : DmaSem sig := 6
abbrev cc1_sem3_1 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := .none

abbrev stage0_0 : Fin 1 → Memref sig .tc .vmem S128x1152 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x1152 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x1152 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

@[reducible] def k2_t1_loop : Scf.Loop 32 :=
  let c0_i32 : BitVec 32 := 0#32
  let c50_i32 : BitVec 32 := 50#32
  let v17 : BitVec 32 := Scalar.addi c0_i32 c50_i32
  let c1_i32 : BitVec 32 := 1#32
  ⟨c0_i32, v17, c1_i32⟩
@[reducible] def k2_t2_loop : Scf.Loop 32 :=
  let c0_i32_37 : BitVec 32 := 0#32
  let c8_i32 : BitVec 32 := 8#32
  let v182 : BitVec 32 := Scalar.addi c0_i32_37 c8_i32
  let c1_i32_38 : BitVec 32 := 1#32
  ⟨c0_i32_37, v182, c1_i32_38⟩
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x100352 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x100352 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]
-- ==== Kernel3Ideal.lean ====
variable {F : FTy → Type} [FloatOps F] [Named F]
def κ : String → Option EReal := fun
  | "eps2" => some ((5316911940649 / 5316911983139663491615228241121378304 : ℝ) : EReal)
  | "inv_temp" => some ((134217728 / 9395241 : ℝ) : EReal)
  | "mask" => some ⊥
  | "neg_inv_two_var" => some ((-8388608 / 2055209 : ℝ) : EReal)
  | _ => none
-- ==== Reference3Ideal.lean ====
abbrev S128x1152 : Shape := ⟨2, ![128, 1152]⟩
abbrev S128x3 : Shape := ⟨2, ![128, 3]⟩
abbrev S100000x1152 : Shape := ⟨2, ![100000, 1152]⟩
abbrev S100000x3 : Shape := ⟨2, ![100000, 3]⟩
abbrev S_ : Shape := ⟨0, ![]⟩
abbrev S128 : Shape := ⟨1, ![128]⟩
abbrev S128x1 : Shape := ⟨2, ![128, 1]⟩
abbrev S100000 : Shape := ⟨1, ![100000]⟩
abbrev S100000x1 : Shape := ⟨2, ![100000, 1]⟩
abbrev S1152x128 : Shape := ⟨2, ![1152, 128]⟩
abbrev S100000x128 : Shape := ⟨2, ![100000, 128]⟩
abbrev S1x128 : Shape := ⟨2, ![1, 128]⟩
abbrev S3x128 : Shape := ⟨2, ![3, 128]⟩
abbrev S128x100000 : Shape := ⟨2, ![128, 100000]⟩
abbrev S128x50 : Shape := ⟨2, ![128, 50]⟩
abbrev S128x50x1 : Shape := ⟨3, ![128, 50, 1]⟩
abbrev S128x50x2 : Shape := ⟨3, ![128, 50, 2]⟩
abbrev S128x100000x1 : Shape := ⟨3, ![128, 100000, 1]⟩
abbrev S128x100000x2 : Shape := ⟨3, ![128, 100000, 2]⟩
abbrev S128x99999 : Shape := ⟨2, ![128, 99999]⟩

abbrev nBuf : Space → Nat
  | .hbm => 168
  | .vmem => 0
  | .smem => 0
  | _ => 0

abbrev hbmTy0_0 (i : Nat) : BufTy := match i % 128 with
  | 0 => ⟨S128x1152, .f32⟩
  | 1 => ⟨S128x3, .f32⟩
  | 2 => ⟨S100000x1152, .f32⟩
  | 3 => ⟨S100000x3, .f32⟩
  | 4 => ⟨S128x1152, .f32⟩
  | 5 => ⟨S_, .f32⟩
  | 6 => ⟨S128, .f32⟩
  | 7 => ⟨S128x1, .f32⟩
  | 8 => ⟨S128x1, .f32⟩
  | 9 => ⟨S_, .f32⟩
  | 10 => ⟨S_, .f32⟩
  | 11 => ⟨S128x1, .f32⟩
  | 12 => ⟨S128x1, .f32⟩
  | 13 => ⟨S128x1152, .f32⟩
  | 14 => ⟨S128x1152, .f32⟩
  | 15 => ⟨S100000x1152, .f32⟩
  | 16 => ⟨S_, .f32⟩
  | 17 => ⟨S100000, .f32⟩
  | 18 => ⟨S100000x1, .f32⟩
  | 19 => ⟨S100000x1, .f32⟩
  | 20 => ⟨S_, .f32⟩
  | 21 => ⟨S_, .f32⟩
  | 22 => ⟨S100000x1, .f32⟩
  | 23 => ⟨S100000x1, .f32⟩
  | 24 => ⟨S100000x1152, .f32⟩
  | 25 => ⟨S100000x1152, .f32⟩
  | 26 => ⟨S1152x128, .f32⟩
  | 27 => ⟨S100000x128, .f32⟩
  | 28 => ⟨S100000x3, .f32⟩
  | 29 => ⟨S_, .f32⟩
  | 30 => ⟨S100000, .f32⟩
  | 31 => ⟨S128x3, .f32⟩
  | 32 => ⟨S_, .f32⟩
  | 33 => ⟨S128, .f32⟩
  | 34 => ⟨S100000x1, .f32⟩
  | 35 => ⟨S1x128, .f32⟩
  | 36 => ⟨S100000x128, .f32⟩
  | 37 => ⟨S100000x128, .f32⟩
  | 38 => ⟨S100000x128, .f32⟩
  | 39 => ⟨S3x128, .f32⟩
  | 40 => ⟨S100000x128, .f32⟩
  | 41 => ⟨S_, .f32⟩
  | 42 => ⟨S100000x128, .f32⟩
  | 43 => ⟨S100000x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S100000x128, .f32⟩
  | 57 => ⟨S128x100000, .f32⟩
  | 58 => ⟨S_, .f32⟩
  | 59 => ⟨S128x100000, .f32⟩
  | 60 => ⟨S128x100000, .f32⟩
  | 61 => ⟨S128, .i32⟩
  | 62 => ⟨S128x1, .i32⟩
  | 63 => ⟨S128x50, .f32⟩
  | 64 => ⟨S128x50, .i32⟩
  | 65 => ⟨S_, .f32⟩
  | 66 => ⟨S128, .f32⟩
  | 67 => ⟨S_, .f32⟩
  | 68 => ⟨S128, .f32⟩
  | 69 => ⟨S128, .f32⟩
  | 70 => ⟨S128x1, .f32⟩
  | 71 => ⟨S128x50, .f32⟩
  | 72 => ⟨S128x50, .f32⟩
  | 73 => ⟨S128x50, .f32⟩
  | 74 => ⟨S_, .f32⟩
  | 75 => ⟨S128, .f32⟩
  | 76 => ⟨S128x1, .f32⟩
  | 77 => ⟨S128x50, .f32⟩
  | 78 => ⟨S128x50, .f32⟩
  | 79 => ⟨S_, .f32⟩
  | 80 => ⟨S128x100000, .f32⟩
  | 81 => ⟨S_, .i32⟩
  | 82 => ⟨S128x1, .i32⟩
  | 83 => ⟨S128x1, .i1⟩
  | 84 => ⟨S_, .i32⟩
  | 85 => ⟨S128x1, .i32⟩
  | 86 => ⟨S128x1, .i32⟩
  | 87 => ⟨S128x1, .i32⟩
  | 88 => ⟨S_, .i32⟩
  | 89 => ⟨S128x50, .i32⟩
  | 90 => ⟨S128x50, .i1⟩
  | 91 => ⟨S_, .i32⟩
  | 92 => ⟨S128x50, .i32⟩
  | 93 => ⟨S128x50, .i32⟩
  | 94 => ⟨S128x50, .i32⟩
  | 95 => ⟨S128x50, .i32⟩
  | 96 => ⟨S128x50x1, .i32⟩
  | 97 => ⟨S128x50x1, .i32⟩
  | 98 => ⟨S128x50x2, .i32⟩
  | 99 => ⟨S128x100000, .f32⟩
  | 100 => ⟨S_, .f32⟩
  | 101 => ⟨S128, .f32⟩
  | 102 => ⟨S128x1, .f32⟩
  | 103 => ⟨S128x100000, .f32⟩
  | 104 => ⟨S128x100000, .f32⟩
  | 105 => ⟨S128x100000, .f32⟩
  | 106 => ⟨S128x100000, .i32⟩
  | 107 => ⟨S128x100000, .f32⟩
  | 108 => ⟨S128x100000, .i32⟩
  | 109 => ⟨S_, .i32⟩
  | 110 => ⟨S128x1, .i32⟩
  | 111 => ⟨S128x1, .i1⟩
  | 112 => ⟨S_, .i32⟩
  | 113 => ⟨S128x1, .i32⟩
  | 114 => ⟨S128x1, .i32⟩
  | 115 => ⟨S128x1, .i32⟩
  | 116 => ⟨S_, .i32⟩
  | 117 => ⟨S128x100000, .i32⟩
  | 118 => ⟨S128x100000, .i1⟩
  | 119 => ⟨S_, .i32⟩
  | 120 => ⟨S128x100000, .i32⟩
  | 121 => ⟨S128x100000, .i32⟩
  | 122 => ⟨S128x100000, .i32⟩
  | 123 => ⟨S128x100000, .i32⟩
  | 124 => ⟨S128x100000x1, .i32⟩
  | 125 => ⟨S128x100000x1, .i32⟩
  | 126 => ⟨S128x100000x2, .i32⟩
  | 127 => ⟨S128x100000, .f32⟩
  | _ => ⟨S128x1152, .f32⟩

abbrev hbmTy0_1 (i : Nat) : BufTy := match i % 128 with
  | 0 => ⟨S_, .f32⟩
  | 1 => ⟨S_, .f32⟩
  | 2 => ⟨S128x100000, .f32⟩
  | 3 => ⟨S_, .f32⟩
  | 4 => ⟨S128x100000, .f32⟩
  | 5 => ⟨S128x100000, .i1⟩
  | 6 => ⟨S_, .i1⟩
  | 7 => ⟨S128x1, .i1⟩
  | 8 => ⟨S128x99999, .i1⟩
  | 9 => ⟨S128x100000, .i1⟩
  | 10 => ⟨S_, .f32⟩
  | 11 => ⟨S_, .f32⟩
  | 12 => ⟨S128x100000, .f32⟩
  | 13 => ⟨S128x100000, .f32⟩
  | 14 => ⟨S_, .f32⟩
  | 15 => ⟨S128x100000, .f32⟩
  | 16 => ⟨S_, .i32⟩
  | 17 => ⟨S128x1, .i32⟩
  | 18 => ⟨S128x1, .i1⟩
  | 19 => ⟨S_, .i32⟩
  | 20 => ⟨S128x1, .i32⟩
  | 21 => ⟨S128x1, .i32⟩
  | 22 => ⟨S128x1, .i32⟩
  | 23 => ⟨S_, .i32⟩
  | 24 => ⟨S128x100000, .i32⟩
  | 25 => ⟨S128x100000, .i1⟩
  | 26 => ⟨S_, .i32⟩
  | 27 => ⟨S128x100000, .i32⟩
  | 28 => ⟨S128x100000, .i32⟩
  | 29 => ⟨S128x100000, .i32⟩
  | 30 => ⟨S128x100000, .i32⟩
  | 31 => ⟨S128x100000x1, .i32⟩
  | 32 => ⟨S128x100000x1, .i32⟩
  | 33 => ⟨S128x100000x2, .i32⟩
  | 34 => ⟨S128x100000, .f32⟩
  | 35 => ⟨S_, .f32⟩
  | 36 => ⟨S128, .f32⟩
  | 37 => ⟨S128x1, .f32⟩
  | 38 => ⟨S128x100000, .f32⟩
  | 39 => ⟨S128x100000, .f32⟩
  | _ => ⟨S128x1152, .f32⟩

abbrev hbmTy (i : Nat) : BufTy := match i / 128 with
  | 0 => hbmTy0_0 i
  | 1 => hbmTy0_1 i
  | _ => ⟨S128x1152, .f32⟩

abbrev bufTy : (tb : Table) → Fin (tcTables nBuf tb) → BufTy
  | .hbm, ⟨i, _⟩ => hbmTy i
  | _, _ => ⟨S128x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_call1_v0 : Ref sig .tc := ⟨.hbm, 10, rfl⟩
abbrev main_call1_v1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call2_v0 : Ref sig .tc := ⟨.hbm, 15, rfl⟩
abbrev main_call2_cst : Ref sig .tc := ⟨.hbm, 16, rfl⟩
abbrev main_call2_v1 : Ref sig .tc := ⟨.hbm, 17, rfl⟩
abbrev main_call2_v2 : Ref sig .tc := ⟨.hbm, 18, rfl⟩
abbrev main_v4 : Ref sig .tc := ⟨.hbm, 19, rfl⟩
abbrev main_cst_0 : Ref sig .tc := ⟨.hbm, 20, rfl⟩
abbrev main_call3_v0 : Ref sig .tc := ⟨.hbm, 21, rfl⟩
abbrev main_call3_v1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_values : Ref sig .tc := ⟨.hbm, 63, rfl⟩
abbrev main_indices : Ref sig .tc := ⟨.hbm, 64, rfl⟩
abbrev main_cst_8 : Ref sig .tc := ⟨.hbm, 65, rfl⟩
abbrev main_v38 : Ref sig .tc := ⟨.hbm, 66, rfl⟩
abbrev main_cst_9 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_11 : Ref sig .tc := ⟨.hbm, 79, rfl⟩
abbrev main_v49 : Ref sig .tc := ⟨.hbm, 80, rfl⟩
abbrev main_c : Ref sig .tc := ⟨.hbm, 81, rfl⟩
abbrev main_v50 : Ref sig .tc := ⟨.hbm, 82, rfl⟩
abbrev main_v51 : Ref sig .tc := ⟨.hbm, 83, rfl⟩
abbrev main_c_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_13 : Ref sig .tc := ⟨.hbm, 88, rfl⟩
abbrev main_v55 : Ref sig .tc := ⟨.hbm, 89, rfl⟩
abbrev main_v56 : Ref sig .tc := ⟨.hbm, 90, rfl⟩
abbrev main_c_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_15 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_call4_v0 : Ref sig .tc := ⟨.hbm, 106, rfl⟩
abbrev main_call4_v1_0 : Ref sig .tc := ⟨.hbm, 107, rfl⟩
abbrev main_v70 : Ref sig .tc := ⟨.hbm, 108, rfl⟩
abbrev main_c_16 : Ref sig .tc := ⟨.hbm, 109, rfl⟩
abbrev main_v71 : Ref sig .tc := ⟨.hbm, 110, rfl⟩
abbrev main_v72 : Ref sig .tc := ⟨.hbm, 111, rfl⟩
abbrev main_c_17 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_c_18 : Ref sig .tc := ⟨.hbm, 116, rfl⟩
abbrev main_v76 : Ref sig .tc := ⟨.hbm, 117, rfl⟩
abbrev main_v77 : Ref sig .tc := ⟨.hbm, 118, rfl⟩
abbrev main_c_19 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_call5_call0_cst : Ref sig .tc := ⟨.hbm, 128, rfl⟩
abbrev main_call5_call0_v0 : Ref sig .tc := ⟨.hbm, 129, rfl⟩
abbrev main_v86 : Ref sig .tc := ⟨.hbm, 130, rfl⟩
abbrev main_cst_20 : Ref sig .tc := ⟨.hbm, 131, rfl⟩
abbrev main_v87 : Ref sig .tc := ⟨.hbm, 132, rfl⟩
abbrev main_v88 : Ref sig .tc := ⟨.hbm, 133, rfl⟩
abbrev main_c_21 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_22 : Ref sig .tc := ⟨.hbm, 138, rfl⟩
abbrev main_call6_v0 : Ref sig .tc := ⟨.hbm, 139, rfl⟩
abbrev main_call6_v1 : Ref sig .tc := ⟨.hbm, 140, rfl⟩
abbrev main_v92 : Ref sig .tc := ⟨.hbm, 141, rfl⟩
abbrev main_cst_23 : Ref sig .tc := ⟨.hbm, 142, rfl⟩
abbrev main_v93 : Ref sig .tc := ⟨.hbm, 143, rfl⟩
abbrev main_c_24 : Ref sig .tc := ⟨.hbm, 144, rfl⟩
abbrev main_v94 : Ref sig .tc := ⟨.hbm, 145, rfl⟩
abbrev main_v95 : Ref sig .tc := ⟨.hbm, 146, rfl⟩
abbrev main_c_25 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_c_26 : Ref sig .tc := ⟨.hbm, 151, rfl⟩
abbrev main_v99 : Ref sig .tc := ⟨.hbm, 152, rfl⟩
abbrev main_v100 : Ref sig .tc := ⟨.hbm, 153, rfl⟩
abbrev main_c_27 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_28 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩

abbrev nD : Nat := 1
abbrev τ : Topo := Topo.v7x

variable {F : FTy → Type} [FloatOps F]
-- ==== Proof.SimsFrame.lean ====
/-
  The run of the program as it stands, at any float values: it ends, faults nowhere, leaves its four arguments as it found
  them and every semaphore counter at zero. What the body writes is not named here (the catalogue's last block overhangs
  its array, so the staging buffers' tails hold words that nothing names): every window's contents are forgotten.
-/
module

public import proofs.«01_k».proof.Proof.Gen.Kernel.Skeleton
public import proofs.«01_k».proof.Proof.Gen.Kernel.Frame
public import Idealize.ShloMosaic.Lib.Claim

@[expose] public section

set_option maxRecDepth 16384

noncomputable section

namespace Cert.Kernel.Sims

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on five whole staging buffers, each at some contents, runs and hands the five back, each at some contents. -/
theorem body_runs (c : Dev nD) (E : Set ℕ) (i : grid0.Coords) (arg1 : Memref sig .tc .vmem S128x1152 .f32) (harg1 : arg1.IsWhole)
    (arg2 : Memref sig .tc .vmem S128x3 .f32) (harg2 : arg2.IsWhole) (arg3 : Memref sig .tc .vmem S2048x1152 .f32) (harg3 : arg3.IsWhole)
    (arg4 : Memref sig .tc .vmem S2048x3 .f32) (harg4 : arg4.IsWhole) (arg5 : Memref sig .tc .vmem S128x2048 .f32) (harg5 : arg5.IsWhole)
    (K : PUnit → sProp 𝕄) :
    iprop((∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d)
        ∗ (iprop((∃ d, owns (c : Thread nD τ) arg1 fullShare d) ∗ (∃ d, owns (c : Thread nD τ) arg2 fullShare d)
            ∗ (∃ d, owns (c : Thread nD τ) arg3 fullShare d) ∗ (∃ d, owns (c : Thread nD τ) arg4 fullShare d)
            ∗ (∃ d, owns (c : Thread nD τ) arg5 fullShare d)) -∗ K ⟨⟩))
      ⊢ wp frame (wpE (defs₀ (F := F)) Variants.none c none) E (cc0__sims_body i arg1 harg1 arg2 harg2 arg3 harg3 arg4 harg4 arg5 harg5) K := by
  simp only [cc0__sims_body_eq_skeleton]; unfold cc0__sims_body_skel
  simp only [k0_part1_eq_skeleton]
  unfold owns
  iintro ⟨⟨%d0, %f0, -, H0⟩, ⟨%d1, %f1, -, H1⟩, ⟨%d2, %f2, -, H2⟩, ⟨%d3, %f3, -, H3⟩, ⟨%d4, %f4, -, H4⟩, Hk⟩
  sl_exec
  sl_step
  iapply Hk
  isplitl [H0]
  · iexists _; iexists _; isplitr
    swap; · iexact H0
    ipureintro; rfl
  isplitl [H1]
  · iexists _; iexists _; isplitr
    swap; · iexact H1
    ipureintro; rfl
  isplitl [H2]
  · iexists _; iexists _; isplitr
    swap; · iexact H2
    ipureintro; rfl
  isplitl [H3]
  · iexists _; iexists _; isplitr
    swap; · iexact H3
    ipureintro; rfl
  iexists _; iexists _; isplitr
  swap; · iexact H4
  ipureintro; rfl

/-- Every window's contents are forgotten. -/
def forgets : Fin 5 → Bool := fun _ => true

/-- The proof data: the arrays as launched, no staging buffer's contents named. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is called with at a point, and what it returns: the five staging buffers at some contents. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d))

def bodyPost (c : Dev nD) (t : Fin cfg0.N) : sProp 𝕄 :=
  iprop((dats m 0 c).Φ t.succ ∗ (dats m 0 c).owesAt () t.succ
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, H⟩
  icases H with ⟨H0, H1, H2, H3, H4⟩
  iapply (body_runs c Set.univ (grid0.coords t) _ _ _ _ _ _ _ _ _ _ _)
  isplitl [H0]; · iexact H0
  isplitl [H1]; · iexact H1
  isplitl [H2]; · iexact H2
  isplitl [H3]; · iexact H3
  isplitl [H4]; · iexact H4
  iintro H
  isplitl [HΦ]; · iexact HΦ
  isplitl [Ho]; · iexact Ho
  iexact H

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ forgets := fun t => by
  rw [bigSep_W0, bigSep_W0, defs₀_row]
  exact triple_restated (body_at m c t) rfl .rfl fun _ => .rfl

set_option backward.isDefEq.respectTransparency.types false in
/-- The launch: every array that is only read ends as launched, every counter at zero. -/
theorem run_main : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame of the program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(Pipeline.RDat.FramePost.arr_in h.1 c 0 rfl).trans ((A_eq m c 0).trans (V_main_arg0 m c)),
     (Pipeline.RDat.FramePost.arr_in h.1 c 1 rfl).trans ((A_eq m c 1).trans (V_main_arg1 m c)),
     (Pipeline.RDat.FramePost.arr_in h.1 c 2 rfl).trans ((A_eq m c 2).trans (V_main_arg2 m c)),
     (Pipeline.RDat.FramePost.arr_in h.1 c 3 rfl).trans ((A_eq m c 3).trans (V_main_arg3 m c))⟩, h.2⟩) (run_main m ρ)

end Cert.Kernel.Sims

end
-- ==== Proof.SimsScalar.lean ====
/-
  One logit as a function of the two rows it is computed from, over the extended reals, in the two forms that the
  reference and the program compute: they are equal at every extended real, the infinities included.
-/
module

public import Idealize.ShloMosaic.Lib.Pointwise

@[expose] public section

noncomputable section

namespace Cert.Sims

open Idealize.ShloMosaic
open scoped BigOperators

/-! ## The constants -/

theorem word_eps : Ideal.ofBits .f32 0x2B8CBCCC#32 = ((2305843 / 2305843009213693952 : ℝ) : EReal) := by
  simp [Ideal.ofBits, Ideal.ieee, -EReal.coe_mul]; norm_num
theorem word_temp : Ideal.ofBits .f32 0x3D8F5C29#32 = ((9395241 / 134217728 : ℝ) : EReal) := by
  simp [Ideal.ofBits, Ideal.ieee, -EReal.coe_mul]; norm_num
theorem word_var : Ideal.ofBits .f32 0x3E7AE148#32 = ((2055209 / 8388608 : ℝ) : EReal) := by
  simp [Ideal.ofBits, Ideal.ieee, -EReal.coe_mul]; norm_num
theorem word_neg_inf : Ideal.ofBits .f32 0xFF800000#32 = ⊥ := by
  simp [Ideal.ofBits, Ideal.ieee]

/-! ## The scalar laws -/

/-- Dividing by a nonzero real is multiplying by its inverse. -/
theorem div_coe (x : EReal) (r : ℝ) (hr : r ≠ 0) : Ideal.div x (r : EReal) = x * ((r⁻¹ : ℝ) : EReal) := by
  unfold Ideal.div
  rw [if_neg (by simpa using hr), EReal.coe_inv]

theorem div_temp (x : EReal) : Ideal.div x (Ideal.ofBits .f32 0x3D8F5C29#32) = x * ((134217728 / 9395241 : ℝ) : EReal) := by
  rw [word_temp, div_coe _ _ (by norm_num)]; norm_num

theorem neg_div_var (x : EReal) : Ideal.div (-x) (Ideal.ofBits .f32 0x3E7AE148#32) = x * ((-8388608 / 2055209 : ℝ) : EReal) := by
  rw [word_var, div_coe _ _ (by norm_num), neg_mul, ← mul_neg, ← EReal.coe_neg]; norm_num

theorem mul_self_nonneg (x : EReal) : 0 ≤ x * x := by
  induction x using EReal.rec with
  | bot => simp
  | top => simp
  | coe r => rw [← EReal.coe_mul]; exact_mod_cast _root_.mul_self_nonneg r

theorem coe_max (a b : ℝ) : ((max a b : ℝ) : EReal) = max (a : EReal) (b : EReal) :=
  EReal.coe_strictMono.monotone.map_max

/-- The root of the larger of a nonnegative number and a squared bound is the larger of the root and the bound. -/
theorem sqrt_max_sq (s : EReal) (hs : 0 ≤ s) (e : ℝ) (he : 0 ≤ e) :
    Ideal.sqrt (max s ((e ^ 2 : ℝ) : EReal)) = max (e : EReal) (Ideal.sqrt s) := by
  induction s using EReal.rec with
  | bot => simp at hs
  | top => simp
  | coe r =>
    have hr : 0 ≤ r := by exact_mod_cast hs
    rw [← coe_max, Ideal.sqrt_coe, Ideal.sqrt_coe, if_neg (not_lt.mpr (le_max_of_le_left hr)), if_neg (not_lt.mpr hr),
      ← coe_max]
    congr 1
    rcases le_total r (e ^ 2) with h | h
    · rw [max_eq_right h, Real.sqrt_sq he, max_eq_left (Real.sqrt_le_iff.mpr ⟨he, h⟩)]
    · rw [max_eq_left h, max_eq_right (Real.le_sqrt_of_sq_le h)]

/-! ## The logit -/

/-- The logit of query row `a`, with sizes `b`, and catalogue row `x`, with sizes `y`, as the reference writes it. -/
def logit {n k : ℕ} (a : Fin n → EReal) (b : Fin k → EReal) (x : Fin n → EReal) (y : Fin k → EReal) : EReal :=
  Ideal.div
    (Ideal.ofBits .f32 0x3F000000#32 *
        ∑ l, Ideal.div (x l) (max (Ideal.ofBits .f32 0x2B8CBCCC#32) (Ideal.sqrt (∑ i, x i * x i))) * a l
      + Ideal.ofBits .f32 0x3F000000#32 *
        Ideal.exp (Ideal.div
          (-(∑ i, y i * y i + ∑ i, b i * b i - Ideal.ofBits .f32 0x40000000#32 * ∑ i, y i * b i))
          (Ideal.ofBits .f32 0x3E7AE148#32)))
    (Ideal.ofBits .f32 0x3D8F5C29#32)

/-- The same logit as the program writes it. -/
theorem logit_eq {n k : ℕ} (a : Fin n → EReal) (b : Fin k → EReal) (x : Fin n → EReal) (y : Fin k → EReal) :
    logit a b x y =
      (Ideal.ofBits .f32 0x3F000000#32 *
          ∑ l, a l * Ideal.div (x l) (Ideal.sqrt (max (∑ i, x i * x i)
            ((5316911940649 / 5316911983139663491615228241121378304 : ℝ) : EReal)))
        + Ideal.ofBits .f32 0x3F000000#32 *
          Ideal.exp ((∑ i, y i * y i + ∑ i, b i * b i - Ideal.ofBits .f32 0x40000000#32 * ∑ i, b i * y i)
            * ((-8388608 / 2055209 : ℝ) : EReal)))
      * ((134217728 / 9395241 : ℝ) : EReal) := by
  have hs : (0 : EReal) ≤ ∑ i, x i * x i := Finset.sum_nonneg fun i _ => mul_self_nonneg (x i)
  have he : ((5316911940649 / 5316911983139663491615228241121378304 : ℝ) : EReal)
      = (((2305843 / 2305843009213693952 : ℝ) ^ 2 : ℝ) : EReal) := by norm_num
  unfold logit
  rw [div_temp, neg_div_var, he, sqrt_max_sq _ hs _ (by norm_num), ← word_eps]
  simp only [mul_comm (a _), mul_comm (b _)]

end Cert.Sims

end
-- ==== Proof.SimsBlock.lean ====
/-
  The block of logits that one grid point computes, read at an entry over the extended reals: query row `q` against
  catalogue row `j` of the point's block. An entry inside the catalogue depends on row `j` of the block alone, an entry
  past its end is minus infinity: so whatever the staging buffers hold past the catalogue's end does not matter.
-/
module

public import proofs.«01_k».proof.Proof.Gen.KernelIdeal.Skeleton
public import proofs.«01_k».proof.Proof.SimsScalar
public import Idealize.ShloMosaic.Lib.Pointwise
public import Idealize.ShloMosaic.Lib.WordCmp

@[expose] public section

noncomputable section

namespace Cert.KernelIdeal.Sims

open Cert.KernelIdeal.Gen Idealize.ShloMosaic Idealize.SL.Sem

/-- The comparison that both masks make: is row `j` of block `t` inside the catalogue? -/
theorem inside (t j : ℕ) (ht : t < 49) (hj : j < 2048) :
    IntOp.cmpi CmpIPredicate.slt (IntOp.addi (Scalar.muli (BitVec.ofNat 32 t) 2048#32) (BitVec.ofNat 32 j)) 100000#32
      = if t * 2048 + j < 100000 then 1#1 else 0#1 := by
  have e : IntOp.addi (Scalar.muli (BitVec.ofNat 32 t) 2048#32) (BitVec.ofNat 32 j) = BitVec.ofNat 32 (t * 2048 + j) := by
    show BitVec.ofNat 32 t * 2048#32 + BitVec.ofNat 32 j = _
    apply BitVec.eq_of_toNat_eq
    simp [BitVec.toNat_add, BitVec.toNat_mul, BitVec.toNat_ofNat]
  rw [e]
  have h : (BitVec.ofNat 32 (t * 2048 + j)).slt 100000#32 = decide (t * 2048 + j < 100000) := by
    rw [BitVec.slt_eq_decide, BitVec.toInt_eq_toNat_of_lt, BitVec.toInt_eq_toNat_of_lt]
    · simp only [BitVec.toNat_ofNat]
      rw [Nat.mod_eq_of_lt (by omega)]
      norm_num
      omega
    · decide
    · simp only [BitVec.toNat_ofNat]; omega
  show (BitVec.ofBool ((BitVec.ofNat 32 (t * 2048 + j)).slt 100000#32)) = _
  rw [h]
  by_cases hc : t * 2048 + j < 100000
  · rw [if_pos hc, decide_eq_true hc]; rfl
  · rw [if_neg hc, decide_eq_false hc]; rfl

/-- The block that point `i` stores, from the four blocks it reads. -/
def block (i : grid0.Coords) (x0 : Vec Ideal S128x1152 .f32) (x1 : Vec Ideal S128x3 .f32) (x2 : Vec Ideal S2048x1152 .f32)
    (x3 : Vec Ideal S2048x3 .f32) : FVec Ideal S128x2048 .f32 :=
  k0_pay1 (BitVec.ofNat 32 (i 0).val) (k0_pay2 i x0 x2) (k0_pay3 x1 x3) (Named.named κ "neg_inv_two_var" 0xC0829CBC#32)

theorem named_mask : (Named.named κ "mask" (φ := .f32) 0xF149F2CA#32 : Ideal .f32) = ⊥ := rfl
theorem named_eps2 : (Named.named κ "eps2" (φ := .f32) 0x179ABE15#32 : Ideal .f32)
    = ((5316911940649 / 5316911983139663491615228241121378304 : ℝ) : EReal) := rfl
theorem named_temp : (Named.named κ "inv_temp" (φ := .f32) 0x41649249#32 : Ideal .f32) = ((134217728 / 9395241 : ℝ) : EReal) := rfl
theorem named_var : (Named.named κ "neg_inv_two_var" (φ := .f32) 0xC0829CBC#32 : Ideal .f32)
    = ((-8388608 / 2055209 : ℝ) : EReal) := rfl

/-- The block at an entry. -/
theorem block_apply (i : grid0.Coords) (x0 : Vec Ideal S128x1152 .f32) (x1 : Vec Ideal S128x3 .f32)
    (x2 : Vec Ideal S2048x1152 .f32) (x3 : Vec Ideal S2048x3 .f32) (q : Fin 128) (j : Fin 2048) :
    block i x0 x1 x2 x3 (ix2 q j) =
      if (i 0).val * 2048 + j.val < 100000 then
        Cert.Sims.logit (fun l => x0 (ix2 q l)) (fun l => x1 (ix2 q l)) (fun l => x2 (ix2 j l)) (fun l => x3 (ix2 j l))
      else ⊥ := by
  have ht : (i 0).val < 49 := (i 0).isLt
  rw [Cert.Sims.logit_eq]
  pointwise [block, k0_pay1, k0_pay2, k0_pay3]
  simp only [inside (i 0).val j.val ht j.isLt]
  split
  · simp only [Scalar.select, named_eps2, named_temp, named_var]
    rfl
  · simp only [Scalar.select]
    rfl

/-- The block does not depend on what the catalogue's blocks hold past the catalogue's end. -/
theorem block_congr (i : grid0.Coords) (x0 : Vec Ideal S128x1152 .f32) (x1 : Vec Ideal S128x3 .f32)
    (x2 x2' : Vec Ideal S2048x1152 .f32) (x3 x3' : Vec Ideal S2048x3 .f32)
    (h2 : ∀ (j : Fin 2048) (l : Fin 1152), (i 0).val * 2048 + j.val < 100000 → x2 (ix2 j l) = x2' (ix2 j l))
    (h3 : ∀ (j : Fin 2048) (l : Fin 3), (i 0).val * 2048 + j.val < 100000 → x3 (ix2 j l) = x3' (ix2 j l)) :
    block i x0 x1 x2 x3 = block i x0 x1 x2' x3' := by
  funext y
  idx_vars y
  rw [block_apply, block_apply]
  split
  · rename_i h
    simp only [h2 _ _ h, h3 _ _ h]
  · rfl

end Cert.KernelIdeal.Sims

end
-- ==== Proof.SimsRun.lean ====
/-
  The run of the program over the extended reals, with the array of logits after the run named: entry `(q, j)` is the
  logit of query row `q` and catalogue row `j`, and minus infinity past the catalogue's end.
-/
module

public import proofs.«01_k».proof.Proof.Gen.KernelIdeal.Skeleton
public import proofs.«01_k».proof.Proof.Gen.KernelIdeal.Frame
public import proofs.«01_k».proof.Proof.SimsBlock
public import Idealize.ShloMosaic.Lib.Claim
public import Idealize.ShloMosaic.Lib.Pipeline.Value

@[expose] public section

set_option maxRecDepth 16384

noncomputable section

namespace Cert.KernelIdeal.Sims

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

local notation "𝕄" => MT nD τ sig Unit (Elt Ideal) ℕ (UR sig nD τ) ℕ

/-! ## The body's triple -/

variable {F : FTy → Type} [FloatOps F] [Named F]

local notation "𝕄f" => MT nD τ sig Unit (Elt F) ℕ (UR sig nD τ) ℕ

theorem zero_offsets : (![0, 0] : Fin 2 → Nat) = fun _ => 0 := funext fun a => by fin_cases a <;> rfl

/-- The output's buffer after the body: its one store, of what the loads of the inputs' buffers give. -/
def stored (i : grid0.Coords) (x0 : Vec F S128x1152 .f32) (x1 : Vec F S128x3 .f32) (x2 : Vec F S2048x1152 .f32) (x3 : Vec F S2048x3 .f32) :
    Vec F S128x2048 .f32 :=
  View.canon [⟨Rect.unit (s := S128x2048) ![0, 0] S128x2048.size inb_S128x2048_S128x2048_0_0,
    k0_pay1 (BitVec.ofNat 32 (i 0).val)
      (k0_pay2 i (View.ld x0 (Rect.unit (s := S128x1152) ![0, 0] S128x1152.size inb_S128x1152_S128x1152_0_0))
        (View.ld x2 (Rect.unit (s := S2048x1152) ![0, 0] S2048x1152.size inb_S2048x1152_S2048x1152_0_0)))
      (k0_pay3 (View.ld x1 (Rect.unit (s := S128x3) ![0, 0] S128x3.size inb_S128x3_S128x3_0_0))
        (View.ld x3 (Rect.unit (s := S2048x3) ![0, 0] S2048x3.size inb_S2048x3_S2048x3_0_0)))
      (Named.named κ "neg_inv_two_var" 0xC0829CBC#32)⟩]

theorem covers (p : Vec F S128x2048 .f32) (y : S128x2048.Idx) :
    ∃ pc ∈ ([⟨Rect.unit (s := S128x2048) ![0, 0] S128x2048.size inb_S128x2048_S128x2048_0_0, p⟩] :
      List (View.Piece (Elt F) S128x2048 .f32)), y ∈ pc.1.set :=
  View.cover_of_tiled [⟨Rect.unit (s := S128x2048) ![0, 0] S128x2048.size inb_S128x2048_S128x2048_0_0, p⟩] S128x2048.size (by rfl) y

/-- Loads and the store are of whole buffers: what is stored is the block of logits of the buffers' contents. -/
theorem stored_eq (i : grid0.Coords) (x0 : Vec Ideal S128x1152 .f32) (x1 : Vec Ideal S128x3 .f32) (x2 : Vec Ideal S2048x1152 .f32)
    (x3 : Vec Ideal S2048x3 .f32) : stored i x0 x1 x2 x3 = block i x0 x1 x2 x3 := by
  unfold stored block
  rw [View.canon_unit_zero zero_offsets, View.ld_unit_zero zero_offsets, View.ld_unit_zero zero_offsets,
    View.ld_unit_zero zero_offsets, View.ld_unit_zero zero_offsets]

set_option maxHeartbeats 1000000 in
/-- The body on five whole staging buffers: the four inputs are left as they were, the output holds what is stored. -/
theorem body_runs (c : Dev nD) (E : Set ℕ) (i : grid0.Coords) (arg1 : Memref sig .tc .vmem S128x1152 .f32) (harg1 : arg1.IsWhole)
    (arg2 : Memref sig .tc .vmem S128x3 .f32) (harg2 : arg2.IsWhole) (arg3 : Memref sig .tc .vmem S2048x1152 .f32) (harg3 : arg3.IsWhole)
    (arg4 : Memref sig .tc .vmem S2048x3 .f32) (harg4 : arg4.IsWhole) (arg5 : Memref sig .tc .vmem S128x2048 .f32) (harg5 : arg5.IsWhole)
    (x0 : Vec F S128x1152 .f32) (x1 : Vec F S128x3 .f32) (x2 : Vec F S2048x1152 .f32) (x3 : Vec F S2048x3 .f32)
    (K : PUnit → sProp 𝕄f) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (stored i x0 x1 x2 x3)) -∗ K ⟨⟩))
      ⊢ wp frame (wpE (defs₀ (F := F)) Variants.none c none) E (cc0__sims_body i arg1 harg1 arg2 harg2 arg3 harg3 arg4 harg4 arg5 harg5) K := by
  simp only [cc0__sims_body_eq_skeleton]; unfold cc0__sims_body_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers _)

/-! ## The proof data -/

variable (m : (ℓ : Loc nD τ sig) → Buf (Elt Ideal) ℓ) (ρ : Dev nD → PrngReg)

/-- The catalogue's block at a point, filled out past the catalogue's end with zeros. -/
def cat (c : Dev nD) (t : Fin cfg0.N) : Vec Ideal S2048x1152 .f32 := win0_2.fill (grid0.coords t) (fun _ => (0 : EReal)) (iblk m c 2 t)
/-- The catalogue sizes' block at a point, filled out likewise. -/
def catSizes (c : Dev nD) (t : Fin cfg0.N) : Vec Ideal S2048x3 .f32 := win0_3.fill (grid0.coords t) (fun _ => (0 : EReal)) (iblk m c 3 t)

/-- The proof data: the arrays as launched; after the body the inputs' buffers at their blocks, the output's at the block
    of logits. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => cat m c t
    | ⟨3, _⟩ => catSizes m c t
    | ⟨4, _⟩ => block (grid0.coords t) (iblk m c 0 t) (iblk m c 1 t) (cat m c t) (catSizes m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = cat m c t := by dsimp only [dats]
theorem after0_3 (c : Dev nD) (t : Fin cfg0.N) : (dats m 0 c).after 3 t = catSizes m c t := by dsimp only [dats]
theorem after0_4 (c : Dev nD) (t : Fin cfg0.N) : (dats m 0 c).after 4 t
    = block (grid0.coords t) (iblk m c 0 t) (iblk m c 1 t) (cat m c t) (catSizes m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = win0_2.fill (grid0.coords t) d (iblk m c 2 t) := by
  unfold Dat.before; rw [if_pos (fetch0_2 t)]; rfl
theorem before0_3 (c : Dev nD) (t : Fin cfg0.N) (d) : (dats m 0 c).before 3 t d = win0_3.fill (grid0.coords t) d (iblk m c 3 t) := by
  unfold Dat.before; rw [if_pos (fetch0_3 t)]; rfl

/-! ## Where the blocks lie -/

theorem coord (t : Fin cfg0.N) : (grid0.coords t 0).val = t.val :=
  (by decide +kernel : ∀ t : Fin grid0.N, (grid0.coords t 0).val = t.val) t
theorem index2 (t : Fin cfg0.N) : win0_2.index t 0 = t.val ∧ win0_2.index t 1 = 0 :=
  (by decide +kernel : ∀ t : Fin grid0.N, win0_2.index t 0 = t.val ∧ win0_2.index t 1 = 0) t
theorem index3 (t : Fin cfg0.N) : win0_3.index t 0 = t.val ∧ win0_3.index t 1 = 0 :=
  (by decide +kernel : ∀ t : Fin grid0.N, win0_3.index t 0 = t.val ∧ win0_3.index t 1 = 0) t
theorem index4 (t : Fin cfg0.N) : win0_4.index t 0 = 0 ∧ win0_4.index t 1 = t.val :=
  (by decide +kernel : ∀ t : Fin grid0.N, win0_4.index t 0 = 0 ∧ win0_4.index t 1 = t.val) t
theorem index0 (t : Fin cfg0.N) : win0_0.index t 0 = 0 ∧ win0_0.index t 1 = 0 :=
  (by decide +kernel : ∀ t : Fin grid0.N, win0_0.index t 0 = 0 ∧ win0_0.index t 1 = 0) t
theorem index1 (t : Fin cfg0.N) : win0_1.index t 0 = 0 ∧ win0_1.index t 1 = 0 :=
  (by decide +kernel : ∀ t : Fin grid0.N, win0_1.index t 0 = 0 ∧ win0_1.index t 1 = 0) t

/-- How many rows of the catalogue's block lie inside the catalogue. -/
theorem rows2 (t : Fin cfg0.N) : win0_2.xsize (grid0.coords t) 0 = min 2048 (100000 - t.val * 2048) ∧ win0_2.xsize (grid0.coords t) 1 = 1152 :=
  (by decide +kernel : ∀ t : Fin grid0.N, win0_2.xsize (grid0.coords t) 0 = min 2048 (100000 - t.val * 2048) ∧ win0_2.xsize (grid0.coords t) 1 = 1152) t
theorem rows3 (t : Fin cfg0.N) : win0_3.xsize (grid0.coords t) 0 = min 2048 (100000 - t.val * 2048) ∧ win0_3.xsize (grid0.coords t) 1 = 3 :=
  (by decide +kernel : ∀ t : Fin grid0.N, win0_3.xsize (grid0.coords t) 0 = min 2048 (100000 - t.val * 2048) ∧ win0_3.xsize (grid0.coords t) 1 = 3) t

theorem moved2 (t : Fin cfg0.N) (j : Fin 2048) (l : Fin 1152) (h : t.val * 2048 + j.val < 100000) :
    win0_2.moved (grid0.coords t) (ix2 j l) = true :=
  (win0_2.moved_iff _ _).mpr fun a => by
    match a with
    | ⟨0, _⟩ => exact lt_of_lt_of_eq (b := min 2048 (100000 - t.val * 2048)) (show j.val < _ by omega) (rows2 t).1.symm
    | ⟨1, _⟩ => exact lt_of_lt_of_eq (show l.val < 1152 from l.isLt) (rows2 t).2.symm

theorem moved3 (t : Fin cfg0.N) (j : Fin 2048) (l : Fin 3) (h : t.val * 2048 + j.val < 100000) :
    win0_3.moved (grid0.coords t) (ix2 j l) = true :=
  (win0_3.moved_iff _ _).mpr fun a => by
    match a with
    | ⟨0, _⟩ => exact lt_of_lt_of_eq (b := min 2048 (100000 - t.val * 2048)) (show j.val < _ by omega) (rows3 t).1.symm
    | ⟨1, _⟩ => exact lt_of_lt_of_eq (show l.val < 3 from l.isLt) (rows3 t).2.symm

/-- A row of the filled block that lies inside the catalogue is the catalogue's row. -/
theorem fill2 (c : Dev nD) (t : Fin cfg0.N) (d) (j : Fin 2048) (l : Fin 1152) (h : t.val * 2048 + j.val < 100000) :
    win0_2.fill (grid0.coords t) d (iblk m c 2 t) (ix2 j l)
      = m ((c : Thread nD τ).loc main_arg2) (ix2 (⟨t.val * 2048 + j.val, h⟩ : Fin 100000) l) := by
  unfold Window.fill
  rw [dif_pos (moved2 t j l h)]
  unfold iblk
  rw [View.read_apply]
  show m ((c : Thread nD τ).loc main_arg2) ((win0_2.rect t).emb _) = _
  refine congrArg _ (Shape.idx_ext₂ ?_ ?_)
  · refine (Window.rect_emb_val win0_2 t _ 0).trans ?_; rw [(index2 t).1]; rfl
  · refine (Window.rect_emb_val win0_2 t _ 1).trans ?_; rw [(index2 t).2]; exact Nat.zero_add _

theorem fill3 (c : Dev nD) (t : Fin cfg0.N) (d) (j : Fin 2048) (l : Fin 3) (h : t.val * 2048 + j.val < 100000) :
    win0_3.fill (grid0.coords t) d (iblk m c 3 t) (ix2 j l)
      = m ((c : Thread nD τ).loc main_arg3) (ix2 (⟨t.val * 2048 + j.val, h⟩ : Fin 100000) l) := by
  unfold Window.fill
  rw [dif_pos (moved3 t j l h)]
  unfold iblk
  rw [View.read_apply]
  show m ((c : Thread nD τ).loc main_arg3) ((win0_3.rect t).emb _) = _
  refine congrArg _ (Shape.idx_ext₂ ?_ ?_)
  · refine (Window.rect_emb_val win0_3 t _ 0).trans ?_; rw [(index3 t).1]; rfl
  · refine (Window.rect_emb_val win0_3 t _ 1).trans ?_; rw [(index3 t).2]; exact Nat.zero_add _

theorem blk0 (c : Dev nD) (t : Fin cfg0.N) (q : Fin 128) (l : Fin 1152) :
    iblk m c 0 t (ix2 q l) = m ((c : Thread nD τ).loc main_arg0) (ix2 q l) := by
  unfold iblk
  rw [View.read_apply]
  show m ((c : Thread nD τ).loc main_arg0) ((win0_0.rect t).emb _) = _
  refine congrArg _ (Shape.idx_ext₂ ?_ ?_)
  · refine (Window.rect_emb_val win0_0 t _ 0).trans ?_; rw [(index0 t).1]; exact Nat.zero_add _
  · refine (Window.rect_emb_val win0_0 t _ 1).trans ?_; rw [(index0 t).2]; exact Nat.zero_add _

theorem blk1 (c : Dev nD) (t : Fin cfg0.N) (q : Fin 128) (l : Fin 3) :
    iblk m c 1 t (ix2 q l) = m ((c : Thread nD τ).loc main_arg1) (ix2 q l) := by
  unfold iblk
  rw [View.read_apply]
  show m ((c : Thread nD τ).loc main_arg1) ((win0_1.rect t).emb _) = _
  refine congrArg _ (Shape.idx_ext₂ ?_ ?_)
  · refine (Window.rect_emb_val win0_1 t _ 0).trans ?_; rw [(index1 t).1]; exact Nat.zero_add _
  · refine (Window.rect_emb_val win0_1 t _ 1).trans ?_; rw [(index1 t).2]; exact Nat.zero_add _

/-- What the catalogue's buffers hold past the catalogue's end does not reach the block of logits. -/
theorem block_fill (c : Dev nD) (t : Fin cfg0.N) (d2 d3) :
    block (grid0.coords t) (iblk m c 0 t) (iblk m c 1 t) (win0_2.fill (grid0.coords t) d2 (iblk m c 2 t))
        (win0_3.fill (grid0.coords t) d3 (iblk m c 3 t))
      = block (grid0.coords t) (iblk m c 0 t) (iblk m c 1 t) (cat m c t) (catSizes m c t) :=
  block_congr _ _ _ _ _ _ _
    (fun j l h => by
      rw [coord] at h
      exact (fill2 m c t _ j l h).trans (fill2 m c t _ j l h).symm)
    (fun j l h => by
      rw [coord] at h
      exact (fill3 m c t _ j l h).trans (fill3 m c t _ j l h).symm)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ owns (c : Thread nD τ) (st0_4 t) fullShare ((dats m 0 c).after 4 t))

theorem cut_cat (c : Dev nD) (t : Fin cfg0.N) : win0_2.cut (grid0.coords t) (cat m c t) = iblk m c 2 t := win0_2.cut_fill _ _ _
theorem cut_catSizes (c : Dev nD) (t : Fin cfg0.N) : win0_3.cut (grid0.coords t) (catSizes m c t) = iblk m c 3 t := win0_3.cut_fill _ _ _

theorem body_at (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, cut_cat, cut_catSizes]
  iintro ⟨HΦ, Ho, ⟨%d0, H0⟩, ⟨%d1, H1⟩, ⟨%d2, H2⟩, ⟨%d3, H3⟩, ⟨%d4, H4⟩⟩
  iapply (body_runs c Set.univ (grid0.coords t) _ _ _ _ _ _ _ _ _ _ (iblk m c 0 t) (iblk m c 1 t)
    (win0_2.fill (grid0.coords t) d2 (iblk m c 2 t)) (win0_3.fill (grid0.coords t) d3 (iblk m c 3 t)) _)
  rw [stored_eq, block_fill m c t d2 d3]
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexists _; iexact H2
  isplitl [H3]; · iexists _; iexact H3
  iexact H4

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligationLoose (dats m 0 c) (defs₀ (F := Ideal)) Variants.none () Set.univ := fun t => by
  rw [bigSep_W0, bigSep_W0, defs₀_row]
  exact triple_restated (body_at m c t) rfl .rfl fun _ => .rfl

/-! ## The run -/

set_option backward.isDefEq.respectTransparency.types false in
/-- The launch. -/
theorem run_main : θ_run defs (onTc (τ := τ) (main (F := Ideal))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame of the program over the extended reals. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-! ## The array of logits after the run -/

/-- The logits of the launch's arguments. -/
def logits (c : Dev nD) : Vec Ideal S128x100352 .f32 := fun y =>
  if h : (y 1).val < 100000 then
    Cert.Sims.logit (fun l : Fin 1152 => m ((c : Thread nD τ).loc main_arg0) (ix2 (y 0) l))
      (fun l : Fin 3 => m ((c : Thread nD τ).loc main_arg1) (ix2 (y 0) l))
      (fun l : Fin 1152 => m ((c : Thread nD τ).loc main_arg2) (ix2 (⟨(y 1).val, h⟩ : Fin 100000) l))
      (fun l : Fin 3 => m ((c : Thread nD τ).loc main_arg3) (ix2 (⟨(y 1).val, h⟩ : Fin 100000) l))
  else (⊥ : EReal)

theorem logits_ix (c : Dev nD) (q : Fin 128) (j : Fin 100352) : logits m c (ix2 q j) =
  if h : j.val < 100000 then
    Cert.Sims.logit (fun l : Fin 1152 => m ((c : Thread nD τ).loc main_arg0) (ix2 q l))
      (fun l : Fin 3 => m ((c : Thread nD τ).loc main_arg1) (ix2 q l))
      (fun l : Fin 1152 => m ((c : Thread nD τ).loc main_arg2) (ix2 (⟨j.val, h⟩ : Fin 100000) l))
      (fun l : Fin 3 => m ((c : Thread nD τ).loc main_arg3) (ix2 (⟨j.val, h⟩ : Fin 100000) l))
  else (⊥ : EReal) := rfl

/-- An entry of a point's block of logits. -/
theorem block_value (c : Dev nD) (t : Fin cfg0.N) (q : Fin 128) (j : Fin 2048) (hj : t.val * 2048 + j.val < 100352) :
    block (grid0.coords t) (iblk m c 0 t) (iblk m c 1 t) (cat m c t) (catSizes m c t) (ix2 q j)
      = logits m c (ix2 q (⟨t.val * 2048 + j.val, hj⟩ : Fin 100352)) := by
  rw [block_apply, logits_ix, coord]
  by_cases h : t.val * 2048 + j.val < 100000
  · rw [if_pos h, dif_pos h]
    have e0 : (fun l : Fin 1152 => iblk m c 0 t (ix2 q l)) = fun l => m ((c : Thread nD τ).loc main_arg0) (ix2 q l) :=
      funext fun l => blk0 m c t q l
    have e1 : (fun l : Fin 3 => iblk m c 1 t (ix2 q l)) = fun l => m ((c : Thread nD τ).loc main_arg1) (ix2 q l) :=
      funext fun l => blk1 m c t q l
    have e2 : (fun l : Fin 1152 => cat m c t (ix2 j l))
        = fun l => m ((c : Thread nD τ).loc main_arg2) (ix2 (⟨t.val * 2048 + j.val, h⟩ : Fin 100000) l) :=
      funext fun l => fill2 m c t _ j l h
    have e3 : (fun l : Fin 3 => catSizes m c t (ix2 j l))
        = fun l => m ((c : Thread nD τ).loc main_arg3) (ix2 (⟨t.val * 2048 + j.val, h⟩ : Fin 100000) l) :=
      funext fun l => fill3 m c t _ j l h
    rw [e0, e1, e2, e3]
  · rw [if_neg h, dif_neg h]

/-- Where an entry of a point's block of the output lies in the array. -/
theorem emb4 (t : Fin cfg0.N) (q : Fin 128) (j : Fin 2048) (hj : t.val * 2048 + j.val < 100352) :
    ((cfg0.win 4).blk t).view.emb (ix2 q j) = (ix2 q (⟨t.val * 2048 + j.val, hj⟩ : Fin 100352) : S128x100352.Idx) := by
  refine Shape.idx_ext₂ ?_ ?_
  · refine (Window.rect_emb_val win0_4 t _ 0).trans ?_
    rw [(index4 t).1]; exact Nat.zero_add _
  · refine (Window.rect_emb_val win0_4 t _ 1).trans ?_
    rw [(index4 t).2]; rfl

/-- A block that agrees with an array entry by entry is that array read through the point's block. -/
theorem read4 (B : Vec Ideal S128x2048 .f32) (L : Vec Ideal S128x100352 .f32) (t : Fin cfg0.N)
    (h : ∀ (q : Fin 128) (j : Fin 2048) (hj : t.val * 2048 + j.val < 100352),
      B (ix2 q j) = L (ix2 q (⟨t.val * 2048 + j.val, hj⟩ : Fin 100352))) :
    (cfg0.win 4).cut (grid0.coords t) B = ((cfg0.win 4).blk t).view.read (Elt Ideal) L := by
  funext y
  have hN : t.val < 49 := t.isLt
  have hy0 : (y 0).val < 128 := (y 0).isLt
  have hy1 : (y 1).val < 2048 := (y 1).isLt
  have ey : y = ix2 (⟨(y 0).val, hy0⟩ : Fin 128) (⟨(y 1).val, hy1⟩ : Fin 2048) := Shape.idx_ext₂ rfl rfl
  rw [View.read_apply, ey]
  refine (h _ _ (by show t.val * 2048 + (y 1).val < 100352; omega)).trans ?_
  exact congrArg L (emb4 t _ _ _).symm

/-- What a point writes back is its block of the logits. -/
theorem flushed (c : Dev nD) (t : Fin cfg0.N) :
    (dats m 0 c).flushed 4 t = ((cfg0.win 4).blk t).view.read (Elt Ideal) (logits m c) := by
  show (cfg0.win 4).cut (grid0.coords t) ((dats m 0 c).after 4 t) = _
  rw [after0_4]
  exact read4 _ _ t fun q j hj => block_value m c t q j hj

/-- Every entry of the array lies in the block of some point. -/
theorem cover (y : S128x100352.Idx) : ∃ t : Fin cfg0.N, (cfg0.win 4).flush t = true ∧ y ∈ ((cfg0.win 4).blk t).view.set := by
  have hy0 : (y 0).val < 128 := (y 0).isLt
  have hy1 : (y 1).val < 100352 := (y 1).isLt
  refine ⟨(⟨(y 1).val / 2048, by show _ < 49; omega⟩ : Fin 49), flush0_4 _, ?_⟩
  generalize ht : (⟨(y 1).val / 2048, _⟩ : Fin 49) = t
  have htv : t.val = (y 1).val / 2048 := by rw [← ht]
  have e : y = ((cfg0.win 4).blk t).view.emb
      (ix2 (⟨(y 0).val, hy0⟩ : Fin 128) (⟨(y 1).val % 2048, Nat.mod_lt _ (by norm_num)⟩ : Fin 2048)) := by
    refine Shape.idx_ext₂ ?_ ?_
    · refine Eq.symm ((Window.rect_emb_val win0_4 t _ 0).trans ?_)
      rw [(index4 t).1]; exact Nat.zero_add _
    · refine Eq.symm ((Window.rect_emb_val win0_4 t _ 1).trans ?_)
      rw [(index4 t).2, htv]
      show (y 1).val / 2048 * 2048 + (y 1).val % 2048 = (y 1).val
      omega
  rw [e]
  exact View.emb_mem_set _ _

/-- The array after the run. -/
theorem final (c : Dev nD) : (dats m 0 c).arrAt 4 cfg0.N = logits m c :=
  (dats m 0 c).arrAt_eq_of_cover 4 (logits m c) (fun t _ => flushed m c t) (fun y => cover y)

/-- The run with its result named. -/
theorem run_logits : θ_run defs (onTc (τ := τ) (main (F := Ideal))) ⟨m, fun _ => 0, ρ⟩ (fun r => ∀ c : Dev nD,
      r.2.mem ((c.tc : Thread nD τ).loc main_v0) = logits m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h1 := (θ_run defs _ _).mono (fun r h => fun c : Dev nD => (h.1 c).1 4) (run_main m ρ)
  have h2 := (θ_run defs _ _).mono (fun r h => h.1) (frame m ρ)
  exact (θ_run defs _ _).mono (fun r h c => ⟨(h.1 c).trans (final m c), h.2 c⟩) (θ_run_and h1 h2)

end Cert.KernelIdeal.Sims

end
-- ==== Proof.SimsRef.lean ====
/-
  The reference's logits, read at an entry over the extended reals.
-/
module

public import proofs.«01_k».proof.Proof.Gen.ReferenceIdeal
public import proofs.«01_k».proof.Proof.SimsScalar
public import Idealize.ShloMosaic.Lib.Pointwise

@[expose] public section

noncomputable section

namespace Cert.ReferenceIdeal.Sims

open Cert.ReferenceIdeal Cert.ReferenceIdeal.Gen Idealize.ShloMosaic Idealize.SL.Sem

/-- The padded logits as the reference's operations compose them. -/
def logits (x0 : FVec Ideal S128x1152 .f32) (x1 : FVec Ideal S128x3 .f32) (x2 : FVec Ideal S100000x1152 .f32)
    (x3 : FVec Ideal S100000x3 .f32) : FVec Ideal S128x100352 .f32 :=
  pad S128x100352 ![0, 0] ![0, 352] ![0, 0] (Host.divf (transpose S128x100000 [1, 0] (addf (mulf (broadcastInDim S100000x128 ![] bcast_S_S100000x128 (constant S_ .f32 0x3F000000#32)) (Host.dotGeneral dot_S100000x1152_S1152x128_S100000x128_1_0_0_1_n_n none (Host.divf x2 (broadcastInDim S100000x1152 ![0, 1] bcast_S100000x1_S100000x1152_0_1 (maximumf (broadcastInDim S100000x1 ![] bcast_S_S100000x1 (id (constant S_ .f32 0x2B8CBCCC#32))) (Host.sqrt (broadcastInDim S100000x1 ![0] bcast_S100000_S100000x1_0 (Host.reduceAdd (mulf x2 x2) (constant S_ .f32 0x00000000#32) reducesTo_S100000x1152_S100000_d1 h_S_)))))) (transpose S1152x128 [1, 0] x0 transposes_S128x1152_S1152x128_1_0))) (mulf (broadcastInDim S100000x128 ![] bcast_S_S100000x128 (constant S_ .f32 0x3F000000#32)) (Host.exp (Host.divf (Host.negf (subf (addf (broadcastInDim S100000x128 ![0, 1] bcast_S100000x1_S100000x128_0_1 (broadcastInDim S100000x1 ![0] bcast_S100000_S100000x1_0 (Host.reduceAdd (mulf x3 x3) (constant S_ .f32 0x00000000#32) reducesTo_S100000x3_S100000_d1 h_S_))) (broadcastInDim S100000x128 ![0, 1] bcast_S1x128_S100000x128_0_1 (broadcastInDim S1x128 ![1] bcast_S128_S1x128_1 (Host.reduceAdd (mulf x1 x1) (constant S_ .f32 0x00000000#32) reducesTo_S128x3_S128_d1 h_S_)))) (mulf (broadcastInDim S100000x128 ![] bcast_S_S100000x128 (constant S_ .f32 0x40000000#32)) (Host.dotGeneral dot_S100000x3_S3x128_S100000x128_1_0_0_1_n_n none x3 (transpose S3x128 [1, 0] x1 transposes_S128x3_S3x128_1_0))))) (broadcastInDim S100000x128 ![] bcast_S_S100000x128 (constant S_ .f32 0x3E7AE148#32)))))) transposes_S100000x128_S128x100000_1_0) (broadcastInDim S128x100000 ![] bcast_S_S128x100000 (constant S_ .f32 0x3D8F5C29#32))) (id (constant S_ .f32 0xFF800000#32)) pads_S128x100000_S128x100352_000_03520 h_S_

theorem logits_apply (x0 : FVec Ideal S128x1152 .f32) (x1 : FVec Ideal S128x3 .f32) (x2 : FVec Ideal S100000x1152 .f32)
    (x3 : FVec Ideal S100000x3 .f32) (q : Fin 128) (j : Fin 100352) :
    logits x0 x1 x2 x3 (ix2 q j) =
      if h : j.val < 100000 then
        Cert.Sims.logit (fun l => x0 (ix2 q l)) (fun l => x1 (ix2 q l)) (fun l => x2 (ix2 ⟨j.val, h⟩ l))
          (fun l => x3 (ix2 ⟨j.val, h⟩ l))
      else ⊥ := by
  pointwise [logits]
  split
  · rfl
  · exact Cert.Sims.word_neg_inf

end Cert.ReferenceIdeal.Sims

end
-- ==== Proof.SelRounds.lean ====
/- Repeated maxima of a finite family of extended reals. `below f b` is the greatest value of the family strictly below
   `b` (`⊥` when there is none), `rounds f k` the `k`-th round of taking it from `⊤`. The `k`-th round is characterised by
   counting distinct values: above `⊥`, it is at least `x` iff at least `k` distinct values of the family are. -/
module

public import Mathlib.Data.EReal.Basic
public import Mathlib.Data.Finset.Card
public import Mathlib.Data.Finset.Lattice.Fold
public import Mathlib.Data.Fintype.Card
public import Mathlib.Order.Interval.Finset.Fin

@[expose] public section

noncomputable section

namespace Sel

variable {C : Type} [Fintype C]

/-- The greatest value of `f` strictly below `b`; `⊥` when there is none. -/
def below (f : C → EReal) (b : EReal) : EReal := Finset.univ.sup fun c => if f c < b then f c else ⊥

/-- `k` rounds of `below` from `⊤`. -/
def rounds (f : C → EReal) : ℕ → EReal
  | 0 => ⊤
  | k + 1 => below f (rounds f k)

/-- The distinct values of `f` that are at least `x`. -/
def level (f : C → EReal) (x : EReal) : Finset EReal := (Finset.univ.image f).filter (x ≤ ·)

theorem mem_level {f : C → EReal} {x y : EReal} : y ∈ level f x ↔ (∃ c, f c = y) ∧ x ≤ y := by
  simp [level]

theorem le_below {f : C → EReal} {b : EReal} {c : C} (h : f c < b) : f c ≤ below f b := by
  have h2 : (if f c < b then f c else ⊥) ≤ below f b :=
    Finset.le_sup (f := fun c => if f c < b then f c else ⊥) (Finset.mem_univ c)
  rwa [if_pos h] at h2

theorem below_attained {f : C → EReal} {b : EReal} (h : below f b ≠ ⊥) : ∃ c, f c = below f b ∧ f c < b := by
  by_contra hn
  apply h
  have hne : (Finset.univ : Finset C).Nonempty := by
    by_contra he
    rw [Finset.not_nonempty_iff_eq_empty] at he
    exact h (by unfold below; rw [he]; rfl)
  obtain ⟨c, -, hc⟩ := Finset.exists_mem_eq_sup Finset.univ hne (fun c => if f c < b then f c else ⊥)
  by_cases hb : f c < b
  · exact absurd ⟨c, by rw [if_pos hb] at hc; exact hc.symm, hb⟩ hn
  · rw [if_neg hb] at hc; exact hc

theorem below_lt {f : C → EReal} {b : EReal} (h : below f b ≠ ⊥) : below f b < b := by
  obtain ⟨c, hc, hb⟩ := below_attained h
  rwa [hc] at hb

/-- A round is `⊥` or a value of the family below the round before. -/
theorem rounds_attained {f : C → EReal} {k : ℕ} (h : rounds f (k + 1) ≠ ⊥) : ∃ c, f c = rounds f (k + 1) :=
  (below_attained h).imp fun _ hc => hc.1

/-- THE COUNT: of the distinct values at least `x`, round `k` has passed exactly the `k` greatest. -/
theorem card_passed {f : C → EReal} (hf : ∀ c, f c < ⊤) {x : EReal} (hx : ⊥ < x) (k : ℕ) :
    ((level f x).filter (· < rounds f k)).card = (level f x).card - k := by
  induction k with
  | zero =>
    rw [Finset.filter_true_of_mem, Nat.sub_zero]
    intro y hy
    obtain ⟨⟨c, rfl⟩, -⟩ := mem_level.1 hy
    exact hf c
  | succ k ih =>
    rcases Finset.eq_empty_or_nonempty ((level f x).filter (· < rounds f k)) with he | ⟨y, hy⟩
    · rw [he, Finset.card_empty] at ih
      rw [show (level f x).card - (k + 1) = 0 by omega, Finset.card_eq_zero, Finset.eq_empty_iff_forall_notMem]
      intro y hy
      rw [Finset.mem_filter] at hy
      have hb : rounds f (k + 1) ≠ ⊥ := fun h => by rw [h] at hy; exact not_lt_bot hy.2
      have : y ∈ (level f x).filter (· < rounds f k) := Finset.mem_filter.2 ⟨hy.1, hy.2.trans (below_lt hb)⟩
      rw [he] at this
      exact Finset.notMem_empty _ this
    · rw [Finset.mem_filter, mem_level] at hy
      obtain ⟨⟨⟨c, rfl⟩, hxc⟩, hc⟩ := hy
      have hle : x ≤ rounds f (k + 1) := hxc.trans (le_below hc)
      have hb : rounds f (k + 1) ≠ ⊥ := (hx.trans_le hle).ne'
      have hm : rounds f (k + 1) ∈ (level f x).filter (· < rounds f k) :=
        Finset.mem_filter.2 ⟨mem_level.2 ⟨rounds_attained hb, hle⟩, below_lt hb⟩
      have hs : (level f x).filter (· < rounds f (k + 1)) = ((level f x).filter (· < rounds f k)).erase (rounds f (k + 1)) := by
        ext y
        simp only [Finset.mem_filter, Finset.mem_erase, mem_level]
        constructor
        · rintro ⟨hy, hl⟩
          exact ⟨hl.ne, hy, hl.trans (below_lt hb)⟩
        · rintro ⟨hne, ⟨⟨c, rfl⟩, hy⟩, hl⟩
          exact ⟨⟨⟨c, rfl⟩, hy⟩, lt_of_le_of_ne (le_below hl) hne⟩
      rw [hs, Finset.card_erase_of_mem hm, ih]
      omega

/-- Round `k + 1` is at least `x` iff more than `k` distinct values are. -/
theorem le_rounds_iff {f : C → EReal} (hf : ∀ c, f c < ⊤) {x : EReal} (hx : ⊥ < x) (k : ℕ) :
    x ≤ rounds f (k + 1) ↔ k < (level f x).card := by
  have h := card_passed hf hx k
  constructor
  · intro hle
    have hb : rounds f (k + 1) ≠ ⊥ := (hx.trans_le hle).ne'
    have : 0 < ((level f x).filter (· < rounds f k)).card :=
      Finset.card_pos.2 ⟨_, Finset.mem_filter.2 ⟨mem_level.2 ⟨rounds_attained hb, hle⟩, below_lt hb⟩⟩
    omega
  · intro hlt
    obtain ⟨y, hy⟩ := Finset.card_pos.1 (by omega : 0 < ((level f x).filter (· < rounds f k)).card)
    rw [Finset.mem_filter, mem_level] at hy
    obtain ⟨⟨⟨c, rfl⟩, hxc⟩, hc⟩ := hy
    exact hxc.trans (le_below hc)

/-- Rounds above `⊥` are strictly decreasing. -/
theorem rounds_succ_lt {f : C → EReal} {k : ℕ} (h : rounds f (k + 1) ≠ ⊥) : rounds f (k + 1) < rounds f k := below_lt h

/-! ## Inserting a value into a descending table -/

/-- A membership that is closed downwards holds of exactly the first as many lanes as it has. -/
theorem lt_card_of_initial {n : ℕ} (A : Finset (Fin n)) (hA : ∀ i ∈ A, ∀ j, j < i → j ∈ A) (i : Fin n) :
    i ∈ A ↔ (i : ℕ) < A.card := by
  constructor
  · intro hi
    have : (Finset.Iic i) ⊆ A := fun j hj => by
      rcases (Finset.mem_Iic.1 hj).lt_or_eq with h | h
      · exact hA i hi j h
      · rw [h]; exact hi
    have := Finset.card_le_card this
    rw [Fin.card_Iic] at this
    omega
  · intro hi
    by_contra hn
    have : A ⊆ Finset.Iio i := fun j hj => by
      rw [Finset.mem_Iio]
      by_contra hle
      rcases (not_lt.1 hle).lt_or_eq with h | h
      · exact hn (hA j hj i h)
      · exact hn (h ▸ hj)
    have := Finset.card_le_card this
    rw [Fin.card_Iio] at this
    omega

/-- A table of 64 lanes HAS PROFILE `N`: above `⊥`, its values at least `x` are those of its first `N x` lanes. -/
def Profile (acc : Fin 64 → EReal) (N : EReal → ℕ) : Prop := ∀ x, ⊥ < x → ∀ i : Fin 64, x ≤ acc i ↔ (i : ℕ) < N x

/-- How many values of the table exceed `m`. -/
def above (acc : Fin 64 → EReal) (m : EReal) : ℕ := (Finset.univ.filter fun i => m < acc i).card

/-- The table with `m` inserted after the values exceeding it, the later lanes moved up by one. -/
def insertAt (acc : Fin 64 → EReal) (m : EReal) (i : Fin 64) : EReal :=
  if (i : ℕ) < above acc m then acc i else if (i : ℕ) = above acc m then m else acc ⟨i - 1, by omega⟩

theorem Profile.lt_above {acc : Fin 64 → EReal} {N : EReal → ℕ} (h : Profile acc N) (m : EReal) (i : Fin 64) :
    (i : ℕ) < above acc m ↔ m < acc i := by
  rw [above, ← lt_card_of_initial]
  · simp
  · intro i hi j hj
    simp only [Finset.mem_filter, Finset.mem_univ, true_and] at hi ⊢
    have hb : ⊥ < acc i := bot_le.trans_lt hi
    exact hi.trans_le ((h _ hb j).2 ((Fin.lt_def.1 hj).trans ((h _ hb i).1 le_rfl)))

/-- Inserting `m` adds one to the count of the values at most `m`. -/
theorem Profile.insertAt {acc : Fin 64 → EReal} {N : EReal → ℕ} (h : Profile acc N) (m : EReal) :
    Profile (insertAt acc m) fun x => N x + if x ≤ m then 1 else 0 := by
  intro x hx i
  have hk := h.lt_above m
  unfold Sel.insertAt
  by_cases hm : x ≤ m
  · simp only [hm, if_true]
    split_ifs with h1 h2
    · have : (i : ℕ) < N x := (h x hx i).1 (hm.trans ((hk i).1 h1).le)
      exact iff_of_true (hm.trans ((hk i).1 h1).le) (by omega)
    · refine iff_of_true hm ?_
      rcases Nat.eq_zero_or_pos (i : ℕ) with h0 | h0
      · omega
      · have := (h x hx ⟨i - 1, by omega⟩).1 (hm.trans ((hk ⟨i - 1, by omega⟩).1 (by show (i : ℕ) - 1 < _; omega)).le)
        simp only at this
        omega
    · rw [h x hx]
      simp only
      omega
  · simp only [hm, if_false, Nat.add_zero]
    split_ifs with h1 h2
    · exact h x hx i
    · refine iff_of_false hm fun hi => hm ?_
      have h3 : x ≤ acc i := (h x hx i).2 hi
      exact h3.trans (not_lt.1 fun h4 => absurd ((hk i).2 h4) h1)
    · have h3 : ¬ x ≤ acc ⟨i - 1, by omega⟩ := fun h3 => hm (h3.trans (not_lt.1 fun h4 => by
        have := (hk ⟨i - 1, by omega⟩).2 h4
        simp only at this
        omega))
      refine iff_of_false h3 fun hi => h3 ((h x hx _).2 ?_)
      simp only
      omega

end Sel

end
-- ==== Proof.SelClass.lean ====
/- The columns of a row fall into 6272 classes of 16 (the columns equal modulo 6272). When the 50 greatest values of the row
   are distinct, no class holds more than 3 of them, and at most 8 come second or third in their class, the 50 greatest are
   found from the greatest value of each class (50 rounds), with the second and third values of the classes inserted (8
   rounds). -/
module

public import proofs.«01_k».proof.Proof.SelRounds

@[expose] public section

noncomputable section

namespace Sel

/-- Member `s` of class `c`. -/
def col (c : Fin 6272) (s : Fin 16) : Fin 100352 := ⟨s * 6272 + c, by omega⟩

/-- The class of a column. -/
def cls (p : Fin 100352) : Fin 6272 := ⟨p % 6272, by omega⟩

/-- The values of class `c`. -/
def member (v : Fin 100352 → EReal) (c : Fin 6272) (s : Fin 16) : EReal := v (col c s)

/-- Each class's greatest value. -/
def lead (v : Fin 100352 → EReal) (c : Fin 6272) : EReal := rounds (member v c) 1

/-- Each class's second value, then each class's third. -/
def repair (v : Fin 100352 → EReal) (c : Fin 12544) : EReal :=
  if h : (c : ℕ) < 6272 then rounds (member v ⟨c, h⟩) 2 else rounds (member v ⟨c - 6272, by omega⟩) 3

/-- The table after the 50 rounds over the classes' greatest values. -/
def table (v : Fin 100352 → EReal) (i : Fin 64) : EReal := if (i : ℕ) < 50 then rounds (lead v) (i + 1) else ⊥

/-- The table after `k` rounds of insertions. -/
def inserted (v : Fin 100352 → EReal) : ℕ → Fin 64 → EReal
  | 0 => table v
  | k + 1 => insertAt (inserted v k) (rounds (repair v) (k + 1))

/-- How many of the earlier top positions share the class of top position `i`. -/
def rank (σ : Fin 50 → Fin 100352) (i : Fin 50) : ℕ := (Finset.univ.filter fun j => j < i ∧ cls (σ j) = cls (σ i)).card

/-- The row `v` has its 50 greatest values at `σ`, in descending order, distinct and finite, and its classes are not crowded. -/
structure Separated (v : Fin 100352 → EReal) (σ : Fin 50 → Fin 100352) : Prop where
  finite : ∀ i, v (σ i) < ⊤
  desc : ∀ i j, i < j → v (σ j) < v (σ i)
  rest : ∀ p, (∀ i, σ i ≠ p) → ∀ i, v p < v (σ i)
  few : ∀ i, rank σ i ≤ 2
  repaired : (Finset.univ.filter fun i => 1 ≤ rank σ i).card ≤ 8

theorem exists_notMem (σ : Fin 50 → Fin 100352) : ∃ p, ∀ i, σ i ≠ p := by
  by_contra h
  push Not at h
  have := Fintype.card_le_of_surjective σ h
  simp at this

theorem cls_col (c : Fin 6272) (s : Fin 16) : cls (col c s) = c := by
  apply Fin.ext
  simp only [cls, col]
  omega

theorem exists_col (p : Fin 100352) : ∃ s, col (cls p) s = p :=
  ⟨⟨p / 6272, by omega⟩, Fin.ext (by simp only [cls, col]; omega)⟩

/-! ## The table's profile -/

theorem lt_top_rounds {C : Type} [Fintype C] {f : C → EReal} (hf : ∀ c, f c < ⊤) (k : ℕ) : rounds f (k + 1) < ⊤ := by
  by_cases h : rounds f (k + 1) = ⊥
  · rw [h]; exact bot_lt_top
  · obtain ⟨c, hc⟩ := rounds_attained h
    exact hc ▸ hf c

section profile

variable {v : Fin 100352 → EReal} (hv : ∀ p, v p < ⊤)
include hv

theorem lead_lt_top (c : Fin 6272) : lead v c < ⊤ := lt_top_rounds (f := member v c) (fun _ => hv _) 0

theorem repair_lt_top (c : Fin 12544) : repair v c < ⊤ := by
  unfold repair
  split_ifs
  · exact lt_top_rounds (f := member v _) (fun _ => hv _) 1
  · exact lt_top_rounds (f := member v _) (fun _ => hv _) 2

theorem table_profile : Profile (table v) fun x => min 50 (level (lead v) x).card := by
  intro x hx i
  unfold table
  split_ifs with h
  · rw [le_rounds_iff (lead_lt_top hv) hx]; show _ ↔ (i : ℕ) < min 50 _; omega
  · exact iff_of_false (fun h => not_lt_bot (hx.trans_le h)) (by show ¬ (i : ℕ) < min 50 _; omega)

theorem inserted_profile (k : ℕ) :
    Profile (inserted v k) fun x => min 50 (level (lead v) x).card + min k (level (repair v) x).card := by
  induction k with
  | zero => simpa [inserted] using table_profile hv
  | succ k ih =>
    intro x hx i
    refine (ih.insertAt (rounds (repair v) (k + 1)) x hx i).trans ?_
    simp only [le_rounds_iff (repair_lt_top hv) hx]
    split_ifs <;> omega

end profile

/-! ## The classes of the top values -/

variable {v : Fin 100352 → EReal} {σ : Fin 50 → Fin 100352}

namespace Separated

variable (h : Separated v σ)
include h

theorem pos (i : Fin 50) : ⊥ < v (σ i) := by
  obtain ⟨p, hp⟩ := exists_notMem σ
  exact bot_le.trans_lt (h.rest p hp i)

theorem inj {i j : Fin 50} (he : v (σ i) = v (σ j)) : i = j := by
  rcases lt_trichotomy i j with hl | hl | hl
  · exact absurd he (h.desc i j hl).ne'
  · exact hl
  · exact absurd he (h.desc j i hl).ne

theorem le_iff {i j : Fin 50} : v (σ i) ≤ v (σ j) ↔ j ≤ i := by
  constructor
  · intro hle
    by_contra hlt
    exact absurd (h.desc i j (not_le.1 hlt)) (not_lt.2 hle)
  · intro hle
    rcases hle.lt_or_eq with hl | hl
    · exact (h.desc j i hl).le
    · rw [hl]

/-- A value at least a top value is a top value. -/
theorem exists_of_le {p : Fin 100352} {i : Fin 50} (hle : v (σ i) ≤ v p) : ∃ j, σ j = p := by
  by_contra hn
  exact absurd (h.rest p (fun j hj => hn ⟨j, hj⟩) i) (not_lt.2 hle)

theorem lt_top (p : Fin 100352) : v p < ⊤ := by
  by_cases hp : ∃ j, σ j = p
  · obtain ⟨j, rfl⟩ := hp; exact h.finite j
  · exact (h.rest p (fun j hj => hp ⟨j, hj⟩) 0).trans (h.finite 0)

theorem card_image (A : Finset (Fin 50)) : (A.image fun i => v (σ i)).card = A.card :=
  Finset.card_image_of_injective _ fun _ _ he => h.inj he

theorem card_class {x : EReal} {i₀ : Fin 50} (hx : v (σ i₀) ≤ x) (c : Fin 6272) :
    (level (member v c) x).card = (Finset.univ.filter fun i => cls (σ i) = c ∧ x ≤ v (σ i)).card := by
  rw [← h.card_image]
  refine congrArg Finset.card (Finset.ext fun y => ?_)
  simp only [mem_level, Finset.mem_image, Finset.mem_filter, Finset.mem_univ, true_and]
  constructor
  · rintro ⟨⟨s, rfl⟩, hy⟩
    obtain ⟨j, hj⟩ := h.exists_of_le (p := col c s) (hx.trans hy)
    exact ⟨j, ⟨by rw [hj, cls_col], by rw [hj]; exact hy⟩, by rw [hj]; rfl⟩
  · rintro ⟨i, ⟨rfl, hi⟩, rfl⟩
    obtain ⟨s, hs⟩ := exists_col (σ i)
    exact ⟨⟨s, by unfold member; rw [hs]⟩, hi⟩

/-- A top value is the round of its class that its rank says. -/
theorem round_rank (i : Fin 50) : rounds (member v (cls (σ i))) (rank σ i + 1) = v (σ i) := by
  have hf : ∀ s, member v (cls (σ i)) s < ⊤ := fun _ => h.lt_top _
  apply le_antisymm
  · by_contra hlt
    rw [not_le] at hlt
    have h1 := (le_rounds_iff hf ((h.pos i).trans hlt) (rank σ i)).1 le_rfl
    rw [h.card_class hlt.le] at h1
    refine absurd (Finset.card_le_card ?_) (not_le.2 h1)
    intro j hj
    simp only [Finset.mem_filter, Finset.mem_univ, true_and] at hj ⊢
    refine ⟨?_, hj.1⟩
    by_contra hn
    exact absurd (hlt.trans_le hj.2) (not_lt.2 (h.le_iff.2 (not_lt.1 hn)))
  · rw [le_rounds_iff hf (h.pos i), h.card_class le_rfl, rank]
    apply Finset.card_lt_card
    rw [Finset.ssubset_iff_of_subset]
    · exact ⟨i, by simp, by simp⟩
    · intro j hj
      simp only [Finset.mem_filter, Finset.mem_univ, true_and] at hj ⊢
      exact ⟨hj.2, h.le_iff.2 hj.1.le⟩

/-- Conversely a round of a class that is at least a top value is one, of that rank. -/
theorem exists_rank {c : Fin 6272} {k : ℕ} {i₀ : Fin 50} (hx : v (σ i₀) ≤ rounds (member v c) (k + 1)) :
    ∃ i, cls (σ i) = c ∧ rank σ i = k ∧ v (σ i) = rounds (member v c) (k + 1) := by
  have hf : ∀ s, member v c s < ⊤ := fun _ => h.lt_top _
  have hb : ⊥ < rounds (member v c) (k + 1) := (h.pos i₀).trans_le hx
  obtain ⟨s, hs⟩ := rounds_attained hb.ne'
  obtain ⟨i, hi⟩ := h.exists_of_le (p := col c s) (hx.trans hs.ge)
  have hc : cls (σ i) = c := by rw [hi, cls_col]
  have hv : v (σ i) = rounds (member v c) (k + 1) := by rw [← hs, hi]; rfl
  refine ⟨i, hc, ?_, hv⟩
  have hr := h.round_rank i
  rw [hc, hv] at hr
  have hanti : ∀ a b, a < b → rounds (member v c) (b + 1) ≠ ⊥ → rounds (member v c) (b + 1) < rounds (member v c) (a + 1) := by
    intro a b hab
    induction b with
    | zero => omega
    | succ b ih =>
      intro hne
      have h1 := rounds_succ_lt hne
      rcases Nat.lt_succ_iff_lt_or_eq.1 hab with h2 | h2
      · exact h1.trans (ih h2 (bot_le.trans_lt h1).ne')
      · rw [h2]; exact h1
  rcases lt_trichotomy (rank σ i) k with hl | hl | hl
  · exact absurd hr (hanti _ _ hl hb.ne').ne'
  · exact hl
  · exact absurd hr (hanti _ _ hl (by rw [hr]; exact hb.ne')).ne

theorem card_lead {x : EReal} {i₀ : Fin 50} (hx : v (σ i₀) ≤ x) :
    (level (lead v) x).card = (Finset.univ.filter fun i => rank σ i = 0 ∧ x ≤ v (σ i)).card := by
  rw [← h.card_image]
  refine congrArg Finset.card (Finset.ext fun y => ?_)
  simp only [mem_level, Finset.mem_image, Finset.mem_filter, Finset.mem_univ, true_and]
  constructor
  · rintro ⟨⟨c, rfl⟩, hy⟩
    obtain ⟨i, -, hr, hv⟩ := h.exists_rank (c := c) (k := 0) (hx.trans hy)
    exact ⟨i, ⟨hr, by rw [hv]; exact hy⟩, hv⟩
  · rintro ⟨i, ⟨hr, hi⟩, rfl⟩
    have := h.round_rank i
    rw [hr] at this
    exact ⟨⟨cls (σ i), this⟩, hi⟩

theorem card_repair {x : EReal} {i₀ : Fin 50} (hx : v (σ i₀) ≤ x) :
    (level (repair v) x).card = (Finset.univ.filter fun i => 1 ≤ rank σ i ∧ x ≤ v (σ i)).card := by
  rw [← h.card_image]
  refine congrArg Finset.card (Finset.ext fun y => ?_)
  simp only [mem_level, Finset.mem_image, Finset.mem_filter, Finset.mem_univ, true_and]
  constructor
  · rintro ⟨⟨c, rfl⟩, hy⟩
    have hy' := hy
    unfold repair at hy' ⊢
    split_ifs at hy' ⊢ with hc
    · obtain ⟨i, -, hr, hv⟩ := h.exists_rank (k := 1) (hx.trans hy')
      exact ⟨i, ⟨hr.ge, by rw [hv]; exact hy'⟩, hv⟩
    · obtain ⟨i, -, hr, hv⟩ := h.exists_rank (k := 2) (hx.trans hy')
      exact ⟨i, ⟨by omega, by rw [hv]; exact hy'⟩, hv⟩
  · rintro ⟨i, ⟨hr, hi⟩, rfl⟩
    have hrr := h.round_rank i
    refine ⟨?_, hi⟩
    have h2 := h.few i
    rcases (show rank σ i = 1 ∨ rank σ i = 2 by omega) with e | e
    · rw [e] at hrr
      refine ⟨⟨cls (σ i), by omega⟩, ?_⟩
      unfold repair
      rw [dif_pos (cls (σ i)).isLt]
      exact hrr
    · rw [e] at hrr
      refine ⟨⟨cls (σ i) + 6272, by omega⟩, ?_⟩
      unfold repair
      rw [dif_neg (by simp only; omega)]
      simp only [Nat.add_sub_cancel]
      exact hrr

/-- THE TOP VALUES: after the eight insertions the table's first 50 lanes are the row's 50 greatest values in order. -/
theorem inserted_eq (i : Fin 50) : inserted v 8 ⟨i, by omega⟩ = v (σ i) := by
  have key : ∀ x, v (σ i) ≤ x → (x ≤ inserted v 8 ⟨i, by omega⟩ ↔ (i : ℕ) < (Finset.univ.filter fun j => x ≤ v (σ j)).card) := by
    intro x hx
    rw [inserted_profile h.lt_top 8 x ((h.pos i).trans_le hx)]
    show (i : ℕ) < min 50 (level (lead v) x).card + min 8 (level (repair v) x).card ↔ _
    rw [h.card_lead hx, h.card_repair hx]
    have h1 : (Finset.univ.filter fun i => rank σ i = 0 ∧ x ≤ v (σ i)).card ≤ 50 :=
      (Finset.card_le_univ _).trans (by simp)
    have h2 : (Finset.univ.filter fun i => 1 ≤ rank σ i ∧ x ≤ v (σ i)).card ≤ 8 := by
      refine (Finset.card_le_card fun j hj => ?_).trans h.repaired
      simp only [Finset.mem_filter, Finset.mem_univ, true_and] at hj ⊢
      exact hj.1
    have h3 : (Finset.univ.filter fun j => x ≤ v (σ j)).card
        = (Finset.univ.filter fun i => rank σ i = 0 ∧ x ≤ v (σ i)).card
          + (Finset.univ.filter fun i => 1 ≤ rank σ i ∧ x ≤ v (σ i)).card := by
      rw [← Finset.card_union_of_disjoint]
      · congr 1
        ext j
        simp only [Finset.mem_filter, Finset.mem_univ, true_and, Finset.mem_union]
        rcases Nat.eq_zero_or_pos (rank σ j) with e | e
        · simp [e]
        · simp [e.ne', Nat.succ_le_of_lt e]
      · rw [Finset.disjoint_left]
        intro j hj
        simp only [Finset.mem_filter, Finset.mem_univ, true_and] at hj ⊢
        omega
    rw [min_eq_right h1, min_eq_right h2, h3]
  apply le_antisymm
  · by_contra hlt
    rw [not_le] at hlt
    have h1 := (key _ hlt.le).1 le_rfl
    have h2 : (Finset.univ.filter fun j => inserted v 8 ⟨i, by omega⟩ ≤ v (σ j)).card ≤ i := by
      refine (Finset.card_le_card (t := Finset.Iio i) fun j hj => ?_).trans_eq (Fin.card_Iio i)
      simp only [Finset.mem_filter, Finset.mem_univ, true_and, Finset.mem_Iio] at hj ⊢
      by_contra hn
      exact absurd (hlt.trans_le hj) (not_lt.2 (h.le_iff.2 (not_lt.1 hn)))
    omega
  · rw [key _ le_rfl]
    have : (Finset.Iic i).card ≤ (Finset.univ.filter fun j => v (σ i) ≤ v (σ j)).card :=
      Finset.card_le_card fun j hj => by
        simp only [Finset.mem_filter, Finset.mem_univ, true_and]
        exact h.le_iff.2 (Finset.mem_Iic.1 hj)
    rw [Fin.card_Iic] at this
    omega

end Separated

end Sel

end
-- ==== Proof.SelSixteen.lean ====
/- One round over a class of 16 columns, written out. -/
module

public import proofs.«01_k».proof.Proof.SelClass

@[expose] public section

noncomputable section

namespace Sel

theorem sup_fin16 (g : Fin 16 → EReal) : Finset.univ.sup g = max (max (max (max (max (max (max (max (max (max (max (max (max (max (max (max (⊥) (g 0)) (g 1)) (g 2)) (g 3)) (g 4)) (g 5)) (g 6)) (g 7)) (g 8)) (g 9)) (g 10)) (g 11)) (g 12)) (g 13)) (g 14)) (g 15) := by
  rw [show (Finset.univ : Finset (Fin 16)) = {0, 1, 2, 3, 4, 5, 6, 7, 8, 9, 10, 11, 12, 13, 14, 15} from by decide]
  apply le_antisymm
  · simp only [Finset.sup_insert, Finset.sup_singleton, sup_le_iff]
    simp only [le_max_iff, le_refl, true_or, or_true, and_self]
  · simp only [max_le_iff, bot_le, true_and]
    refine ⟨⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩, ?_⟩ <;> exact Finset.le_sup (by decide)

/-- The greatest value of a class below `b`, member by member. -/
theorem below_member (v : Fin 100352 → EReal) (c : Fin 6272) (b : EReal) :
    below (member v c) b = max (max (max (max (max (max (max (max (max (max (max (max (max (max (max (max (⊥) (if v ⟨c, by omega⟩ < b then v ⟨c, by omega⟩ else ⊥)) (if v ⟨6272 + c, by omega⟩ < b then v ⟨6272 + c, by omega⟩ else ⊥)) (if v ⟨12544 + c, by omega⟩ < b then v ⟨12544 + c, by omega⟩ else ⊥)) (if v ⟨18816 + c, by omega⟩ < b then v ⟨18816 + c, by omega⟩ else ⊥)) (if v ⟨25088 + c, by omega⟩ < b then v ⟨25088 + c, by omega⟩ else ⊥)) (if v ⟨31360 + c, by omega⟩ < b then v ⟨31360 + c, by omega⟩ else ⊥)) (if v ⟨37632 + c, by omega⟩ < b then v ⟨37632 + c, by omega⟩ else ⊥)) (if v ⟨43904 + c, by omega⟩ < b then v ⟨43904 + c, by omega⟩ else ⊥)) (if v ⟨50176 + c, by omega⟩ < b then v ⟨50176 + c, by omega⟩ else ⊥)) (if v ⟨56448 + c, by omega⟩ < b then v ⟨56448 + c, by omega⟩ else ⊥)) (if v ⟨62720 + c, by omega⟩ < b then v ⟨62720 + c, by omega⟩ else ⊥)) (if v ⟨68992 + c, by omega⟩ < b then v ⟨68992 + c, by omega⟩ else ⊥)) (if v ⟨75264 + c, by omega⟩ < b then v ⟨75264 + c, by omega⟩ else ⊥)) (if v ⟨81536 + c, by omega⟩ < b then v ⟨81536 + c, by omega⟩ else ⊥)) (if v ⟨87808 + c, by omega⟩ < b then v ⟨87808 + c, by omega⟩ else ⊥)) (if v ⟨94080 + c, by omega⟩ < b then v ⟨94080 + c, by omega⟩ else ⊥) := by
  unfold below
  rw [sup_fin16, show member v c 0 = v ⟨c, by omega⟩ from congrArg v (Fin.ext (Nat.zero_add _))]
  rfl

/-- The greatest value of a class. -/
theorem lead_eq (v : Fin 100352 → EReal) (hv : ∀ p, v p < ⊤) (c : Fin 6272) :
    lead v c = max (max (max (max (max (max (max (max (max (max (max (max (max (max (max (max (⊥) (v ⟨c, by omega⟩)) (v ⟨6272 + c, by omega⟩)) (v ⟨12544 + c, by omega⟩)) (v ⟨18816 + c, by omega⟩)) (v ⟨25088 + c, by omega⟩)) (v ⟨31360 + c, by omega⟩)) (v ⟨37632 + c, by omega⟩)) (v ⟨43904 + c, by omega⟩)) (v ⟨50176 + c, by omega⟩)) (v ⟨56448 + c, by omega⟩)) (v ⟨62720 + c, by omega⟩)) (v ⟨68992 + c, by omega⟩)) (v ⟨75264 + c, by omega⟩)) (v ⟨81536 + c, by omega⟩)) (v ⟨87808 + c, by omega⟩)) (v ⟨94080 + c, by omega⟩) := by
  show below (member v c) ⊤ = _
  rw [below_member]
  simp only [hv, if_true]

end Sel

end
-- ==== Proof.SelBlock.lean ====
/-
  The select body's vector operations read row by row over the extended reals: the greatest value of each class, the
  classes' second and third values, one round of either loop.
-/
module

public import proofs.«01_k».proof.Proof.Gen.Kernel2Ideal.Skeleton
public import proofs.«01_k».proof.Proof.SelSixteen
public import Idealize.ShloMosaic.Lib.Pointwise
public import Idealize.ShloMosaic.Lib.WordCmp
public import Idealize.ShloMosaic.Lib.IndicatorCount

@[expose] public section

set_option maxRecDepth 16384

noncomputable section

namespace Cert.Kernel2Ideal.Select

open Cert.Kernel2Ideal.Gen Idealize.ShloMosaic Idealize.SL.Sem

/-- Row `q` of a block. -/
def row (x : Vec Ideal S8x100352 .f32) (q : Fin 8) : Fin 100352 → EReal := fun p => x (ix2 q p)

theorem mask_eq : (Named.named κ "mask" (φ := .f32) 0xF149F2CA#32 : Ideal .f32) = ⊥ := rfl

theorem fold_max {ι : Type} (s : Finset ι) (f : ι → EReal) : s.fold max ⊥ f = s.sup f := by
  classical
  induction s using Finset.induction_on with
  | empty => rfl
  | insert a s ha ih => rw [Finset.fold_insert ha, Finset.sup_insert, ih]

theorem fold_min {ι : Type} (s : Finset ι) (f : ι → EReal) : s.fold min ⊤ f = s.inf f := by
  classical
  induction s using Finset.induction_on with
  | empty => rfl
  | insert a s ha ih => rw [Finset.fold_insert ha, Finset.inf_insert, ih]

theorem ofBits_bot : Ideal.ofBits FTy.f32 0xFF800000#32 = ⊥ := rfl
theorem ofBits_top : Ideal.ofBits FTy.f32 0x7F800000#32 = ⊤ := rfl

/-! ## The classes' values -/

variable (x : Vec Ideal S8x100352 .f32) (q : Fin 8)

theorem lead_apply (hv : ∀ p, row x q p < ⊤) (c : Fin 6272) : k0_pay2 (F := Ideal) x (ix2 q c) = Sel.lead (row x q) c := by
  rw [Sel.lead_eq _ hv]
  pointwise [k0_pay2]
  simp only [← Nat.add_assoc, Nat.reduceAdd, row, bot_le, max_eq_right]
  ac_rfl

/-- The classes' second values, as the body computes them in three stretches. -/
def second (x : Vec Ideal S8x100352 .f32) : FVec Ideal S8x6272 .f32 :=
  k0_pay11 (k0_pay2 x) (k0_pay9 x (k0_pay2 x) (k0_pay7 x) (k0_pay8 x)) (k0_pay10 x)

theorem second_apply (hv : ∀ p, row x q p < ⊤) (c : Fin 6272) :
    second x (ix2 q c) = Sel.rounds (Sel.member (row x q) c) 2 := by
  show _ = Sel.below _ (Sel.lead (row x q) c)
  rw [Sel.below_member, ← lead_apply x q hv]
  pointwise [second, k0_pay7, k0_pay8, k0_pay9, k0_pay10, k0_pay11]
  simp only [mask_eq, row]
  rfl

/-- The second and third values of the classes, side by side. -/
def seconds (x : Vec Ideal S8x100352 .f32) (a : FVec Ideal S8x1 .f32) : FVec Ideal S8x1 .f32 :=
  k0_pay14 x (second x) (k0_pay12 x (k0_pay2 x) (k0_pay9 x (k0_pay2 x) (k0_pay7 x) (k0_pay8 x)) (k0_pay10 x))
    (k0_pay13 x (k0_pay2 x) (k0_pay9 x (k0_pay2 x) (k0_pay7 x) (k0_pay8 x)) (k0_pay10 x)) a

/-! ## One round of each loop -/

theorem round_lead (hv : ∀ p, row x q p < ⊤) (a : FVec Ideal S8x1 .f32) :
    k0_pay5 (F := Ideal) x a (ix2 q 0) = Sel.below (Sel.lead (row x q)) (a (ix2 q 0)) := by
  pointwise [k0_pay5]
  simp only [mask_eq, lead_apply x q hv, ofBits_bot]
  exact fold_max _ _

theorem round_repair (hv : ∀ p, row x q p < ⊤) (a : FVec Ideal S8x1 .f32) :
    seconds x a (ix2 q 0) = Sel.below (Sel.repair (row x q)) (a (ix2 q 0)) := by
  unfold seconds
  have h11 : k0_pay11 (k0_pay2 x) (k0_pay9 x (k0_pay2 x) (k0_pay7 x) (k0_pay8 x)) (k0_pay10 x) = second x := rfl
  pointwise [k0_pay14, k0_pay12, k0_pay13]
  simp only [h11]
  simp only [mask_eq, ofBits_bot]
  refine (fold_max _ _).trans (Finset.sup_congr rfl fun y _ => ?_)
  have e : ∀ r : EReal, Sel.repair (row x q) y = r → (if r < a (ix2 q 0) then r else ⊥)
      = if Sel.repair (row x q) y < a (ix2 q 0) then Sel.repair (row x q) y else ⊥ := fun r h => by rw [h]
  by_cases hy : (y : ℕ) < 6272
  · simp only [dif_pos hy]
    exact e _ ((dif_pos hy).trans (second_apply x q hv ⟨y, hy⟩).symm)
  · simp only [dif_neg hy]
    refine e _ ((dif_neg hy).trans ?_)
    show Sel.below _ (Sel.rounds (Sel.member (row x q) _) 2) = _
    rw [← second_apply x q hv, Sel.below_member]
    rfl

/-- The lane numbers of the table. -/
def lanes : IVec S8x64 32 := iota .tc S8x64 32 [1] iota_S8x64_d1_w32

theorem ofBool_eq_one (p : Prop) [Decidable p] : (BitVec.ofBool (decide p) = 1#1) ↔ p := by
  by_cases h : p <;> simp [h]

theorem select_ite {α : Type} {b : BitVec 1} {p : Prop} [Decidable p] (h : b = 1#1 ↔ p) (u w : α) :
    Scalar.select b u w = if p then u else w := by
  by_cases hp : p
  · rw [if_pos hp]; exact if_pos (h.mpr hp)
  · rw [if_neg hp]; exact if_neg fun hb => hp (h.mp hb)

theorem lane_lt {n : ℕ} (c : Fin 64) (hn : n < 2 ^ 31) :
    IntOp.cmpi .slt (BitVec.ofNat 32 c) (BitVec.ofNat 32 n) = 1#1 ↔ (c : ℕ) < n :=
  WordCmp.cmpi_slt_ofNat_eq_one_iff (by omega) hn

theorem lane_eq {n : ℕ} (c : Fin 64) (hn : n < 2 ^ 31) :
    IntOp.cmpi .eq (BitVec.ofNat 32 c) (BitVec.ofNat 32 n) = 1#1 ↔ (c : ℕ) = n :=
  WordCmp.cmpi_eq_ofNat_eq_one_iff (by omega) (by omega)

theorem iv_eq (k : ℕ) : Scf.iv 0#32 1#32 k = BitVec.ofNat 32 k := by
  rw [Scf.iv, BitVec.mul_one, BitVec.zero_add]

theorem round_table (a : FVec Ideal S8x1 .f32) (b : FVec Ideal S8x64 .f32) (k : Fin k0_t1_loop.trips) (c : Fin 64) :
    k0_pay6 (F := Ideal) x k a b (ix2 q c)
      = if (c : ℕ) = k then k0_pay5 (F := Ideal) x a (ix2 q 0) else b (ix2 q c) := by
  have hk : (k : ℕ) < 50 := k.isLt
  pointwise [k0_pay6]
  rw [iv_eq]
  exact select_ite (lane_eq c (by omega)) _ _

theorem round_insert (v98 : FVec Ideal S8x6272 .f32) (v139 : FVec Ideal S8x6272 .f32) (v143 : FVec Ideal S8x6272 .f32)
    (a : FVec Ideal S8x1 .f32) (b : FVec Ideal S8x64 .f32) (c : Fin 64) :
    k0_pay15 (F := Ideal) x lanes v98 v139 v143 a b (ix2 q c)
      = Sel.insertAt (fun i => b (ix2 q i)) (k0_pay14 (F := Ideal) x v98 v139 v143 a (ix2 q 0)) c := by
  unfold lanes
  generalize hm : k0_pay14 (F := Ideal) x v98 v139 v143 a (ix2 q 0) = mm
  have hn : Sel.above (fun i => b (ix2 q i)) mm < 2 ^ 31 :=
    lt_of_le_of_lt (Finset.card_le_univ _) (by simp)
  have e : (Finset.fold IntOp.addi 0#32 (fun y : Fin 64 => BitVec.setWidth 32 (BitVec.ofBool (decide (mm < b (ix2 q y))))) Finset.univ)
      = BitVec.ofNat 32 (Sel.above (fun i => b (ix2 q i)) mm) := by
    rw [IndicatorCount.fold_addi_setWidth_eq_card]
    exact congrArg (fun A : Finset (Fin 64) => BitVec.ofNat 32 A.card) (Finset.filter_congr fun y _ => ofBool_eq_one _)
  pointwise [k0_pay15]
  simp only [hm]
  rw [e]
  refine (select_ite (lane_lt c hn) _ _).trans ?_
  rw [Sel.insertAt]
  refine if_congr Iff.rfl rfl ((select_ite (lane_eq c hn) _ _).trans (if_congr Iff.rfl rfl ?_))
  by_cases hc : (c : ℕ) < 1
  · rw [dif_pos hc]
    exact congrArg (fun i => b (ix2 q i)) (Fin.ext (by show (c : ℕ) = c - 1; omega))
  · rw [dif_neg hc]

/-! ## The loops -/

theorem fold_inv {σ : Type} {n : ℕ} (Inv : ℕ → σ → Prop) (g : Fin n → σ → σ) (init : σ) (h0 : Inv 0 init)
    (hs : ∀ (k : Fin n) (s : σ), Inv k s → Inv (k + 1) (g k s)) : Inv n (Scf.fold g init) := by
  rw [Scf.fold_eq]
  induction n with
  | zero => simpa using h0
  | succ n ih =>
    rw [List.finRange_succ_last, List.foldl_append, List.foldl_map]
    exact hs (Fin.last n) _ (ih (fun k => g k.castSucc) fun k s => hs k.castSucc s)

/-- The first loop: the table of the classes' greatest values. -/
def loop1 (x : Vec Ideal S8x100352 .f32) : FVec Ideal S8x1 .f32 × FVec Ideal S8x64 .f32 :=
  Scf.fold (fun (k : Fin k0_t1_loop.trips) s => (k0_pay5 (F := Ideal) x s.1, k0_pay6 (F := Ideal) x k s.1 s.2)) (k0_pay3, k0_pay4)

/-- The second loop: the classes' second and third values inserted. -/
def loop2 (x : Vec Ideal S8x100352 .f32) : FVec Ideal S8x1 .f32 × FVec Ideal S8x64 .f32 :=
  Scf.fold (fun (k : Fin k0_t2_loop.trips) s => (seconds x s.1,
    k0_pay15 (F := Ideal) x lanes (second x) (k0_pay12 x (k0_pay2 x) (k0_pay9 x (k0_pay2 x) (k0_pay7 x) (k0_pay8 x)) (k0_pay10 x))
      (k0_pay13 x (k0_pay2 x) (k0_pay9 x (k0_pay2 x) (k0_pay7 x) (k0_pay8 x)) (k0_pay10 x)) s.1 s.2)) (k0_pay3, (loop1 x).2)

theorem loop1_apply (hv : ∀ p, row x q p < ⊤) (c : Fin 64) : (loop1 x).2 (ix2 q c) = Sel.table (row x q) c := by
  have h := fold_inv (fun k s => s.1 (ix2 q 0) = Sel.rounds (Sel.lead (row x q)) k
      ∧ ∀ c : Fin 64, s.2 (ix2 q c) = if (c : ℕ) < k then Sel.rounds (Sel.lead (row x q)) (c + 1) else ⊥)
    (fun (k : Fin k0_t1_loop.trips) s => (k0_pay5 (F := Ideal) x s.1, k0_pay6 (F := Ideal) x k s.1 s.2)) (k0_pay3, k0_pay4)
    ⟨rfl, fun c => (if_neg (Nat.not_lt_zero _)).symm⟩ (fun k s hs => by
      dsimp only at hs ⊢
      have h5 : k0_pay5 (F := Ideal) x s.1 (ix2 q 0) = Sel.rounds (Sel.lead (row x q)) (k + 1) := by
        rw [round_lead x q hv, hs.1]; rfl
      refine ⟨h5, fun c => ?_⟩
      show k0_pay6 (F := Ideal) x k s.1 s.2 (ix2 q c) = _
      rw [round_table, h5, hs.2 c]
      by_cases hc : (c : ℕ) = k
      · rw [if_pos hc, if_pos (by omega), hc]
      · rw [if_neg hc]
        exact if_congr (by omega) rfl rfl)
  exact h.2 c

theorem loop2_apply (hv : ∀ p, row x q p < ⊤) (c : Fin 64) : (loop2 x).2 (ix2 q c) = Sel.inserted (row x q) 8 c := by
  have h := fold_inv (fun k s => s.1 (ix2 q 0) = Sel.rounds (Sel.repair (row x q)) k
      ∧ (fun c : Fin 64 => s.2 (ix2 q c)) = Sel.inserted (row x q) k)
    (fun (k : Fin k0_t2_loop.trips) s => (seconds x s.1,
      k0_pay15 (F := Ideal) x lanes (second x) (k0_pay12 x (k0_pay2 x) (k0_pay9 x (k0_pay2 x) (k0_pay7 x) (k0_pay8 x)) (k0_pay10 x))
        (k0_pay13 x (k0_pay2 x) (k0_pay9 x (k0_pay2 x) (k0_pay7 x) (k0_pay8 x)) (k0_pay10 x)) s.1 s.2)) (k0_pay3, (loop1 x).2)
    ⟨rfl, funext fun c => loop1_apply x q hv c⟩ (fun k s hs => by
      dsimp only at hs ⊢
      have h5 : seconds x s.1 (ix2 q 0) = Sel.rounds (Sel.repair (row x q)) (k + 1) := by
        rw [round_repair x q hv, hs.1]; rfl
      refine ⟨h5, funext fun c => ?_⟩
      refine (round_insert x q _ _ _ s.1 s.2 c).trans ?_
      rw [hs.2]
      exact congrArg (fun z => Sel.insertAt (Sel.inserted (row x q) k) z c) h5)
  exact congrFun h.2 c

/-! ## What the body stores -/

/-- The block the body stores. -/
def block (x : Vec Ideal S8x100352 .f32) : FVec Ideal S8x100352 .f32 :=
  k0_pay1 x lanes (loop2 x).2 (k0_pay16 (loop2 x).2) (k0_pay17 lanes (loop2 x).2)

/-- A row's result from its table `t`. -/
def finish (t : Fin 64 → EReal) (v : Fin 100352 → EReal) (p : Fin 100352) : EReal :=
  let w : Fin 64 → EReal := fun i => if (i : ℕ) < 50 then Ideal.exp (t i - t 0) else 0
  let keep : Fin 64 → Prop := fun i =>
    (∑ r : Fin 64, w r * (if r < i then 1 else 0)) ≤ Ideal.ofBits .f32 0x3F666666#32 * (∑ r, w r) ∧ (i : ℕ) < 50
  if (Finset.univ.inf fun i => open Classical in if keep i then t i else ⊤) ≤ v p then
    Ideal.div (Ideal.exp (v p - t 0)) (∑ i, open Classical in if keep i then w i else 0)
  else 0

theorem sitofp_one : (FloatOps.sitofp FTy.f32 (BitVec.setWidth 32 (1#1)) : Ideal .f32) = (1 : EReal) := by
  show ((((BitVec.setWidth 32 (1#1)).toInt : ℤ) : ℝ) : EReal) = 1
  have h : (BitVec.setWidth 32 (1#1)).toInt = 1 := by decide
  rw [h]; norm_num

theorem sitofp_zero : (FloatOps.sitofp FTy.f32 (BitVec.setWidth 32 (0#1)) : Ideal .f32) = (0 : EReal) := by
  show ((((BitVec.setWidth 32 (0#1)).toInt : ℤ) : ℝ) : EReal) = 0
  have h : (BitVec.setWidth 32 (0#1)).toInt = 0 := by decide
  rw [h]; norm_num

theorem bit_cases (b : BitVec 1) : b = 0#1 ∨ b = 1#1 := by
  revert b; decide

theorem and_iff (i : Fin 64) (p : Prop) [Decidable p] :
    IntOp.andi (BitVec.ofBool (decide p)) (IntOp.cmpi .slt (BitVec.ofNat 32 i) 50#32) = 1#1 ↔ p ∧ (i : ℕ) < 50 := by
  have ha := ofBool_eq_one p
  rw [← lane_lt (n := 50) i (by omega)]
  show IntOp.andi _ (IntOp.cmpi .slt (BitVec.ofNat 32 i) (BitVec.ofNat 32 50)) = 1#1 ↔ _
  generalize BitVec.ofBool (decide p) = a at ha ⊢
  rw [← ha]
  clear ha
  generalize IntOp.cmpi .slt (BitVec.ofNat 32 i) (BitVec.ofNat 32 50) = b
  revert a b; decide

theorem block_apply (hv : ∀ p, row x q p < ⊤) (p : Fin 100352) :
    block x (ix2 q p) = finish (Sel.inserted (row x q) 8) (row x q) p := by
  have et : ∀ c, (loop2 x).2 (ix2 q c) = Sel.inserted (row x q) 8 c := loop2_apply x q hv
  have ew : ∀ c : Fin 64, k0_pay17 (F := Ideal) lanes (loop2 x).2 (ix2 q c)
      = if (c : ℕ) < 50 then Ideal.exp (Sel.inserted (row x q) 8 c - Sel.inserted (row x q) 8 0) else 0 := by
    intro c
    unfold lanes
    pointwise [k0_pay17, k0_pay16]
    simp only [et]
    exact select_ite (lane_lt c (by omega)) _ _
  have e0 : k0_pay16 (F := Ideal) (loop2 x).2 (ix2 q 0) = Sel.inserted (row x q) 8 0 := by
    pointwise [k0_pay16]
    exact et 0
  unfold block
  generalize k0_pay17 (F := Ideal) lanes (loop2 x).2 = W at ew
  generalize k0_pay16 (F := Ideal) (loop2 x).2 = A at e0
  generalize (loop2 x).2 = T at et
  unfold lanes
  pointwise [k0_pay1]
  simp only [et, ew, e0]
  have eb : ∀ r i : Fin 64, (FloatOps.sitofp FTy.f32 (BitVec.setWidth 32 (IntOp.cmpi .slt (BitVec.ofNat 32 r) (BitVec.ofNat 32 i))) : Ideal .f32)
      = if r < i then (1 : EReal) else 0 := by
    intro r i
    have hi := lane_lt r (n := i) (by omega)
    by_cases h : r < i
    · rw [if_pos h, hi.mpr h]
      exact sitofp_one
    · rw [if_neg h, (bit_cases _).resolve_right fun hb => h (hi.mp hb)]
      exact sitofp_zero
  simp only [eb, ofBits_top]
  unfold finish
  dsimp only
  refine if_congr ?_ ?_ rfl
  · rw [show (⊤ : EReal) = ⊤ from rfl, fold_min]
    exact iff_of_eq (congrArg (· ≤ x (ix2 q p)) (Finset.inf_congr rfl fun i _ => select_ite (and_iff i _) _ _))
  · exact congrArg _ (Finset.sum_congr rfl fun i _ => select_ite (and_iff i _) _ _)

end Cert.Kernel2Ideal.Select

end
-- ==== Proof.SelSpec.lean ====
/-
  The probabilities of one row over the reals: the fifty greatest values' weights, those kept by the cumulative bound,
  and each kept weight's share of the kept total. The select body's last step is this.
-/
module

public import proofs.«01_k».proof.Proof.SelBlock
public import Idealize.ShloMosaic.Lib.IdealHost

@[expose] public section

noncomputable section

namespace Sel

open Idealize.ShloMosaic

variable (v : Fin 100352 → EReal) (σ : Fin 50 → Fin 100352)

/-- The weight of top position `i`. -/
def weight (i : Fin 50) : ℝ := Real.exp ((v (σ i)).toReal - (v (σ 0)).toReal)

/-- The cumulative bound, `f32(0.9)`. -/
def topP : ℝ := 15099494 / 16777216

/-- Position `i` is kept: what comes before it does not exceed the bound. -/
def Keep (i : Fin 50) : Prop := (∑ r : Fin 50, if r < i then weight v σ r else 0) ≤ topP * ∑ r, weight v σ r

open Classical in
/-- The kept weights' total. -/
def kept : ℝ := ∑ i : Fin 50, if Keep v σ i then weight v σ i else 0

open Classical in
/-- The probability at column `p`. -/
def prob (p : Fin 100352) : EReal :=
  if ∃ i, Keep v σ i ∧ σ i = p then ((Real.exp ((v p).toReal - (v (σ 0)).toReal) / kept v σ : ℝ) : EReal) else 0

theorem ofBits_topP : Ideal.ofBits .f32 0x3F666666#32 = ((topP : ℝ) : EReal) := by
  simp [Ideal.ofBits, Ideal.ieee, -EReal.coe_mul, topP]; norm_num

theorem ofBits_two : Ideal.ofBits .f32 0x40000000#32 = ((2 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem weight_pos (i : Fin 50) : 0 < weight v σ i := Real.exp_pos _

theorem keep_mono {i j : Fin 50} (hji : j ≤ i) (h : Keep v σ i) : Keep v σ j := by
  refine le_trans (Finset.sum_le_sum fun r _ => ?_) h
  by_cases h1 : r < j
  · rw [if_pos h1, if_pos (lt_of_lt_of_le h1 hji)]
  · rw [if_neg h1]
    split
    · exact (weight_pos v σ r).le
    · exact le_rfl

theorem keep_zero : Keep v σ 0 := by
  unfold Keep
  rw [Finset.sum_eq_zero fun r _ => if_neg (not_lt.mpr (Fin.zero_le r))]
  exact mul_nonneg (by norm_num [topP]) (Finset.sum_nonneg fun r _ => (weight_pos v σ r).le)

theorem kept_pos : 0 < kept v σ := by
  classical
  refine Finset.sum_pos' (fun i _ => ?_) ⟨0, Finset.mem_univ _, ?_⟩
  · split
    · exact (weight_pos v σ i).le
    · exact le_rfl
  · rw [if_pos (keep_zero v σ)]
    exact weight_pos v σ 0

theorem coe_sum {ι : Type} (s : Finset ι) (g : ι → ℝ) : (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

theorem sum64 (f : Fin 64 → EReal) (g : Fin 50 → ℝ) (h : ∀ i : Fin 50, f ⟨i, by omega⟩ = ((g i : ℝ) : EReal))
    (h0 : ∀ i : Fin 64, ¬ (i : ℕ) < 50 → f i = 0) : (∑ i, f i) = ((∑ i, g i : ℝ) : EReal) := by
  refine (Fin.sum_univ_add (a := 50) (b := 14) f).trans ?_
  rw [Finset.sum_eq_zero (s := (Finset.univ : Finset (Fin 14))) (fun i _ => h0 _ (by simp)), add_zero, ← coe_sum]
  exact Finset.sum_congr rfl fun i _ => h i

variable {v σ}

theorem Separated.coe (h : Separated v σ) (i : Fin 50) : v (σ i) = (((v (σ i)).toReal : ℝ) : EReal) :=
  (EReal.coe_toReal (h.finite i).ne (h.pos i).ne').symm

theorem Separated.exp_sub (h : Separated v σ) (i : Fin 50) : Ideal.exp (v (σ i) - v (σ 0)) = ((weight v σ i : ℝ) : EReal) := by
  rw [h.coe i, h.coe 0, ← EReal.coe_sub, Ideal.exp_coe]
  rfl

theorem Separated.finish_eq (h : Separated v σ) (t : Fin 64 → EReal) (ht : ∀ i : Fin 50, t ⟨i, by omega⟩ = v (σ i))
    (p : Fin 100352) : Cert.Kernel2Ideal.Select.finish t v p = prob v σ p := by
  classical
  have t0 : t 0 = v (σ 0) := ht 0
  have ew : ∀ i : Fin 50, (if ((⟨i, by omega⟩ : Fin 64) : ℕ) < 50 then Ideal.exp (t ⟨i, by omega⟩ - t 0) else 0)
      = ((weight v σ i : ℝ) : EReal) := fun i => by
    rw [if_pos i.isLt, ht, t0, h.exp_sub]
  have eZ : (∑ i : Fin 64, if (i : ℕ) < 50 then Ideal.exp (t i - t 0) else 0) = ((∑ i, weight v σ i : ℝ) : EReal) :=
    sum64 _ _ ew fun i hi => if_neg hi
  have eC : ∀ i : Fin 50, (∑ r : Fin 64, (if (r : ℕ) < 50 then Ideal.exp (t r - t 0) else 0) * (if r < (⟨i, by omega⟩ : Fin 64) then 1 else 0))
      = ((∑ r : Fin 50, if r < i then weight v σ r else 0 : ℝ) : EReal) := fun i => by
    refine sum64 _ _ (fun r => ?_) fun r hr => by rw [if_neg hr, zero_mul]
    rw [ew]
    by_cases hr : r < i
    · rw [if_pos hr, if_pos (show (⟨r, _⟩ : Fin 64) < ⟨i, _⟩ from hr), mul_one]
    · rw [if_neg hr, if_neg (show ¬ (⟨r, _⟩ : Fin 64) < ⟨i, _⟩ from hr), mul_zero]; rfl
  have eK : ∀ i : Fin 64, ((∑ r : Fin 64, (if (r : ℕ) < 50 then Ideal.exp (t r - t 0) else 0) * (if r < i then 1 else 0))
        ≤ Ideal.ofBits .f32 0x3F666666#32 * (∑ r : Fin 64, if (r : ℕ) < 50 then Ideal.exp (t r - t 0) else 0) ∧ (i : ℕ) < 50)
      ↔ ∃ hi : (i : ℕ) < 50, Keep v σ ⟨i, hi⟩ := fun i => by
    rw [and_comm, ← exists_prop]
    refine exists_congr fun hi => ?_
    have e := eC ⟨i, hi⟩
    rw [show (⟨((⟨i, hi⟩ : Fin 50) : ℕ), by omega⟩ : Fin 64) = i from rfl] at e
    rw [e, eZ, ofBits_topP, ← EReal.coe_mul, EReal.coe_le_coe_iff]
    rfl
  unfold Cert.Kernel2Ideal.Select.finish prob
  dsimp only
  simp only [eK]
  have ec : (Finset.univ.inf fun i : Fin 64 => if ∃ hi : (i : ℕ) < 50, Keep v σ ⟨i, hi⟩ then t i else ⊤) ≤ v p
      ↔ ∃ i, Keep v σ i ∧ σ i = p := by
    rw [Finset.inf_le_iff (h.lt_top p)]
    constructor
    · rintro ⟨i, -, hi⟩
      by_cases hk : ∃ hi : (i : ℕ) < 50, Keep v σ ⟨i, hi⟩
      · rw [if_pos hk] at hi
        obtain ⟨h50, hk⟩ := hk
        have hi' : v (σ ⟨i, h50⟩) ≤ v p := (ht ⟨i, h50⟩).symm.trans_le hi
        obtain ⟨j, hj⟩ := h.exists_of_le hi'
        rw [← hj] at hi'
        exact ⟨j, keep_mono v σ (h.le_iff.mp hi') hk, hj⟩
      · rw [if_neg hk] at hi
        exact absurd (lt_of_le_of_lt hi (h.lt_top p)) (lt_irrefl _)
    · rintro ⟨i, hk, hi⟩
      refine ⟨⟨i, by omega⟩, Finset.mem_univ _, ?_⟩
      rw [if_pos ⟨i.isLt, hk⟩, ht, hi]
  have eD : (∑ i : Fin 64, if ∃ hi : (i : ℕ) < 50, Keep v σ ⟨i, hi⟩ then (if (i : ℕ) < 50 then Ideal.exp (t i - t 0) else 0) else 0)
      = ((kept v σ : ℝ) : EReal) := by
    refine sum64 _ _ (fun i => ?_) fun i hi => if_neg fun hk => hi hk.1
    rw [ew]
    by_cases hk : Keep v σ i
    · rw [if_pos hk, if_pos ⟨i.isLt, hk⟩]
    · rw [if_neg hk, if_neg fun hk' => hk hk'.2]; rfl
  by_cases hc : ∃ i, Keep v σ i ∧ σ i = p
  · rw [if_pos hc, if_pos (ec.mpr hc), eD]
    obtain ⟨i, -, rfl⟩ := hc
    rw [t0, h.exp_sub, Ideal.div_coe (kept_pos v σ).ne', ← EReal.coe_mul, mul_one_div]
    rfl
  · rw [if_neg hc, if_neg fun hh => hc (ec.mp hh)]

end Sel

end
-- ==== Proof.SelTensor.lean ====
/-
  Readings of host operations at an entry of a matrix: the running sum of the rows, the row-wise sort of a pair of
  matrices, the row-wise top-k, and the gather and the setting scatter by pairs of index words.
-/
module

public import Idealize.ShloMosaic.Lib.Routing.OpsSet
public import Idealize.ShloMosaic.Lib.SortFacts
public import Idealize.ShloMosaic.Lib.IdealHost
public import Idealize.ShloMosaic.Lib.Pointwise
public import Idealize.ShloMosaic.Lib.ReduceAll

@[expose] public section

noncomputable section

namespace Sel

open Idealize.ShloMosaic Idealize.ShloMosaic.Routing

variable {R N : ℕ} {α β : Type}

theorem along_ix2 (q : Fin R) (k a : Fin N) : (ix2 q k : (shape2 R N).Idx).along 1 a = ix2 q a := by
  funext b
  match b with
  | ⟨0, _⟩ => rfl
  | ⟨1, _⟩ => rfl

/-- A matrix index is the pair of its coordinates. -/
theorem exists_ix2 (j : (shape2 R N).Idx) : ∃ q p, j = ix2 q p :=
  ⟨j 0, j 1, by
    funext b
    match b with
    | ⟨0, _⟩ => rfl
    | ⟨1, _⟩ => rfl⟩

theorem drop_ix2 (h : (shape2 R N).ReducesTo [1] (shape1 R)) (q : Fin R) (k : Fin N) : h.drop (ix2 q k) = ix1 q := by
  funext b
  match b with
  | ⟨0, _⟩ => rfl

/-- An `and` along the rows of a matrix of bits that is one says that every bit of the row is. -/
theorem all_row {u : Shape} (x : IVec (shape2 R N) 1) (init : u.Idx → BitVec 1) (h : (shape2 R N).ReducesTo [1] (shape1 R))
    (hu : 0 < u.numel) (q : Fin R) (e : Host.reduce IntOp.andi x init h hu (ix1 q) = 1#1) (k : Fin N) : x (ix2 q k) = 1#1 :=
  Host.reduce_andi_eq_one x init h hu (ix1 q) e (ix2 q k) (drop_ix2 h q k)

/-- The position from which entry `k` of row `q` comes when the rows of `x`, `y` are sorted by `cmp`. -/
def from2 (cmp : α × β → α × β → BitVec 1) (x : (shape2 R N).Idx → α) (y : (shape2 R N).Idx → β) (q : Fin R) : Fin N → Fin N :=
  sortedFrom fun a b => cmp (x (ix2 q a), y (ix2 q a)) (x (ix2 q b), y (ix2 q b)) == 1#1

theorem sort2_fst (cmp : α × β → α × β → BitVec 1) (x : (shape2 R N).Idx → α) (y : (shape2 R N).Idx → β) (q : Fin R)
    (k : Fin N) : (Host.sort2 (shape2 R N) 1 cmp x y).1 (ix2 q k) = x (ix2 q (from2 cmp x y q k)) := by
  unfold Host.sort2
  rw [dif_pos (show 1 < (shape2 R N).rank from Nat.lt_succ_self 1)]
  have h : ∀ a : Fin N, (ix2 q k : (shape2 R N).Idx).along ⟨1, Nat.lt_succ_self 1⟩ a = ix2 q a := along_ix2 q k
  dsimp only
  refine congrArg x ((h _).trans (congrArg (ix2 q) ?_))
  show sortedFrom _ k = sortedFrom _ k
  exact congrArg (fun B => sortedFrom B k) (funext fun a => funext fun b => by rw [h a, h b])

theorem sort2_snd (cmp : α × β → α × β → BitVec 1) (x : (shape2 R N).Idx → α) (y : (shape2 R N).Idx → β) (q : Fin R)
    (k : Fin N) : (Host.sort2 (shape2 R N) 1 cmp x y).2 (ix2 q k) = y (ix2 q (from2 cmp x y q k)) := by
  unfold Host.sort2
  rw [dif_pos (show 1 < (shape2 R N).rank from Nat.lt_succ_self 1)]
  have h : ∀ a : Fin N, (ix2 q k : (shape2 R N).Idx).along ⟨1, Nat.lt_succ_self 1⟩ a = ix2 q a := along_ix2 q k
  dsimp only
  refine congrArg y ((h _).trans (congrArg (ix2 q) ?_))
  show sortedFrom _ k = sortedFrom _ k
  exact congrArg (fun B => sortedFrom B k) (funext fun a => funext fun b => by rw [h a, h b])

/-- The order of row `q` by a comparison of its entries. -/
def order (gt : α → α → BitVec 1) (x : (shape2 R N).Idx → α) (q : Fin R) : Fin N → Fin N :=
  sortedFrom fun a b => gt (x (ix2 q a)) (x (ix2 q b)) == 1#1

section TopK
variable {K : ℕ} (gt : α → α → BitVec 1) (x : (shape2 R N).Idx → α)
  (h : (shape2 R N).Slices (fun _ => 0) (shape2 R K)) (q : Fin R) (k : Fin K) (hk : K ≤ N)

theorem topK_fst : (Host.topK (shape2 R K) 1 gt x h).1 (ix2 q k) = x (ix2 q (order gt x q (k.castLE hk))) := by
  have e : ∀ g : (shape2 R N).Idx → α,
      extractStridedSlice (shape2 R K) (fun _ => 0) g h (ix2 q k) = g (ix2 q (k.castLE hk)) := fun g => by
    refine congrArg g (funext fun b => Fin.ext ?_)
    match b with
    | ⟨0, _⟩ => exact Nat.zero_add _
    | ⟨1, _⟩ => exact Nat.zero_add _
  unfold Host.topK
  dsimp only
  exact (e _).trans (sort2_fst (fun l r : α × BitVec 32 => gt l.1 r.1) x _ q (k.castLE hk))

theorem topK_snd :
    (Host.topK (shape2 R K) 1 gt x h).2 (ix2 q k) = BitVec.ofNat 32 (order gt x q (k.castLE hk)).val := by
  have e : ∀ g : IVec (shape2 R N) 32,
      extractStridedSlice (shape2 R K) (fun _ => 0) g h (ix2 q k) = g (ix2 q (k.castLE hk)) := fun g => by
    refine congrArg g (funext fun b => Fin.ext ?_)
    match b with
    | ⟨0, _⟩ => exact Nat.zero_add _
    | ⟨1, _⟩ => exact Nat.zero_add _
  unfold Host.topK
  dsimp only
  refine (e _).trans ((sort2_snd (fun l r : α × BitVec 32 => gt l.1 r.1) x _ q (k.castLE hk)).trans ?_)
  rw [dif_pos (show 1 < (shape2 R N).rank from Nat.lt_succ_self 1)]
  rfl

end TopK

section Order
variable {v : Fin N → EReal} {B : Fin N → Fin N → Bool}

/-- Positions sorted by a strict comparison of their values: no later position's value comes before. -/
theorem sorted_desc (hB : ∀ a b, B a b = true ↔ v b < v a) {i j : Fin N} (hij : i ≤ j) :
    v (sortedFrom B j) ≤ v (sortedFrom B i) := by
  rcases hij.eq_or_lt with rfl | hij
  · exact le_rfl
  · have hf : ∀ a b, B a b = false ↔ v a ≤ v b := fun a b => by
      rw [← Bool.not_eq_true, hB, not_lt]
    exact (hf _ _).1 (sortedFrom_noInversion B B (fun a b hab => (hf _ _).2 ((hB _ _).1 hab).le) (fun _ _ => id)
      (fun a b c h1 h2 => (hf _ _).2 (((hf _ _).1 h1).trans ((hf _ _).1 h2))) i j hij)

theorem sorted_bij (B : Fin N → Fin N → Bool) : Function.Bijective (sortedFrom B) :=
  ⟨sortedFrom_injective B, sortedFrom_surjective B⟩

end Order

theorem order_bij (gt : α → α → BitVec 1) (x : (shape2 R N).Idx → α) (q : Fin R) : Function.Bijective (order gt x q) :=
  sorted_bij _

/-- An order by a greater-than of extended reals is a descending one. -/
theorem order_desc (gt : EReal → EReal → BitVec 1) (hgt : ∀ a b, gt a b = 1#1 ↔ b < a) (x : (shape2 R N).Idx → EReal) (q : Fin R)
    {i j : Fin N} (hij : i ≤ j) : x (ix2 q (order gt x q j)) ≤ x (ix2 q (order gt x q i)) :=
  sorted_desc (v := fun p => x (ix2 q p)) (fun a b => by rw [beq_iff_eq, hgt]) hij

theorem from2_bij (cmp : α × β → α × β → BitVec 1) (x : (shape2 R N).Idx → α) (y : (shape2 R N).Idx → β) (q : Fin R) :
    Function.Bijective (from2 cmp x y q) :=
  sorted_bij _

/-- A sort by a less-than of its first array puts that array's rows in ascending order. -/
theorem from2_asc (cmp : EReal × β → EReal × β → BitVec 1) (hc : ∀ l r, cmp l r = 1#1 ↔ l.1 < r.1) (x : (shape2 R N).Idx → EReal)
    (y : (shape2 R N).Idx → β) (q : Fin R) {i j : Fin N} (hij : i ≤ j) :
    x (ix2 q (from2 cmp x y q i)) ≤ x (ix2 q (from2 cmp x y q j)) :=
  EReal.neg_le_neg_iff.1 (sorted_desc (v := fun p => -x (ix2 q p)) (fun a b => by rw [beq_iff_eq, hc, EReal.neg_lt_neg_iff]) hij)

/-- A column in front of a matrix: the first column, and the others. -/
theorem front_fst (z : (shape2 R 1).Idx → α) (b : (shape2 R N).Idx → α) {M : ℕ}
    (h : Shape.Concatenates [shape2 R 1, shape2 R N] (shape2 R M) 1) (q : Fin R) (k : Fin M) (hk : k.val = 0) :
    concatenate (shape2 R M) 1 [⟨shape2 R 1, z⟩, ⟨shape2 R N, b⟩] h (ix2 q k) = z (ix2 q 0) :=
  Idealize.ShloMosaic.concatenate_pair_apply_left 1 z b h _ rfl _ fun e => by
    match e with
    | ⟨0, _⟩ => rfl
    | ⟨1, _⟩ => exact hk.symm

theorem front_snd (z : (shape2 R 1).Idx → α) (b : (shape2 R N).Idx → α) {M : ℕ}
    (h : Shape.Concatenates [shape2 R 1, shape2 R N] (shape2 R M) 1) (q : Fin R) (k : Fin M) (j : Fin N) (hk : k.val = j.val + 1) :
    concatenate (shape2 R M) 1 [⟨shape2 R 1, z⟩, ⟨shape2 R N, b⟩] h (ix2 q k) = b (ix2 q j) :=
  Idealize.ShloMosaic.concatenate_pair_apply_right 1 z b h _ rfl rfl _ (fun e he => by
    match e with
    | ⟨0, _⟩ => rfl
    | ⟨1, _⟩ => exact absurd rfl he) hk.symm

theorem slice_read {M : ℕ} (x : (shape2 R N).Idx → α) (h : (shape2 R N).Slices ![0, 0] (shape2 R M)) (q : Fin R) (k : Fin M) (j : Fin N)
    (hj : j.val = k.val) : extractStridedSlice (shape2 R M) ![0, 0] x h (ix2 q k) = x (ix2 q j) := by
  refine congrArg x (funext fun b => Fin.ext ?_)
  match b with
  | ⟨0, _⟩ => exact Nat.zero_add _
  | ⟨1, _⟩ => exact (Nat.zero_add _).trans hj.symm

theorem scatter_lands {A C K : ℕ} (d : ScatterDims (shape2 R C) (shape3 A K 2) (shape2 A K))
    (hiw : d.insertedWindowDims = [0, 1]) (hsd : d.scatterDimsToOperandDims = [0, 1]) (hivd : d.indexVectorDim = 2)
    (idx : IVec (shape3 A K 2) 32) (a : Fin A) (b : Fin K) (r : Fin R) (c : Fin C) :
    d.resultIdx? (ix2 a b) idx = some (ix2 r c) ↔ (idx (ix3 a b 0)).toInt = r.val ∧ (idx (ix3 a b 1)).toInt = c.val := by
  simpa only [← ix2_eq_valueIdx, ← ix3_eq_valueIdx] using scatter_lands2 d hiw hsd hivd idx a b r c

/-- Where the scatter of a table by pairs of index words, its body returning the update, has exactly one writer. -/
theorem scatter_pair_hit {A C K : ℕ} (d : ScatterDims (shape2 R C) (shape3 A K 2) (shape2 A K))
    (hiw : d.insertedWindowDims = [0, 1]) (hsd : d.scatterDimsToOperandDims = [0, 1]) (hivd : d.indexVectorDim = 2)
    (x0 : (shape2 R C).Idx → α) (idx : IVec (shape3 A K 2) 32) (upd : (shape2 A K).Idx → α) (row : Fin A → ℕ) (col : Fin A → Fin K → ℕ)
    (hrow : ∀ a b, (idx (ix3 a b 0)).toInt = row a) (hcol : ∀ a b, (idx (ix3 a b 1)).toInt = col a b)
    (hinj : ∀ a b a' b', row a = row a' → col a b = col a' b' → a = a' ∧ b = b')
    (r : Fin R) (c : Fin C) (a : Fin A) (b : Fin K) (hr : row a = r.val) (hc : col a b = c.val) :
    Host.scatter d (fun _ u => u) x0 idx upd (ix2 r c) = upd (ix2 a b) := by
  refine scatter_set_hit d x0 idx upd _ _ (fun k hk => ?_) (ix2 a b) ((scatter_lands d hiw hsd hivd idx a b r c).2
    ⟨by rw [hrow, hr], by rw [hcol, hc]⟩)
  obtain ⟨a', b', rfl⟩ := exists_ix2 k
  have h := (scatter_lands d hiw hsd hivd idx a' b' r c).1 hk
  rw [hrow, hcol] at h
  obtain ⟨rfl, rfl⟩ := hinj a' b' a b (by have := h.1; omega) (by have := h.2; omega)
  rfl

theorem scatter_pair_miss {A C K : ℕ} (d : ScatterDims (shape2 R C) (shape3 A K 2) (shape2 A K))
    (hiw : d.insertedWindowDims = [0, 1]) (hsd : d.scatterDimsToOperandDims = [0, 1]) (hivd : d.indexVectorDim = 2)
    (x0 : (shape2 R C).Idx → α) (idx : IVec (shape3 A K 2) 32) (upd : (shape2 A K).Idx → α) (row : Fin A → ℕ) (col : Fin A → Fin K → ℕ)
    (hrow : ∀ a b, (idx (ix3 a b 0)).toInt = row a) (hcol : ∀ a b, (idx (ix3 a b 1)).toInt = col a b)
    (r : Fin R) (c : Fin C) (hno : ∀ a b, row a = r.val → col a b ≠ c.val) :
    Host.scatter d (fun _ u => u) x0 idx upd (ix2 r c) = x0 (ix2 r c) := by
  refine scatter_set_miss d x0 idx upd _ fun k hk => ?_
  obtain ⟨a', b', rfl⟩ := exists_ix2 k
  have h := (scatter_lands d hiw hsd hivd idx a' b' r c).1 hk
  rw [hrow, hcol] at h
  exact hno a' b' (by have := h.1; omega) (by have := h.2; omega)

/-- The gather of single entries of a matrix by pairs of index words that are in range. -/
theorem gather_pair {A C K : ℕ} (d : GatherDims (shape2 R C) (shape3 A K 2) (shape2 A K)) (hoff : d.offsetDims = [])
    (hcoll : d.collapsedSliceDims = [0, 1]) (hob : d.operandBatchingDims = []) (hsim : d.startIndexMap = [0, 1])
    (hivd : d.indexVectorDim = 2) (x : (shape2 R C).Idx → α) (idx : IVec (shape3 A K 2) 32) (a : Fin A) (b : Fin K)
    (r : Fin R) (c : Fin C) (hr : (idx (ix3 a b 0)).toInt = r.val) (hc : (idx (ix3 a b 1)).toInt = c.val) :
    Host.gather d x idx (ix2 a b) = x (ix2 r c) := by
  have hm : ∀ e : Fin 2, e ∈ d.startIndexMap := fun e => by rw [hsim]; fin_cases e <;> simp
  have hcl : ∀ e : Fin 2, e ∈ d.collapsedSliceDims := fun e => by rw [hcoll]; fin_cases e <;> simp
  have hsi : ∀ e : Fin 2, d.siIdx (ix2 a b) ⟨d.startIndexMap.idxOf e, List.idxOf_lt_length_iff.2 (hm e)⟩ = ix3 a b e := fun e => by
    have hk : d.siKept = [0, 1] := by
      show (List.finRange 3).filter (fun x => decide (x.val ≠ d.indexVectorDim)) = _
      rw [hivd]
      rfl
    have hu : d.batchDims = [0, 1] := by
      show (shape2 A K).kept d.offsetDims = _
      rw [hoff]
      rfl
    have el : ∀ (l : List (Fin 2)) (n : ℕ) (h : n < l.length) (m : Fin 2), l = [0, 1] → n = m.val → l[n]'h = m := by
      intro l n h m hl hn
      subst hl
      subst hn
      fin_cases m <;> rfl
    funext b'
    apply Fin.ext
    match b' with
    | ⟨0, _⟩ =>
      unfold GatherDims.siIdx
      rw [dif_neg (by rw [hivd]; exact (by decide : (0 : ℕ) ≠ 2))]
      unfold GatherDims.siCoord
      simp only [Fin.val_cast]
      rw [el _ _ _ 0 hu (by rw [hk]; rfl)]
      rfl
    | ⟨1, _⟩ =>
      unfold GatherDims.siIdx
      rw [dif_neg (by rw [hivd]; exact (by decide : (1 : ℕ) ≠ 2))]
      unfold GatherDims.siCoord
      simp only [Fin.val_cast]
      rw [el _ _ _ 1 hu (by rw [hk]; rfl)]
      rfl
    | ⟨2, _⟩ =>
      unfold GatherDims.siIdx
      rw [dif_pos (by rw [hivd])]
      show List.idxOf e d.startIndexMap = e.val
      rw [hsim]
      fin_cases e <;> rfl
  have hax : ∀ (e : Fin 2) (n : ℕ), (idx (ix3 a b e)).toInt = n → n < (shape2 R C).size e →
      d.start (ix2 a b) idx e + d.batchCoord (ix2 a b) e + d.offCoord (ix2 a b) e = n := fun e n hn hlt => by
    have hk : e ∉ d.sKept := fun h => ((d.mem_sKept e).1 h).1 (hcl e)
    rw [d.batchCoord_eq_zero _ _ (by rw [hob]; exact List.not_mem_nil), d.offCoord_eq_zero _ _ hk]
    unfold GatherDims.start
    rw [dif_pos (hm e), hsi, hn, d.slice_collapsed e (hcl e)]
    omega
  unfold Host.gather
  refine congrArg x (funext fun e => Fin.ext ?_)
  match e with
  | ⟨0, _⟩ => exact hax 0 r.val hr r.isLt
  | ⟨1, _⟩ => exact hax 1 c.val hc c.isLt

theorem sum_window (f : ℕ → EReal) (M j : ℕ) (hj : j ≤ M) :
    ∑ w ∈ Finset.range (M + 1), (if M ≤ j + w then f (j + w - M) else 0) = ∑ w ∈ Finset.range (j + 1), f w := by
  obtain ⟨d, rfl⟩ : ∃ d, M = j + d := ⟨M - j, by omega⟩
  rw [show j + d + 1 = d + (j + 1) by omega, Finset.sum_range_add, Finset.sum_eq_zero fun w hw => if_neg (by
    have := Finset.mem_range.1 hw; omega), zero_add]
  exact Finset.sum_congr rfl fun w _ => by rw [if_pos (by omega), show j + (d + w) - (j + d) = w by omega]

theorem foldl_add_sum {ι : Type} (l : List ι) (g : ι → EReal) (z : EReal) :
    l.foldl (fun s n => s + g n) z = z + (l.map g).sum := by
  induction l generalizing z with
  | nil => simp
  | cons a l ih => rw [List.foldl_cons, ih, List.map_cons, List.sum_cons, add_assoc]

/-- The running sum along the rows of a matrix. -/
theorem cumsum_row {M : ℕ} (x : FVec Ideal (shape2 R (M + 1)) .f32) (init : shape0.Idx → Ideal .f32) (hinit : ∀ i, init i = (0 : EReal))
    (h : (shape2 R (M + 1)).ReduceWindows (![1, M + 1] : Fin 2 → Nat) ![1, 1] ![0, M] ![0, 0] (shape2 R (M + 1)))
    (hu : 0 < shape0.numel) (q : Fin R) (j : Fin (M + 1)) :
    Host.reduceWindowAdd (F := Ideal) (φ := .f32) ![1, M + 1] ![1, 1] ![0, M] ![0, 0] x init h hu (ix2 q j)
      = ∑ k ∈ Finset.univ.filter (fun k : Fin (M + 1) => k ≤ j), (x (ix2 q k) : EReal) := by
  have hj := j.isLt
  have hq := q.isLt
  let f : ℕ → EReal := fun i => if hi : i < M + 1 then x (ix2 q ⟨i, hi⟩) else 0
  unfold Host.reduceWindowAdd
  rw [Ideal.hostReduceWindowAdd_def, hinit]
  unfold Ideal.hostReduceWindowAdd Host.reduceWindow
  dsimp only
  refine (foldl_add_sum _ _ _).trans ?_
  rw [zero_add]
  refine (congrArg List.sum (List.map_congr_left (g := fun n : Fin (shape2 1 (M + 1)).numel =>
    if M ≤ j.val + n.val then f (j.val + n.val - M) else 0) fun n _ => ?_)).trans ?_
  · have hw0 : ((shape2 1 (M + 1)).rowMajor.symm n 0).val = 0 := by rw [symm2]; rfl
    have hw : ((shape2 1 (M + 1)).rowMajor.symm n 1).val = n.val := by rw [symm2]; rfl
    have hn : n.val < M + 1 := (n.cast (numel2 _)).isLt
    split
    · next hin =>
      have h1 := hin 1
      change M ≤ j.val * 1 + ((shape2 1 (M + 1)).rowMajor.symm n 1).val
        ∧ j.val * 1 + ((shape2 1 (M + 1)).rowMajor.symm n 1).val - M < M + 1 at h1
      rw [hw] at h1
      rw [if_pos (by omega)]
      show _ = if hi : j.val + n.val - M < M + 1 then (x (ix2 q ⟨_, hi⟩) : EReal) else 0
      rw [dif_pos (by omega)]
      refine congrArg x (funext fun a => Fin.ext ?_)
      match a with
      | ⟨0, _⟩ =>
        show q.val * 1 + ((shape2 1 (M + 1)).rowMajor.symm n 0).val - 0 = q.val
        rw [hw0]
        omega
      | ⟨1, _⟩ =>
        show j.val * 1 + ((shape2 1 (M + 1)).rowMajor.symm n 1).val - M = j.val + n.val - M
        rw [hw, Nat.mul_one]
    · next hin =>
      rw [if_neg fun hle => hin fun a => by
        match a with
        | ⟨0, _⟩ =>
          show 0 ≤ q.val * 1 + ((shape2 1 (M + 1)).rowMajor.symm n 0).val ∧ q.val * 1 + ((shape2 1 (M + 1)).rowMajor.symm n 0).val - 0 < R
          rw [hw0]
          omega
        | ⟨1, _⟩ =>
          show M ≤ j.val * 1 + ((shape2 1 (M + 1)).rowMajor.symm n 1).val
            ∧ j.val * 1 + ((shape2 1 (M + 1)).rowMajor.symm n 1).val - M < M + 1
          rw [hw]
          omega]
  rw [map_finRange_val _ (fun w => if M ≤ j.val + w then f (j.val + w - M) else 0), show (shape2 1 (M + 1)).numel = M + 1 from numel2 _,
    ← List.sum_toFinset _ List.nodup_range, List.toFinset_range, sum_window f M j.val (by omega)]
  symm
  refine Finset.sum_nbij (fun k : Fin (M + 1) => k.val) (fun k hk => ?_) (fun k _ k' _ e => Fin.ext e) (fun w hw => ?_) fun k hk => ?_
  · exact Finset.mem_range.2 (Nat.lt_succ_of_le (Finset.mem_filter.1 hk).2)
  · have hw' := Finset.mem_range.1 (Finset.mem_coe.1 hw)
    exact ⟨⟨w, by omega⟩, Finset.mem_coe.2 (Finset.mem_filter.2 ⟨Finset.mem_univ _, Fin.mk_le_of_le_val (by omega)⟩), rfl⟩
  · show _ = if hi : k.val < M + 1 then (x (ix2 q ⟨_, hi⟩) : EReal) else 0
    rw [dif_pos k.isLt]

end Sel

end
-- ==== Proof.SelPre.lean ====
/-
  What the precondition says of a row of scores: its top positions, as the top-k lists them, tell the row's fifty
  greatest values apart.
-/
module

public import proofs.«01_k».proof.Proof.Gen.Pre_separated
public import proofs.«01_k».proof.Proof.SelSpec
public import proofs.«01_k».proof.Proof.SelTensor
public import Idealize.ShloMosaic.Lib.Routing.Words

@[expose] public section

set_option maxRecDepth 16384

noncomputable section

namespace Sel

open Cert.Pre_separated Cert.Pre_separated.Gen Idealize.ShloMosaic

variable (x : FVec Ideal S128x100352 .f32)

/-- The scores of the true columns. -/
def cut : FVec Ideal S128x100000 .f32 :=
  extractStridedSlice S128x100000 ![0, 0] x (Facts.slices_S128x100352_S128x100000_0_0)

theorem cut_apply (q : Fin 128) (j : Fin 100000) : cut x (ix2 q j) = x (ix2 q ⟨j.val, by omega⟩) := by
  pointwise [cut]

/-- The true columns of row `q` in the order of the top-k. -/
def ord (q : Fin 128) : Fin 100000 → Fin 100000 := order (FloatOps.cmpfTotal (F := Ideal) (φ := .f32) .gt) (cut x) q

/-- The fifty top positions of row `q`. -/
def top (q : Fin 128) (i : Fin 50) : Fin 100352 := (ord x q ⟨i.val, by omega⟩).castLE (by decide)

theorem top_val (q : Fin 128) (i : Fin 50) : (top x q i).val = (ord x q ⟨i.val, by omega⟩).val := by
  unfold top
  exact Fin.val_castLE _ _

/-- The top-k's values and positions. -/
def vals : FVec Ideal S128x51 .f32 := (Host.topK S128x51 1 (FloatOps.cmpfTotal .gt) (cut x) (Facts.sliceFits_S128x100000_S128x51)).1
def inds : IVec S128x51 32 := (Host.topK S128x51 1 (FloatOps.cmpfTotal .gt) (cut x) (Facts.sliceFits_S128x100000_S128x51)).2

theorem vals_apply (q : Fin 128) (k : Fin 51) : vals x (ix2 q k) = cut x (ix2 q (ord x q ⟨k.val, by omega⟩)) :=
  topK_fst _ _ _ q k (by omega)

theorem inds_apply (q : Fin 128) (k : Fin 51) : inds x (ix2 q k) = BitVec.ofNat 32 (ord x q ⟨k.val, by omega⟩).val :=
  topK_snd _ _ _ q k (by omega)

theorem and_one {a b : BitVec 1} (h : IntOp.andi a b = 1#1) : a = 1#1 ∧ b = 1#1 := by
  revert h; revert a b; decide

theorem cmp_one (p : Prop) [Decidable p] (h : BitVec.ofBool (decide p) = 1#1) : p := by
  by_contra hn
  rw [decide_eq_false hn] at h
  exact absurd h (by decide)

/-- How many earlier positions' class words equal position `i`'s, as the precondition counts them. -/
def ranks (w : IVec S128x50 32) (q : Fin 128) (i : Fin 50) : EReal :=
  ∑ j : Fin 50, if w (ix2 q i) = w (ix2 q j) ∧ j < i then (1 : EReal) else 0

/-- The class words of the fifty top positions. -/
def words : IVec S128x50 32 :=
  Host.remsi (extractStridedSlice S128x50 ![0, 0] (inds x) Facts.slices_S128x51_S128x50_0_0)
    (broadcastInDim S128x50 ![] Facts.bcast_S_S128x50 (constantI S_ 32 6272#32))

theorem words_apply (q : Fin 128) (i : Fin 50) : words x (ix2 q i) = BitVec.ofNat 32 ((top x q i).val % 6272) := by
  pointwise [words]
  rw [inds_apply]
  have h : (top x q i).val < 100352 := (top x q i).isLt
  have e : ∀ n : ℕ, n < 100352 → IntOp.remsi .host (BitVec.ofNat 32 n) 6272#32 = BitVec.ofNat 32 (n % 6272) := fun n hn =>
    Routing.remsi_word _ (lt_of_lt_of_le hn (by decide)) (by decide) (by decide)
  rw [top_val] at h ⊢
  exact e _ h

theorem select_words (a b : BitVec 32) (i j : Fin 50) :
    Scalar.select (IntOp.andi (IntOp.cmpi CmpIPredicate.eq a b) (IntOp.cmpi CmpIPredicate.slt (BitVec.ofNat 32 ↑j) (BitVec.ofNat 32 ↑i)))
      (1 : EReal) 0 = if a = b ∧ j < i then (1 : EReal) else 0 := by
  have e1 : IntOp.cmpi CmpIPredicate.eq a b = 1#1 ↔ a = b := IntOp.cmpi_eq
  have e2 : IntOp.cmpi CmpIPredicate.slt (BitVec.ofNat 32 ↑j) (BitVec.ofNat 32 ↑i) = 1#1 ↔ j < i := by
    rw [WordCmp.cmpi_slt_ofNat_eq_one_iff (by omega) (by omega), Fin.lt_def]
  refine Cert.Kernel2Ideal.Select.select_ite ?_ _ _
  rw [← e1, ← e2]
  exact ⟨and_one, fun h => by rw [h.1, h.2]; rfl⟩

theorem fn_facts (h : fn x = fun _ => 1#1) (q : Fin 128) :
    vals x (ix2 q 0) < ⊤ ∧ (∀ i : Fin 50, vals x (ix2 q ⟨1 + i.val, by omega⟩) < vals x (ix2 q ⟨i.val, by omega⟩))
      ∧ (∀ p : Fin 352, x (ix2 q ⟨100000 + p.val, by omega⟩) < vals x (ix2 q 49))
      ∧ (∀ i : Fin 50, ranks (words x) q i ≤ ((2 : ℝ) : EReal))
      ∧ (∑ i : Fin 50, if (1 : EReal) ≤ ranks (words x) q i then (1 : EReal) else 0) ≤ ((8 : ℝ) : EReal) := by
  have h0 := congrFun h (ix1 q)
  unfold fn fn_part1 fn_part2 at h0
  dsimp only at h0
  have hv : (Host.topK S128x51 1 (FloatOps.cmpfTotal (F := Ideal) (φ := .f32) .gt)
    (extractStridedSlice S128x100000 ![0, 0] x Facts.slices_S128x100352_S128x100000_0_0) Facts.sliceFits_S128x100000_S128x51).1 = vals x := rfl
  have hi : (Host.topK S128x51 1 (FloatOps.cmpfTotal (F := Ideal) (φ := .f32) .gt)
    (extractStridedSlice S128x100000 ![0, 0] x Facts.slices_S128x100352_S128x100000_0_0) Facts.sliceFits_S128x100000_S128x51).2 = inds x := rfl
  have hw : Host.remsi (extractStridedSlice S128x50 ![0, 0] (inds x) Facts.slices_S128x51_S128x50_0_0)
    (broadcastInDim S128x50 ![] Facts.bcast_S_S128x50 (constantI S_ 32 6272#32)) = words x := rfl
  simp only [hv, hi, hw] at h0
  clear hv hi hw
  obtain ⟨h1, hE⟩ := and_one h0
  obtain ⟨h2, hD⟩ := and_one h1
  obtain ⟨h3, hC⟩ := and_one h2
  obtain ⟨hA, hB⟩ := and_one h3
  clear h h0 h1 h2 h3
  refine ⟨?_, fun i => ?_, fun p => ?_, fun i => ?_, ?_⟩
  · have e := all_row _ _ _ _ q hA 0
    clear hA hB hC hD hE
    pointwise at e
    have e' := cmp_one _ e
    rwa [Cert.Kernel2Ideal.Select.ofBits_top] at e'
  · have e := all_row _ _ _ _ q hB i
    clear hA hB hC hD hE
    pointwise at e
    exact cmp_one _ e
  · have e := all_row _ _ _ _ q hC p
    clear hA hB hC hD hE
    pointwise at e
    have e' := cmp_one _ e
    exact e'
  · have e := all_row _ _ _ _ q hD i
    clear hA hB hC hD hE
    pointwise [id, fn_where] at e
    have e' := cmp_one _ e
    simp only [select_words] at e'
    rwa [ofBits_two] at e'
  · clear hA hB hC hD
    pointwise [id, fn_where, fn_where_0] at hE
    have e' := cmp_one _ hE
    simp only [select_words] at e'
    rwa [ofBits_eight] at e'

/-- The order of the true columns is a descending one. -/
theorem ord_desc (q : Fin 128) {i j : Fin 100000} (hij : i ≤ j) : cut x (ix2 q (ord x q j)) ≤ cut x (ix2 q (ord x q i)) :=
  order_desc _ (fun a b => Cert.Kernel2Ideal.Select.ofBool_eq_one _) _ q hij

theorem ord_bij (q : Fin 128) : Function.Bijective (ord x q) := order_bij _ _ q

theorem class_iff (a b : Fin 100352) :
    BitVec.ofNat 32 (a.val % 6272) = BitVec.ofNat 32 (b.val % 6272) ↔ cls b = cls a := by
  have ha : a.val % 6272 < 6272 := Nat.mod_lt _ (by decide)
  have hb : b.val % 6272 < 6272 := Nat.mod_lt _ (by decide)
  unfold cls
  rw [Fin.mk.injEq]
  generalize a.val % 6272 = m at ha ⊢
  generalize b.val % 6272 = n at hb ⊢
  constructor
  · intro h
    have h' := congrArg BitVec.toNat h
    rw [BitVec.toNat_ofNat, BitVec.toNat_ofNat] at h'
    omega
  · intro h
    rw [h]

theorem ranks_eq (q : Fin 128) (i : Fin 50) : ranks (words x) q i = ((rank (top x q) i : ℝ) : EReal) := by
  unfold ranks rank
  have e : ∀ j, (words x (ix2 q i) = words x (ix2 q j) ∧ j < i) ↔ (j < i ∧ cls (top x q j) = cls (top x q i)) := fun j => by
    rw [words_apply, words_apply, and_comm]
    exact and_congr_right fun _ => class_iff _ _
  simp only [e]
  rw [← Finset.sum_filter, Finset.sum_const, nsmul_one]
  rfl

/-- Under the precondition the top positions of every row tell its fifty greatest values apart. -/
theorem separated (h : fn x = fun _ => 1#1) (q : Fin 128) : Separated (fun p => (x (ix2 q p) : EReal)) (top x q) := by
  obtain ⟨hA, hB, hC, hD, hE⟩ := fn_facts x h q
  have ht : ∀ i : Fin 50, (x (ix2 q (top x q i)) : EReal) = cut x (ix2 q (ord x q ⟨i.val, by omega⟩)) :=
    fun i => (cut_apply x q _).symm
  have hle : ∀ i j : Fin 100000, i ≤ j → cut x (ix2 q (ord x q j)) ≤ cut x (ix2 q (ord x q i)) := fun i j => ord_desc x q
  have hlt : ∀ (i : Fin 50) (j : Fin 100000), i.val < j.val →
      (cut x (ix2 q (ord x q j)) : EReal) < cut x (ix2 q (ord x q ⟨i.val, by omega⟩)) := fun i j hij => by
    refine (hle ⟨1 + i.val, by omega⟩ j (by rw [Fin.le_def]; show 1 + i.val ≤ j.val; omega)).trans_lt ?_
    have e := hB i
    rwa [vals_apply, vals_apply] at e
  refine ⟨fun i => ?_, fun i j hij => ?_, fun p hp i => ?_, fun i => ?_, ?_⟩
  · show (x (ix2 q (top x q i)) : EReal) < ⊤
    rw [ht]
    rw [vals_apply] at hA
    exact (hle ⟨0, by omega⟩ _ (Nat.zero_le _)).trans_lt hA
  · show (x (ix2 q (top x q j)) : EReal) < x (ix2 q (top x q i))
    rw [ht, ht]
    exact hlt i _ hij
  · show (x (ix2 q p) : EReal) < x (ix2 q (top x q i))
    rw [ht]
    by_cases hp' : p.val < 100000
    · obtain ⟨k, hk⟩ := (ord_bij x q).2 ⟨p.val, hp'⟩
      have hk50 : 50 ≤ k.val := by
        by_contra hlt'
        exact hp ⟨k.val, by omega⟩ (Fin.ext (by
          rw [top_val]
          exact congrArg Fin.val hk))
      have e := hlt i k (by omega)
      rwa [hk, cut_apply] at e
    · have e := hC ⟨p.val - 100000, by omega⟩
      rw [vals_apply] at e
      have hpe : (⟨100000 + (p.val - 100000), by omega⟩ : Fin 100352) = p := Fin.ext (by show 100000 + (p.val - 100000) = p.val; omega)
      rw [show ((⟨100000 + (⟨p.val - 100000, by omega⟩ : Fin 352).val, by omega⟩ : Fin 100352)) = p from hpe] at e
      exact e.trans_le (hle ⟨i.val, by omega⟩ ⟨49, by omega⟩ (Nat.le_of_lt_succ i.isLt))
  · have e := hD i
    rw [ranks_eq, EReal.coe_le_coe_iff] at e
    exact_mod_cast e
  · simp only [ranks_eq] at hE
    have e1 : ∀ i, ((1 : EReal) ≤ ((rank (top x q) i : ℝ) : EReal)) ↔ 1 ≤ rank (top x q) i := fun i => by
      rw [← EReal.coe_one, EReal.coe_le_coe_iff]
      exact_mod_cast Iff.rfl
    simp only [e1] at hE
    rw [← Finset.sum_filter, Finset.sum_const, nsmul_one] at hE
    have hE' : (((Finset.univ.filter fun i => 1 ≤ rank (top x q) i).card : ℝ) : EReal) ≤ ((8 : ℝ) : EReal) := hE
    rw [EReal.coe_le_coe_iff] at hE'
    exact_mod_cast hE'

end Sel

end
-- ==== Proof.SelRun.lean ====
/-
  The run of the selection over the extended reals, with the array of probabilities after the run named: each row of
  the scores whose fifty greatest values are told apart gives its row of probabilities.
-/
module

public import proofs.«01_k».proof.Proof.Gen.Kernel2Ideal.Frame
public import proofs.«01_k».proof.Proof.SelSpec
public import Idealize.ShloMosaic.Lib.Claim
public import Idealize.ShloMosaic.Lib.WholeRead
public import Idealize.ShloMosaic.Lib.Pipeline.Value

@[expose] public section

set_option maxRecDepth 16384

noncomputable section

namespace Cert.Kernel2Ideal.Select

open Cert.Kernel2Ideal.Gen
open Idealize.ShloMosaic Idealize.ShloMosaic.TcCoe
open Idealize.SL Idealize.SL.Sem
open Idealize.ShloMosaic.Pipeline (Dat Cfg Window)

theorem zero_offsets : (![0, 0] : Fin 2 → Nat) = fun _ => 0 := funext fun a => by fin_cases a <;> rfl

/-- The body's load of the whole staging buffer. -/
theorem load_eq (arg1 : Memref sig .tc .vmem S8x100352 .f32) (harg1 : arg1.IsWhole) (x0 : Vec Ideal S8x100352 .f32) :
    View.readAt (Elt Ideal) arg1.view (Rect.unit (s := S8x100352) ![0, 0] S8x100352.size inb_S8x100352_S8x100352_0_0).toLoadRect
      (harg1.unread x0) = x0 := by
  funext i
  refine (Memref.IsWhole.readAt_unread harg1 x0 _ i).trans ?_
  exact congrFun (View.ld_unit_zero (Val := Elt Ideal) (S := S8x100352) (e := .f32) zero_offsets inb_S8x100352_S8x100352_0_0 x0) i

/-- The body's one store. -/
theorem pieces (c : Dev nD) (i : grid0.Coords) (arg1 : Memref sig .tc .vmem S8x100352 .f32) (harg1 : arg1.IsWhole)
    (arg2 : Memref sig .tc .vmem S8x100352 .f32) (harg2 : arg2.IsWhole) (x0 : Vec Ideal S8x100352 .f32) :
    (kernelRun0_A c i arg1 harg1 arg2 harg2 x0).1 = [⟨Rect.unit (s := S8x100352) ![0, 0] S8x100352.size inb_S8x100352_S8x100352_0_0,
      block (View.readAt (Elt Ideal) arg1.view (Rect.unit (s := S8x100352) ![0, 0] S8x100352.size inb_S8x100352_S8x100352_0_0).toLoadRect
        (harg1.unread x0))⟩] := by
  unfold kernelRun0_A block loop2 loop1 seconds second lanes
  rfl

theorem out_eq (c : Dev nD) (i : grid0.Coords) (arg1 : Memref sig .tc .vmem S8x100352 .f32) (harg1 : arg1.IsWhole)
    (arg2 : Memref sig .tc .vmem S8x100352 .f32) (harg2 : arg2.IsWhole) (x0 : Vec Ideal S8x100352 .f32) :
    out0_A_1 c i arg1 harg1 arg2 harg2 x0 = block x0 := by
  unfold out0_A_1
  rw [View.read_writes_eq_canon _ _ _ (cover0_A_1 c i arg1 harg1 arg2 harg2 x0), pieces, View.canon_unit_zero zero_offsets, load_eq]

variable (m : (ℓ : Loc nD τ sig) → Buf (Elt Ideal) ℓ) (ρ : Dev nD → PrngReg)

/-! ## Where the blocks lie -/

theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = t.val ∧ win0_1.index t 1 = 0 :=
  (by decide +kernel : ∀ t : Fin grid0.N, win0_1.index t 0 = t.val ∧ win0_1.index t 1 = 0) t
theorem size1 (t : Fin cfg0.N) : ((cfg0.win 1).xblock (grid0.coords t)).size 0 = 8 ∧ ((cfg0.win 1).xblock (grid0.coords t)).size 1 = 100000 :=
  (by decide +kernel : ∀ t : Fin cfg0.N, ((cfg0.win 1).xblock (grid0.coords t)).size 0 = 8
    ∧ ((cfg0.win 1).xblock (grid0.coords t)).size 1 = 100000) t

/-- Row `q` of the scores. -/
def scores (c : Dev nD) (q : Fin 128) : Fin 100352 → EReal := fun p => m ((c : Thread nD τ).loc main_arg0) (ix2 q p)

theorem blk0 (c : Dev nD) (t : Fin cfg0.N) (q : Fin 8) (hq : t.val * 8 + q.val < 128) :
    row (iblk m c 0 t) q = scores m c ⟨t.val * 8 + q.val, hq⟩ := by
  funext p
  unfold row iblk
  rw [View.read_apply]
  show m ((c : Thread nD τ).loc main_arg0) ((win0_0.rect t).emb _) = _
  refine congrArg _ (Shape.idx_ext₂ ?_ ?_)
  · refine (Window.rect_emb_val win0_0 t _ 0).trans ?_; rw [(index0 t).1]; rfl
  · refine (Window.rect_emb_val win0_0 t _ 1).trans ?_; rw [(index0 t).2]; exact Nat.zero_add _

/-- The probabilities of the launch's scores, row `q`'s top positions being `σ q`. -/
def probs (c : Dev nD) (σ : Fin 128 → Fin 50 → Fin 100352) : Vec Ideal S128x100000 .f32 := fun y =>
  Sel.prob (scores m c (y 0)) (σ (y 0)) ⟨(y 1).val, lt_of_lt_of_le (y 1).isLt (by decide)⟩

theorem probs_ix (c : Dev nD) (σ : Fin 128 → Fin 50 → Fin 100352) (q : Fin 128) (j : Fin 100000) :
    probs m c σ (ix2 q j) = Sel.prob (scores m c q) (σ q) ⟨j, by omega⟩ := rfl

theorem block_value (c : Dev nD) (σ : Fin 128 → Fin 50 → Fin 100352) (hσ : ∀ q, Sel.Separated (scores m c q) (σ q))
    (t : Fin cfg0.N) (q : Fin 8) (hq : t.val * 8 + q.val < 128) (p : Fin 100352) :
    block (iblk m c 0 t) (ix2 q p) = Sel.prob (scores m c ⟨t.val * 8 + q.val, hq⟩) (σ ⟨t.val * 8 + q.val, hq⟩) p := by
  have h := hσ ⟨t.val * 8 + q.val, hq⟩
  have e := blk0 m c t q hq
  refine (block_apply (iblk m c 0 t) q (fun p => by rw [e]; exact h.lt_top p) p).trans ?_
  rw [e]
  exact h.finish_eq _ (fun i => h.inserted_eq i) p

theorem emb1_0 (t : Fin cfg0.N) (y : ((cfg0.win 1).xblock (grid0.coords t)).Idx) :
    (((cfg0.win 1).blk t).view.emb y 0).val = t.val * 8 + (y 0).val := by
  refine (Window.rect_emb_val win0_1 t y 0).trans ?_
  rw [(index1 t).1]
  rfl

theorem emb1_1 (t : Fin cfg0.N) (y : ((cfg0.win 1).xblock (grid0.coords t)).Idx) :
    (((cfg0.win 1).blk t).view.emb y 1).val = (y 1).val := by
  refine (Window.rect_emb_val win0_1 t y 1).trans ?_
  rw [(index1 t).2, Nat.zero_mul, Nat.zero_add]

theorem ix2_0 (a : Fin 128) (b : Fin 100000) : ((ix2 a b : S128x100000.Idx) 0).val = a.val := rfl
theorem ix2_1 (a : Fin 128) (b : Fin 100000) : ((ix2 a b : S128x100000.Idx) 1).val = b.val := rfl

theorem cut1 (B : Vec Ideal S8x100352 .f32) (t : Fin cfg0.N) (y : ((cfg0.win 1).xblock (grid0.coords t)).Idx)
    (a : Fin 8) (b : Fin 100352) (ha : (y 0).val = a.val) (hb : (y 1).val = b.val) :
    (cfg0.win 1).cut (grid0.coords t) B y = B (ix2 a b) :=
  congrArg B (Shape.idx_ext₂ ha hb)

theorem emb1 (t : Fin cfg0.N) (y : ((cfg0.win 1).xblock (grid0.coords t)).Idx)
    (a : Fin 128) (b : Fin 100000) (ha : t.val * 8 + (y 0).val = a.val) (hb : (y 1).val = b.val) :
    ((cfg0.win 1).blk t).view.emb y = (ix2 a b : S128x100000.Idx) :=
  Shape.idx_ext₂ ((emb1_0 t y).trans (ha.trans (ix2_0 a b).symm)) ((emb1_1 t y).trans (hb.trans (ix2_1 a b).symm))

/-- A block that agrees with an array entry by entry, cut to the array, is that array read through the point's block. -/
theorem read1 (B : Vec Ideal S8x100352 .f32) (L : Vec Ideal S128x100000 .f32) (t : Fin cfg0.N)
    (h : ∀ (q : Fin 8) (hq : t.val * 8 + q.val < 128) (j : Fin 100000),
      B (ix2 q ⟨j, by omega⟩) = L (ix2 (⟨t.val * 8 + q.val, hq⟩ : Fin 128) j)) :
    (cfg0.win 1).cut (grid0.coords t) B = ((cfg0.win 1).blk t).view.read (Elt Ideal) L := by
  funext y
  have hN : t.val < 16 := t.isLt
  obtain ⟨a, ha⟩ : ∃ a : Fin 8, (y 0).val = a.val := ⟨⟨_, lt_of_lt_of_eq (y 0).isLt (size1 t).1⟩, rfl⟩
  obtain ⟨b, hb⟩ : ∃ b : Fin 100000, (y 1).val = b.val := ⟨⟨_, lt_of_lt_of_eq (y 1).isLt (size1 t).2⟩, rfl⟩
  have hq : t.val * 8 + a.val < 128 := by omega
  rw [View.read_apply, cut1 B t y a ⟨b, by omega⟩ ha hb, emb1 t y ⟨t.val * 8 + a.val, hq⟩ b (by rw [ha]) hb]
  exact h a hq b

/-- What a point writes back is its block of the probabilities. -/
theorem flushed (c : Dev nD) (σ : Fin 128 → Fin 50 → Fin 100352) (hσ : ∀ q, Sel.Separated (scores m c q) (σ q)) (t : Fin cfg0.N) :
    (dats m 0 c).flushed 1 t = ((cfg0.win 1).blk t).view.read (Elt Ideal) (probs m c σ) := by
  show (cfg0.win 1).cut (grid0.coords t) ((dats m 0 c).after 1 t) = _
  rw [after0_1]
  unfold outsAt0
  rw [out_eq]
  exact read1 _ _ t fun q hq j => (block_value m c σ hσ t q hq _).trans (probs_ix m c σ _ j).symm

/-- Every entry of the array lies in the block of some point. -/
theorem cover (y : S128x100000.Idx) : ∃ t : Fin cfg0.N, (cfg0.win 1).flush t = true ∧ y ∈ ((cfg0.win 1).blk t).view.set := by
  have hy0 : (y 0).val < 128 := (y 0).isLt
  have hy1 : (y 1).val < 100000 := (y 1).isLt
  refine ⟨(⟨(y 0).val / 8, by show _ < 16; omega⟩ : Fin 16), flush0_1 _, ?_⟩
  generalize ht : (⟨(y 0).val / 8, _⟩ : Fin 16) = t
  have htv : t.val = (y 0).val / 8 := by rw [← ht]
  have h0 := lt_of_lt_of_eq (Nat.mod_lt (y 0).val (by norm_num : 0 < 8)) (size1 t).1.symm
  have h1 := lt_of_lt_of_eq hy1 (size1 t).2.symm
  have e : y = ((cfg0.win 1).blk t).view.emb (fun a => match a with
      | ⟨0, _⟩ => ⟨(y 0).val % 8, h0⟩
      | ⟨1, _⟩ => ⟨(y 1).val, h1⟩) := by
    refine Shape.idx_ext₂ ?_ ?_
    · refine Eq.symm ((Window.rect_emb_val win0_1 t _ 0).trans ?_)
      rw [(index1 t).1, htv]
      show (y 0).val / 8 * 8 + (y 0).val % 8 = (y 0).val
      omega
    · refine Eq.symm ((Window.rect_emb_val win0_1 t _ 1).trans ?_)
      rw [(index1 t).2]; exact Nat.zero_add _
  rw [e]
  exact View.emb_mem_set _ _

/-- The array after the run. -/
theorem final (c : Dev nD) (σ : Fin 128 → Fin 50 → Fin 100352) (hσ : ∀ q, Sel.Separated (scores m c q) (σ q)) :
    (dats m 0 c).arrAt 1 cfg0.N = probs m c σ :=
  (dats m 0 c).arrAt_eq_of_cover 1 (probs m c σ) (fun t _ => flushed m c σ hσ t) (fun y => cover y)

/-- The run with its result named. -/
theorem run_probs (σ : Dev nD → Fin 128 → Fin 50 → Fin 100352) (hσ : ∀ c q, Sel.Separated (scores m c q) (σ c q)) :
    θ_run defs (onTc (τ := τ) (main (F := Ideal))) ⟨m, fun _ => 0, ρ⟩ (fun r => ∀ c : Dev nD,
      r.2.mem ((c.tc : Thread nD τ).loc main_v0) = probs m c (σ c)
      ∧ r.2.mem ((c.tc : Thread nD τ).loc main_arg0) = m ((c.tc : Thread nD τ).loc main_arg0)) := by
  have h1 := (θ_run defs _ _).mono (fun r h => fun c : Dev nD => (h c).1 1) (run_main m ρ)
  have h2 := unchanged m ρ
  exact (θ_run defs _ _).mono (fun r h c => ⟨(h.1 c).trans (final m c (σ c) (hσ c)), h.2 c⟩) (θ_run_and h1 h2)

end Cert.Kernel2Ideal.Select

end
-- ==== Proof.SelLaw.lean ====
/-
  Fifty positive shares, spread over a row and put in descending order: how much comes before each of them.
-/
module

public import proofs.«01_k».proof.Proof.SelSpec

@[expose] public section

noncomputable section

namespace Sel

variable {N : ℕ} (t : Fin 50 → Fin N) (f : Fin 50 → ℝ)

/-- `f i` at position `t i`, nothing elsewhere. -/
def spread (p : Fin N) : ℝ := ∑ i, if t i = p then f i else 0

variable {t f}

theorem spread_at (ht : Function.Injective t) (i : Fin 50) : spread t f (t i) = f i := by
  unfold spread
  rw [Finset.sum_eq_single i (fun j _ hj => if_neg fun e => hj (ht e)) (fun h => absurd (Finset.mem_univ _) h), if_pos rfl]

theorem spread_off {p : Fin N} (hp : ∀ i, t i ≠ p) : spread t f p = 0 :=
  Finset.sum_eq_zero fun i _ => if_neg (hp i)

theorem sum_spread : ∑ p, spread t f p = ∑ i, f i := by
  unfold spread
  rw [Finset.sum_comm]
  exact Finset.sum_congr rfl fun i _ => by rw [Finset.sum_ite_eq, if_pos (Finset.mem_univ _)]

theorem spread_congr {g : Fin 50 → ℝ} (h : ∀ i, f i = g i) (p : Fin N) : spread t f p = spread t g p :=
  Finset.sum_congr rfl fun i _ => by rw [h]

/-- In a descending order of the row, what comes before share `i` is the shares of lesser number. -/
theorem before_eq (ht : Function.Injective t) (hpos : ∀ i, 0 < f i) (hanti : ∀ i j, i < j → f j < f i) {o : Fin N → Fin N}
    (ho : Function.Bijective o) (hd : ∀ i j, i ≤ j → spread t f (o j) ≤ spread t f (o i)) {k : Fin N} {i : Fin 50} (h : o k = t i) :
    ∑ j ∈ Finset.univ.filter (fun j => j < k), spread t f (o j) = ∑ r, if r < i then f r else 0 := by
  rw [← Finset.sum_filter]
  symm
  let e := Equiv.ofBijective o ho
  have he : ∀ p, o (e.symm p) = p := fun p => e.apply_symm_apply p
  refine Finset.sum_nbij (fun r => e.symm (t r)) (fun r hr => ?_) (fun r _ s _ hrs => ht (e.symm.injective hrs)) (fun j hj => ?_) fun r _ => ?_
  · have hr' := (Finset.mem_filter.1 hr).2
    refine Finset.mem_filter.2 ⟨Finset.mem_univ _, ?_⟩
    by_contra hn
    have := hd _ _ (not_lt.1 hn)
    rw [he, h, spread_at ht, spread_at ht] at this
    exact absurd (hanti _ _ hr') (not_lt.2 this)
  · have hj' : j < k := (Finset.mem_filter.1 (Finset.mem_coe.1 hj)).2
    have hle := hd _ _ hj'.le
    rw [h, spread_at ht] at hle
    have hr : ∃ r, t r = o j := by
      by_contra hn
      push Not at hn
      rw [spread_off hn] at hle
      exact absurd (hpos i) (not_lt.2 hle)
    obtain ⟨r, hr⟩ := hr
    refine ⟨r, Finset.mem_coe.2 (Finset.mem_filter.2 ⟨Finset.mem_univ _, ?_⟩), ?_⟩
    · rw [← hr, spread_at ht] at hle
      rcases lt_trichotomy r i with h1 | h1 | h1
      · exact h1
      · subst h1
        exact absurd (ho.1 (hr.symm.trans h.symm)) hj'.ne
      · exact absurd (hanti _ _ h1) (not_lt.2 hle)
    · exact e.symm_apply_eq.2 hr
  · show f r = spread t f (o (e.symm (t r)))
    rw [he, spread_at ht]

/-- What is kept, at each position of the row: a share before which no more than the threshold comes. -/
theorem kept_eq (ht : Function.Injective t) (hpos : ∀ i, 0 < f i) (hanti : ∀ i j, i < j → f j < f i) {o : Fin N → Fin N}
    (ho : Function.Bijective o) (hd : ∀ i j, i ≤ j → spread t f (o j) ≤ spread t f (o i)) (c : ℝ) (k : Fin N) :
    (if c < ∑ j ∈ Finset.univ.filter (fun j => j < k), spread t f (o j) then 0 else spread t f (o k))
      = spread t (fun i => if (∑ r, if r < i then f r else 0) ≤ c then f i else 0) (o k) := by
  by_cases h : ∃ i, t i = o k
  · obtain ⟨i, hi⟩ := h
    rw [before_eq ht hpos hanti ho hd hi.symm, ← hi, spread_at ht, spread_at ht]
    by_cases hc : (∑ r, if r < i then f r else 0) ≤ c
    · rw [if_neg (not_lt.2 hc), if_pos hc]
    · rw [if_pos (not_le.1 hc), if_neg hc]
  · push Not at h
    rw [spread_off h, spread_off h, ite_self]

section Prob
variable {v : Fin 100352 → EReal} {σ : Fin 50 → Fin 100352}

/-- The shares of the top positions. -/
def share (v : Fin 100352 → EReal) (σ : Fin 50 → Fin 100352) (i : Fin 50) : ℝ := weight v σ i / ∑ r, weight v σ r

theorem total_pos : 0 < ∑ r, weight v σ r := Finset.sum_pos (fun i _ => weight_pos _ _ i) Finset.univ_nonempty

theorem share_pos (i : Fin 50) : 0 < share v σ i := div_pos (weight_pos _ _ i) total_pos

theorem sum_share : ∑ i, share v σ i = 1 := by
  unfold share
  rw [← Finset.sum_div, div_self total_pos.ne']

theorem Separated.share_anti (h : Separated v σ) (i j : Fin 50) (hij : i < j) : share v σ j < share v σ i := by
  unfold share
  refine div_lt_div_of_pos_right ?_ total_pos
  unfold weight
  rw [Real.exp_lt_exp]
  have := h.desc i j hij
  rw [h.coe i, h.coe j, EReal.coe_lt_coe_iff] at this
  linarith

theorem share_keep (i : Fin 50) : (∑ r, if r < i then share v σ r else 0) ≤ topP ↔ Keep v σ i := by
  have e : (∑ r, if r < i then share v σ r else 0) = (∑ r, if r < i then weight v σ r else 0) / ∑ r, weight v σ r := by
    rw [Finset.sum_div]
    exact Finset.sum_congr rfl fun r _ => by
      unfold share
      split
      · rfl
      · rw [zero_div]
  rw [e, div_le_iff₀ total_pos]
  rfl

open Classical in
/-- The shares that are kept, divided by their sum, are the probabilities. -/
theorem prob_eq {M : ℕ} {t : Fin 50 → Fin M} (ht : Function.Injective t) (h : Separated v σ) (hσ : ∀ i, (σ i).val = (t i).val)
    (p : Fin M) (p' : Fin 100352) (hp : p'.val = p.val) :
    ((spread t (fun i => if Keep v σ i then share v σ i else 0) p
      / ∑ i, (if Keep v σ i then share v σ i else 0) : ℝ) : EReal) = prob v σ p' := by
  have hZ : (0 : ℝ) < ∑ r, weight v σ r := total_pos
  have es : ∀ i, (if Keep v σ i then share v σ i else 0) = (if Keep v σ i then weight v σ i else 0) / ∑ r, weight v σ r := fun i => by
    unfold share
    split
    · rfl
    · rw [zero_div]
  have eS : (∑ i, if Keep v σ i then share v σ i else 0) = kept v σ / ∑ r, weight v σ r := by
    unfold kept
    rw [Finset.sum_div]
    exact Finset.sum_congr rfl fun i _ => es i
  have hs : ∀ i, σ i = p' ↔ t i = p := fun i => by
    rw [Fin.ext_iff, Fin.ext_iff, hσ, hp]
  rw [eS]
  unfold prob
  by_cases hk : ∃ i, Keep v σ i ∧ σ i = p'
  · rw [if_pos hk]
    obtain ⟨i, hi, e⟩ := hk
    rw [← (hs i).1 e, spread_at ht, es, if_pos hi, div_div_div_cancel_right₀ hZ.ne']
    unfold weight
    rw [e]
  · rw [if_neg hk]
    have : spread t (fun i => if Keep v σ i then share v σ i else 0) p = 0 := by
      refine Finset.sum_eq_zero fun i _ => ?_
      split
      · next e => exact if_neg fun hi => hk ⟨i, hi, (hs i).2 e⟩
      · rfl
    rw [this, zero_div, EReal.coe_zero]

end Prob

end Sel

end
-- ==== Proof.SelRef.lean ====
/-
  The reference's arrays, read at an entry over the extended reals, of scores whose fifty greatest values are told apart.
-/
module

public import proofs.«01_k».proof.Proof.Gen.Reference2Ideal.Run
public import proofs.«01_k».proof.Proof.SelPre
public import proofs.«01_k».proof.Proof.SelLaw

@[expose] public section

set_option maxRecDepth 16384

noncomputable section

namespace Cert.Reference2Ideal.Select

open Cert.Reference2Ideal Cert.Reference2Ideal.Gen Cert.Reference2Ideal.Value Idealize.ShloMosaic Idealize.ShloMosaic.TcCoe Idealize.SL.Sem
open Sel

/-- The exponentials of the top values less the greatest. -/
def exps (y : FVec Ideal S128x50 .f32) : FVec Ideal S128x50 .f32 :=
  Host.exp (subf y (broadcastInDim S128x50 ![0, 1] bcast_S128x1_S128x50_0_1 (broadcastInDim S128x1 ![0] bcast_S128_S128x1_0 (maximumf (broadcastInDim S128 ![] bcast_S_S128 (constant S_ .f32 0xFF800000#32)) (Host.reduce FloatOps.maximumf y (constant S_ .f32 0xFF800000#32) reducesTo_S128x50_S128_d1 h_S_)))))

/-- Each entry over the sum of its row. -/
def shares (y : FVec Ideal S128x50 .f32) : FVec Ideal S128x50 .f32 :=
  Host.divf y (broadcastInDim S128x50 ![0, 1] bcast_S128x1_S128x50_0_1 (broadcastInDim S128x1 ![0] bcast_S128_S128x1_0 (Host.reduceAdd y (constant S_ .f32 0x00000000#32) reducesTo_S128x50_S128_d1 h_S_)))

def normal (y : FVec Ideal S128x100000 .f32) : FVec Ideal S128x100000 .f32 :=
  Host.divf y (broadcastInDim S128x100000 ![0, 1] bcast_S128x1_S128x100000_0_1 (broadcastInDim S128x1 ![0] bcast_S128_S128x1_0 (Host.reduceAdd y (constant S_ .f32 0x00000000#32) reducesTo_S128x100000_S128_d1 h_S_)))

/-- The row numbers. -/
def rows : IVec S128x1 32 := broadcastInDim S128x1 ![0] bcast_S128_S128x1_0 (iotaInDim S128 32 0)

/-- The pairs of a row number and a position, for fifty positions of each row. -/
def pairs (r : IVec S128x1 32) (w : IVec S128x50 32) : IVec S128x50x2 32 :=
  concatenate S128x50x2 2 [⟨S128x50x1, (broadcastInDim S128x50x1 ![0, 1] bcast_S128x50_S128x50x1_0_1 (broadcastInDim S128x50 ![0, 1] bcast_S128x1_S128x50_0_1 (select (cmpi .slt r (broadcastInDim S128x1 ![] bcast_S_S128x1 (constantI S_ 32 0#32))) (addi r (broadcastInDim S128x1 ![] bcast_S_S128x1 (constantI S_ 32 128#32))) r)))⟩, ⟨S128x50x1, (broadcastInDim S128x50x1 ![0, 1] bcast_S128x50_S128x50x1_0_1 (select (cmpi .slt w (broadcastInDim S128x50 ![] bcast_S_S128x50 (constantI S_ 32 0#32))) (addi w (broadcastInDim S128x50 ![] bcast_S_S128x50 (constantI S_ 32 100000#32))) w))⟩] concatenates_S128x50x1_S128x50x1_S128x50x2_d2

/-- The pairs of a row number and a position, for every position of each row. -/
def allPairs (r : IVec S128x1 32) (w : IVec S128x100000 32) : IVec S128x100000x2 32 :=
  concatenate S128x100000x2 2 [⟨S128x100000x1, (broadcastInDim S128x100000x1 ![0, 1] bcast_S128x100000_S128x100000x1_0_1 (broadcastInDim S128x100000 ![0, 1] bcast_S128x1_S128x100000_0_1 (select (cmpi .slt r (broadcastInDim S128x1 ![] bcast_S_S128x1 (constantI S_ 32 0#32))) (addi r (broadcastInDim S128x1 ![] bcast_S_S128x1 (constantI S_ 32 128#32))) r)))⟩, ⟨S128x100000x1, (broadcastInDim S128x100000x1 ![0, 1] bcast_S128x100000_S128x100000x1_0_1 (select (cmpi .slt w (broadcastInDim S128x100000 ![] bcast_S_S128x100000 (constantI S_ 32 0#32))) (addi w (broadcastInDim S128x100000 ![] bcast_S_S128x100000 (constantI S_ 32 100000#32))) w))⟩] concatenates_S128x100000x1_S128x100000x1_S128x100000x2_d2

/-- The running sums along each row. -/
def cums (y : FVec Ideal S128x100000 .f32) : FVec Ideal S128x100000 .f32 :=
  Host.reduceWindowAdd ![1, 100000] ![1, 1] ![0, 99999] ![0, 0] y (broadcastInDim S_ ![] bcast_S_S_ (constant S_ .f32 0x00000000#32)) reduceWindows_S128x100000_S128x100000_w1s1p0_0_w100000s1p99999_0 h_S_

/-- The bit of each running sum that has passed the threshold. -/
def past (y : FVec Ideal S128x100000 .f32) : IVec S128x100000 1 :=
  cmpf .ogt y (broadcastInDim S128x100000 ![] bcast_S_S128x100000 (constant S_ .f32 0x3F666666#32))

/-- A row of bits moved one place to the right, with a clear bit in front. -/
def shifted (b : IVec S128x100000 1) : IVec S128x100000 1 :=
  concatenate S128x100000 1 [⟨S128x1, (broadcastInDim S128x1 ![] bcast_S_S128x1 (constantI S_ 1 0#1))⟩, ⟨S128x99999, (extractStridedSlice S128x99999 ![0, 0] b slices_S128x100000_S128x99999_0_0)⟩] concatenates_S128x1_S128x99999_S128x100000_d1

/-- The descending probabilities without those that come after the threshold is passed. -/
def keptOf (y : FVec Ideal S128x100000 .f32) : FVec Ideal S128x100000 .f32 :=
  select (shifted (past (cums y))) (broadcastInDim S128x100000 ![] bcast_S_S128x100000 (id (constant S_ .f32 0x00000000#32))) y

def zeros : FVec Ideal S128x100000 .f32 := broadcastInDim S128x100000 ![] bcast_S_S128x100000 (constant S_ .f32 0x00000000#32)

theorem fold_max_row (y : Fin 50 → EReal) (h : ∀ i, y i ≤ y 0) : (Finset.univ : Finset (Fin 50)).fold max ⊥ y = y 0 := by
  rw [Cert.Kernel2Ideal.Select.fold_max]
  exact le_antisymm (Finset.sup_le fun i _ => h i) (Finset.le_sup (f := y) (Finset.mem_univ 0))

theorem exps_read (y : FVec Ideal S128x50 .f32) (q : Fin 128) (i : Fin 50) (h : ∀ k, (y (ix2 q k) : EReal) ≤ y (ix2 q 0)) :
    exps y (ix2 q i) = Ideal.exp ((y (ix2 q i) : EReal) - y (ix2 q 0)) := by
  pointwise [exps]
  rw [Cert.Kernel2Ideal.Select.ofBits_bot, fold_max_row (fun k => y (ix2 q k)) h, max_eq_right bot_le]

theorem shares_read (y : FVec Ideal S128x50 .f32) (q : Fin 128) (i : Fin 50) (g : Fin 50 → ℝ) (hg : ∀ k, y (ix2 q k) = ((g k : ℝ) : EReal))
    (hs : ∑ k, g k ≠ 0) : shares y (ix2 q i) = ((g i / ∑ k, g k : ℝ) : EReal) := by
  pointwise [shares]
  simp only [hg]
  rw [coe_sum, Ideal.div_coe hs, ← EReal.coe_mul, mul_one_div]

theorem normal_read (y : FVec Ideal S128x100000 .f32) (q : Fin 128) (i : Fin 100000) (g : Fin 100000 → ℝ) (hg : ∀ k, y (ix2 q k) = ((g k : ℝ) : EReal))
    (hs : ∑ k, g k ≠ 0) : normal y (ix2 q i) = ((g i / ∑ k, g k : ℝ) : EReal) := by
  pointwise [normal]
  simp only [hg]
  rw [coe_sum, Ideal.div_coe hs, ← EReal.coe_mul, mul_one_div]

theorem wrap_word (n : ℕ) (hn : n < 100352) (c : BitVec 32) :
    (Scalar.select (IntOp.cmpi CmpIPredicate.slt (BitVec.ofNat 32 n) 0#32) c (BitVec.ofNat 32 n)).toInt = (n : Int) := by
  rw [Routing.wrap_of_lt _ _ (by rw [BitVec.toNat_ofNat]; omega)]
  exact StableHlo.Predicate.toInt_ofNat_small _ (by omega)

theorem rows_apply (a : Fin 128) (b : Fin 1) : rows (ix2 a b) = BitVec.ofNat 32 a.val := by
  pointwise [rows]

theorem pairs_row (w : IVec S128x50 32) (a : Fin 128) (b : Fin 50) : (pairs rows w (ix3 a b 0)).toInt = (a.val : Int) := by
  pointwise [pairs, rows]
  exact wrap_word _ (by omega) _

theorem pairs_col (w : IVec S128x50 32) (a : Fin 128) (b : Fin 50) (n : ℕ) (hn : n < 100352) (hw : w (ix2 a b) = BitVec.ofNat 32 n) :
    (pairs rows w (ix3 a b 1)).toInt = (n : Int) := by
  pointwise [pairs, rows]
  rw [hw]
  exact wrap_word _ hn _

theorem allPairs_row (w : IVec S128x100000 32) (a : Fin 128) (b : Fin 100000) : (allPairs rows w (ix3 a b 0)).toInt = (a.val : Int) := by
  pointwise [allPairs, rows]
  exact wrap_word _ (by omega) _

theorem allPairs_col (w : IVec S128x100000 32) (a : Fin 128) (b : Fin 100000) (n : ℕ) (hn : n < 100352)
    (hw : w (ix2 a b) = BitVec.ofNat 32 n) : (allPairs rows w (ix3 a b 1)).toInt = (n : Int) := by
  pointwise [allPairs, rows]
  rw [hw]
  exact wrap_word _ hn _

theorem cums_read (y : FVec Ideal S128x100000 .f32) (q : Fin 128) (j : Fin 100000) :
    cums y (ix2 q j) = ∑ k ∈ Finset.univ.filter (fun k => k ≤ j), (y (ix2 q k) : EReal) := by
  unfold cums
  refine cumsum_row (M := 99999) y _ (fun i => ?_) _ _ q j
  pointwise

theorem past_read (y : FVec Ideal S128x100000 .f32) (q : Fin 128) (j : Fin 100000) (g : ℝ) (hg : y (ix2 q j) = (g : EReal)) :
    past y (ix2 q j) = BitVec.ofBool (decide (topP < g)) := by
  pointwise [past]
  rw [hg, ofBits_topP]
  simp only [EReal.coe_lt_coe_iff]

theorem shifted_zero (b : IVec S128x100000 1) (q : Fin 128) (k : Fin 100000) (hk : k.val = 0) : shifted b (ix2 q k) = 0#1 :=
  (front_fst _ _ _ q k hk).trans rfl

theorem shifted_succ (b : IVec S128x100000 1) (q : Fin 128) (k j : Fin 100000) (hk : k.val = j.val + 1) : shifted b (ix2 q k) = b (ix2 q j) :=
  (front_snd (N := 99999) _ _ _ q k ⟨j.val, by omega⟩ hk).trans (slice_read (M := 99999) b _ q _ j rfl)

theorem keptOf_select (y : FVec Ideal S128x100000 .f32) (q : Fin 128) (k : Fin 100000) :
    keptOf y (ix2 q k) = Scalar.select (shifted (past (cums y)) (ix2 q k)) (0 : EReal) (y (ix2 q k)) := by
  pointwise [keptOf, id]

theorem keptOf_read (y : FVec Ideal S128x100000 .f32) (q : Fin 128) (k : Fin 100000) (g : Fin 100000 → ℝ)
    (hg : ∀ j, y (ix2 q j) = ((g j : ℝ) : EReal)) :
    keptOf y (ix2 q k) = (((if topP < ∑ j ∈ Finset.univ.filter (fun j => j < k), g j then 0 else g k : ℝ)) : EReal) := by
  have e : shifted (past (cums y)) (ix2 q k) = BitVec.ofBool (decide (topP < ∑ j ∈ Finset.univ.filter (fun j => j < k), g j)) := by
    by_cases hk : k.val = 0
    · have hn : ¬ topP < ∑ j ∈ Finset.univ.filter (fun j => j < k), g j := by
        rw [Finset.sum_eq_zero fun j hj => absurd (Fin.lt_def.1 (Finset.mem_filter.1 hj).2) (by omega)]
        norm_num [topP]
      rw [shifted_zero _ q k hk, decide_eq_false hn]
      rfl
    · have hs : Finset.univ.filter (fun j : Fin 100000 => j ≤ ⟨k.val - 1, by omega⟩) = Finset.univ.filter (fun j => j < k) :=
        Finset.filter_congr fun j _ => by
          rw [Fin.le_def, Fin.lt_def]
          show j.val ≤ k.val - 1 ↔ _
          omega
      rw [shifted_succ _ q k ⟨k.val - 1, by omega⟩ (by show k.val = k.val - 1 + 1; omega)]
      refine past_read _ q _ _ ?_
      rw [cums_read, hs, ← coe_sum]
      exact Finset.sum_congr rfl fun j _ => hg j
  rw [keptOf_select, e, hg k]
  split
  · next h => rw [decide_eq_true h]; rfl
  · next h => rw [decide_eq_false h]; rfl

/-- Shares written at their positions. -/
theorem scatter_spread (w : IVec S128x50 32) (u : FVec Ideal S128x50 .f32) (t : Fin 128 → Fin 50 → Fin 100000) (f : Fin 128 → Fin 50 → ℝ)
    (ht : ∀ q, Function.Injective (t q)) (hw : ∀ q i, w (ix2 q i) = BitVec.ofNat 32 (t q i).val)
    (hu : ∀ q i, u (ix2 q i) = ((f q i : ℝ) : EReal)) (q : Fin 128) (p : Fin 100000) :
    Host.scatter scatter_S128x100000_S128x50x2_S128x50_n_01_01_2 (fun _ b => b) zeros (pairs rows w) u (ix2 q p)
      = ((spread (t q) (f q) p : ℝ) : EReal) := by
  by_cases h : ∃ i, t q i = p
  · obtain ⟨i, rfl⟩ := h
    rw [spread_at (ht q), ← hu]
    exact scatter_pair_hit _ rfl rfl rfl _ _ _ (fun a => a.val) (fun a b => (t a b).val) (pairs_row w)
      (fun a b => pairs_col w a b _ ((t a b).isLt.trans (by decide)) (hw a b))
      (fun a b a' b' ha hb => by
        obtain rfl := Fin.ext ha
        exact ⟨rfl, ht _ (Fin.ext hb)⟩) _ _ q i rfl rfl
  · rw [spread_off fun i hi => h ⟨i, hi⟩]
    refine (scatter_pair_miss _ rfl rfl rfl _ _ _ (fun a => a.val) (fun a b => (t a b).val) (pairs_row w)
      (fun a b => pairs_col w a b _ ((t a b).isLt.trans (by decide)) (hw a b)) _ _ (fun a b ha hb => ?_)).trans ?_
    · obtain rfl := Fin.ext ha
      exact h ⟨b, Fin.ext hb⟩
    · pointwise [zeros]
      rfl

/-- A row written at the positions an order names. -/
theorem scatter_order (w : IVec S128x100000 32) (u : FVec Ideal S128x100000 .f32) (o : Fin 128 → Fin 100000 → Fin 100000)
    (ho : ∀ q, Function.Injective (o q)) (hw : ∀ q i, w (ix2 q i) = BitVec.ofNat 32 (o q i).val) (q : Fin 128) (k : Fin 100000) :
    Host.scatter scatter_S128x100000_S128x100000x2_S128x100000_n_01_01_2 (fun _ b => b) zeros (allPairs rows w) u (ix2 q (o q k))
      = u (ix2 q k) :=
  scatter_pair_hit _ rfl rfl rfl _ _ _ (fun a => a.val) (fun a b => (o a b).val) (allPairs_row w)
    (fun a b => allPairs_col w a b _ ((o a b).isLt.trans (by decide)) (hw a b))
    (fun a b a' b' ha hb => by
      obtain rfl := Fin.ext ha
      exact ⟨rfl, ho _ (Fin.ext hb)⟩) _ _ q k rfl rfl

/-- A row read at the positions an order names. -/
theorem gather_order (w : IVec S128x100000 32) (y : FVec Ideal S128x100000 .f32) (q : Fin 128) (k p : Fin 100000)
    (hw : w (ix2 q k) = BitVec.ofNat 32 p.val) :
    Host.gather gather_S128x100000_S128x100000x2_S128x100000_n_01_n_n_01_2_11 y (allPairs rows w) (ix2 q k) = y (ix2 q p) :=
  gather_pair _ rfl rfl rfl rfl rfl _ _ q k q p (allPairs_row w q k) (allPairs_col w q k _ (p.isLt.trans (by decide)) hw)

theorem select_clear {α : Type} (a b : α) (p : Prop) [Decidable p] (h : ¬ p) : Scalar.select (BitVec.ofBool (decide p)) a b = b := by
  rw [decide_eq_false h]
  rfl

theorem canon (a c : EReal) : Scalar.select (Ideal.cmp .une a a) c (Scalar.select (Ideal.cmp .oeq a (Ideal.ofBits .f32 0#32)) (Ideal.ofBits .f32 0#32) a) = a := by
  refine (select_clear _ _ (a ≠ a) (fun h => h rfl)).trans ?_
  by_cases h : a = Ideal.ofBits .f32 0#32
  · refine Eq.trans ?_ h.symm
    show Scalar.select (BitVec.ofBool (decide (a = Ideal.ofBits .f32 0#32))) _ a = _
    rw [decide_eq_true h]
    rfl
  · exact select_clear _ _ (a = Ideal.ofBits .f32 0#32) h

/-- The reference's sort compares the first entries of two pairs. -/
theorem comparator_lt (l r : EReal × BitVec 32) : comparator_f32_i32_d1 (F := Ideal) l r = 1#1 ↔ l.1 < r.1 := by
  have e : comparator_f32_i32_d1 (F := Ideal) l r = BitVec.ofBool (decide (l.1 < r.1)) :=
    congrArg₂ (Ideal.cmp .olt) (canon l.1 _) (canon r.1 _)
  rw [e]
  exact Cert.Kernel2Ideal.Select.ofBool_eq_one _

section Row

variable (V : Valuation τ sig (Elt Ideal)) (x : FVec Ideal S128x100352 .f32) (hx : V (Proc.devRef .tc main_arg0) = x)

/-- Scores of a row, and where its top fifty lie. -/
def row (q : Fin 128) : Fin 100352 → EReal := fun p => x (ix2 q p)

def tops (q : Fin 128) (i : Fin 50) : Fin 100000 := ord x q ⟨i.val, by omega⟩

theorem tops_inj (q : Fin 128) : Function.Injective (tops x q) := fun i j h =>
  Fin.ext (Fin.mk.inj_iff.1 ((ord_bij x q).1 h))

include hx in
theorem values_apply (q : Fin 128) (i : Fin 50) :
    (res_main_values V : FVec Ideal S128x50 .f32) (ix2 q i) = row x q (top x q i) := by
  subst hx
  refine (topK_fst _ _ _ q i (by decide)).trans (cut_apply _ q _)

include hx in
theorem indices_apply (q : Fin 128) (i : Fin 50) :
    (res_main_indices V : IVec S128x50 32) (ix2 q i) = BitVec.ofNat 32 (tops x q i).val := by
  subst hx
  unfold tops
  exact topK_snd _ _ _ q i (by decide)

variable (hsep : ∀ q, Separated (row x q) (top x q))

include hx hsep in
theorem exps_apply (q : Fin 128) (i : Fin 50) :
    exps (res_main_values V) (ix2 q i) = ((weight (row x q) (top x q) i : ℝ) : EReal) := by
  rw [exps_read _ q i fun k => ?_, values_apply V x hx, values_apply V x hx]
  · exact (hsep q).exp_sub i
  · rw [values_apply V x hx, values_apply V x hx]
    rcases eq_or_ne k 0 with rfl | hk
    · exact le_rfl
    · exact ((hsep q).desc 0 k (Fin.pos_of_ne_zero hk)).le

include hx hsep in
theorem shares_apply (q : Fin 128) (i : Fin 50) :
    shares (exps (res_main_values V)) (ix2 q i) = ((share (row x q) (top x q) i : ℝ) : EReal) :=
  shares_read _ q i _ (exps_apply V x hx hsep q) total_pos.ne'

/-- The shares at their positions. -/
def sp (q : Fin 128) (p : Fin 100000) : ℝ := spread (tops x q) (share (row x q) (top x q)) p

include hx hsep in
theorem v29_apply (q : Fin 128) (p : Fin 100000) : (res_main_v29 V : FVec Ideal S128x100000 .f32) (ix2 q p) = ((sp x q p : ℝ) : EReal) :=
  scatter_spread _ _ (tops x) _ (tops_inj x) (indices_apply V x hx) (shares_apply V x hx hsep) q p

include hx hsep in
theorem v33_apply (q : Fin 128) (p : Fin 100000) : (res_main_v33 V : FVec Ideal S128x100000 .f32) (ix2 q p) = ((sp x q p : ℝ) : EReal) := by
  have hs : ∑ k, sp x q k = 1 := sum_spread.trans sum_share
  refine (normal_read _ q p _ (v29_apply V x hx hsep q) (hs.trans_ne one_ne_zero)).trans ?_
  rw [hs, div_one]

/-- The reference's descending order of a row. -/
def desc (q : Fin 128) : Fin 100000 → Fin 100000 :=
  from2 (comparator_f32_i32_d1 (F := Ideal)) (res_main_v34 V : FVec Ideal S128x100000 .f32) (res_main_call0_v0 V : IVec S128x100000 32) q

theorem desc_bij (q : Fin 128) : Function.Bijective (desc V q) := from2_bij _ _ _ q

include hx hsep in
theorem v34_apply (q : Fin 128) (p : Fin 100000) : (res_main_v34 V : FVec Ideal S128x100000 .f32) (ix2 q p) = ((-sp x q p : ℝ) : EReal) := by
  rw [EReal.coe_neg]
  exact congrArg (fun e : EReal => -e) (v33_apply V x hx hsep q p)

include hx hsep in
theorem desc_le (q : Fin 128) (i j : Fin 100000) (hij : i ≤ j) : sp x q (desc V q j) ≤ sp x q (desc V q i) := by
  have h := from2_asc _ comparator_lt (res_main_v34 V : FVec Ideal S128x100000 .f32) (res_main_call0_v0 V : IVec S128x100000 32) q hij
  have e := v34_apply V x hx hsep q
  unfold desc
  rw [e, e, EReal.coe_le_coe_iff] at h
  exact neg_le_neg_iff.1 h

theorem v35_apply (q : Fin 128) (k : Fin 100000) :
    (res_main_v35 V : IVec S128x100000 32) (ix2 q k) = BitVec.ofNat 32 (desc V q k).val :=
  (sort2_snd _ _ _ q k).trans rfl

include hx hsep in
theorem v50_apply (q : Fin 128) (k : Fin 100000) :
    (res_main_v50 V : FVec Ideal S128x100000 .f32) (ix2 q k) = ((sp x q (desc V q k) : ℝ) : EReal) :=
  (gather_order _ _ q k (desc V q k) (v35_apply V q k)).trans (v33_apply V x hx hsep q _)

/-- The shares kept. -/
def keptShare (q : Fin 128) (i : Fin 50) : ℝ :=
  open Classical in if Keep (row x q) (top x q) i then share (row x q) (top x q) i else 0

include hx hsep in
theorem v73_apply (q : Fin 128) (p : Fin 100000) :
    (res_main_v73 V : FVec Ideal S128x100000 .f32) (ix2 q p) = ((spread (tops x q) (keptShare x q) p : ℝ) : EReal) := by
  obtain ⟨k, rfl⟩ := (desc_bij V q).2 p
  refine (scatter_order _ _ (desc V) (fun q => (desc_bij V q).1) (v35_apply V) q k).trans ?_
  refine (keptOf_read _ q k _ (v50_apply V x hx hsep q)).trans (congrArg _ ?_)
  refine (kept_eq (tops_inj x q) share_pos (hsep q).share_anti (desc_bij V q) (desc_le V x hx hsep q) topP k).trans (spread_congr (fun i => ?_) _)
  unfold keptShare
  classical
  exact if_congr (share_keep i) rfl rfl

include hx hsep in
/-- The reference's result is the probability of each true column. -/
theorem result_apply (q : Fin 128) (p : Fin 100000) :
    normal (res_main_v73 V) (ix2 q p) = prob (row x q) (top x q) ⟨p.val, by omega⟩ := by
  have hs : ∑ k, spread (tops x q) (keptShare x q) k = ∑ i, keptShare x q i := sum_spread
  refine (normal_read _ q p _ (v73_apply V x hx hsep q) ?_).trans ?_
  · rw [hs]
    refine (Finset.sum_pos' (fun i _ => ?_) ⟨0, Finset.mem_univ _, ?_⟩).ne'
    · unfold keptShare
      split
      · exact (share_pos i).le
      · exact le_rfl
    · unfold keptShare
      rw [if_pos (keep_zero _ _)]
      exact share_pos 0
  · rw [hs]
    exact prob_eq (tops_inj x q) (hsep q) (fun i => top_val x q i) p _ rfl

end Row

end Cert.Reference2Ideal.Select

end
-- ==== Proof.JoinNorm.lean ====
/-
  The first call of the whole kernel over the extended reals, from any contents of the buffers when it is reached: the
  array it leaves holds the queries, each row over the greater of its length and the rounded lower bound.
-/
module

public import proofs.«01_k».proof.Proof.Gen.Kernel3Ideal.Skeleton
public import proofs.«01_k».proof.Proof.Gen.Kernel3Ideal.Points
public import proofs.«01_k».proof.Proof.Gen.Kernel3Ideal.Launch
public import proofs.«01_k».proof.Proof.SimsScalar
public import Idealize.ShloMosaic.Lib.Pointwise
public import Idealize.ShloMosaic.Lib.Claim
public import Idealize.ShloMosaic.Lib.Pipeline.Frame
public import Idealize.ShloMosaic.Lib.Pipeline.FrameBody
public import Idealize.ShloMosaic.Lib.Pipeline.Value

@[expose] public section

set_option maxRecDepth 16384

noncomputable section

namespace Cert.Kernel3Ideal.Norm

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

local notation "𝕄" => MT nD τ sig Unit (Elt Ideal) ℕ (UR sig nD τ) ℕ

theorem zero_offsets : (![0, 0] : Fin 2 → Nat) = fun _ => 0 := funext fun a => by fin_cases a <;> rfl

theorem covers (p : Vec Ideal S128x1152 .f32) (y : S128x1152.Idx) :
    ∃ pc ∈ ([⟨Rect.unit (s := S128x1152) ![0, 0] S128x1152.size inb_S128x1152_S128x1152_0_0, p⟩] :
      List (View.Piece (Elt Ideal) S128x1152 .f32)), y ∈ pc.1.set :=
  View.cover_of_tiled [⟨Rect.unit (s := S128x1152) ![0, 0] S128x1152.size inb_S128x1152_S128x1152_0_0, p⟩] S128x1152.size (by rfl) y

/-- The output's buffer after the body: its one store, of what the load of the input's buffer gives. -/
def stored (x0 : Vec Ideal S128x1152 .f32) : Vec Ideal S128x1152 .f32 :=
  View.canon [⟨Rect.unit (s := S128x1152) ![0, 0] S128x1152.size inb_S128x1152_S128x1152_0_0,
    k0_pay1 (View.ld x0 (Rect.unit (s := S128x1152) ![0, 0] S128x1152.size inb_S128x1152_S128x1152_0_0))⟩]

theorem stored_eq (x0 : Vec Ideal S128x1152 .f32) : stored x0 = k0_pay1 x0 := by
  unfold stored
  rw [View.canon_unit_zero zero_offsets, View.ld_unit_zero zero_offsets]

set_option maxHeartbeats 1000000 in
/-- The body on two whole staging buffers. -/
theorem body_runs (c : Dev nD) (E : Set ℕ) (arg0 : Memref sig .tc .vmem S128x1152 .f32) (harg0 : arg0.IsWhole)
    (arg1 : Memref sig .tc .vmem S128x1152 .f32) (harg1 : arg1.IsWhole) (x0 : Vec Ideal S128x1152 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (stored x0)) -∗ K ⟨⟩))
      ⊢ wp frame (wpE (defs₀ (F := Ideal)) Variants.none c none) E (cc0__qnorm_body arg0 harg0 arg1 harg1) K := by
  simp only [cc0__qnorm_body_eq_skeleton]; unfold cc0__qnorm_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers _)

/-! ## The proof data -/

variable (V : (c : Dev nD) → (b : Ref sig .tc) → Buf (Elt Ideal) ((c : Thread nD τ).loc b))

/-- Window `w`'s block at the one point, read off its array as the call finds it. -/
def iblk (c : Dev nD) (w : Fin cfg0.W) (t : Fin cfg0.N) : ((cfg0.win w).xblock (cfg0.grid.coords t)).Idx → Elt Ideal (cfg0.win w).elt :=
  ((cfg0.win w).blk t).view.read (Elt Ideal) (V c (Pipeline.arrRef spec0 w))

/-- The proof data: the arrays as the call finds them; after the body the queries' buffer as it was, the output's at the
    normalised rows. -/
def dats (c : Dev nD) : Dat τ (Elt Ideal) Unit ℕ (UR sig nD τ) ℕ cfg0 c where
  A w := V c (Pipeline.arrRef spec0 w)
  after w t := match w with
    | ⟨0, _⟩ => iblk V c 0 t
    | ⟨1, _⟩ => k0_pay1 (iblk V c 0 t)
  Φ _ := Pipeline.ΦA spec0 c
  q _ := fullShare
  owed _ := 0

theorem A_eq (c : Dev nD) (w : Fin cfg0.W) : (dats V c).A w = V c (Pipeline.arrRef spec0 w) := by
  dsimp only [dats]
theorem after_0 (c : Dev nD) (t : Fin cfg0.N) : (dats V c).after 0 t = iblk V c 0 t := by dsimp only [dats]
theorem after_1 (c : Dev nD) (t : Fin cfg0.N) : (dats V c).after 1 t = k0_pay1 (iblk V c 0 t) := by dsimp only [dats]
theorem before_0 (c : Dev nD) (t : Fin cfg0.N) (d) : (dats V c).before 0 t d = iblk V c 0 t := by
  unfold Dat.before; rw [if_pos (fetch0_0 t)]; rfl

/-! ## The body obligation -/

def bodyPre (c : Dev nD) (t : Fin cfg0.N) : sProp 𝕄 :=
  iprop((dats V c).Φ t.castSucc ∗ (dats V c).owesAt () t.castSucc
    ∗ (∃ d, owns (c : Thread nD τ) (st0_0 t) fullShare ((dats V c).before 0 t d))
    ∗ (∃ d, owns (c : Thread nD τ) (st0_1 t) fullShare ((dats V c).before 1 t d)))

def bodyPost (c : Dev nD) (t : Fin cfg0.N) : sProp 𝕄 :=
  iprop((dats V c).Φ t.succ ∗ (dats V c).owesAt () t.succ
    ∗ owns (c : Thread nD τ) (st0_0 t) fullShare ((dats V c).after 0 t)
    ∗ owns (c : Thread nD τ) (st0_1 t) fullShare ((dats V c).after 1 t))

theorem body_at (c : Dev nD) (t : Fin cfg0.N) :
    bodyPre V c t ⊢ wp frame (wpE (defs₀ (F := Ideal)) Variants.none c none) Set.univ (bodyAt0 t) (fun _ => bodyPost V c t) := by
  unfold bodyPre bodyPost bodyAt0
  simp only [before_0]
  rw [show (dats V c).Φ t.succ = (dats V c).Φ t.castSucc from rfl,
    show (dats V c).owesAt () t.succ = (dats V c).owesAt () t.castSucc from rfl, after_0, after_1]
  iintro ⟨HΦ, Ho, ⟨%d0, H0⟩, ⟨%d1, H1⟩⟩
  iapply (body_runs c Set.univ _ _ _ _ (iblk V c 0 t) _)
  rw [stored_eq]
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligationLoose (dats V c) (defs₀ (F := Ideal)) Variants.none () Set.univ := fun t => by
  rw [bigSep_W0, bigSep_W0, defs₀_row]
  exact triple_restated (body_at V c t) rfl .rfl fun _ => .rfl

/-! ## The array after the call -/

theorem blk_emb0 (t : Fin cfg0.N) (q : Fin 128) (l : Fin 1152) :
    ((cfg0.win 0).blk t).view.emb (ix2 q l) = (ix2 q l : S128x1152.Idx) := by
  refine Shape.idx_ext₂ ?_ ?_
  · refine (Window.rect_emb_val win0_0 t _ 0).trans ?_; exact Nat.zero_add _
  · refine (Window.rect_emb_val win0_0 t _ 1).trans ?_; exact Nat.zero_add _

theorem blk_emb1 (t : Fin cfg0.N) (q : Fin 128) (l : Fin 1152) :
    ((cfg0.win 1).blk t).view.emb (ix2 q l) = (ix2 q l : S128x1152.Idx) := by
  refine Shape.idx_ext₂ ?_ ?_
  · refine (Window.rect_emb_val win0_1 t _ 0).trans ?_; exact Nat.zero_add _
  · refine (Window.rect_emb_val win0_1 t _ 1).trans ?_; exact Nat.zero_add _

/-- The queries' block is the whole array. -/
theorem blk0 (c : Dev nD) (t : Fin cfg0.N) : iblk V c 0 t = V c main_arg0 := by
  funext y
  unfold iblk
  rw [View.read_apply]
  have e : y = (ix2 (y 0 : Fin 128) (y 1 : Fin 1152) : S128x1152.Idx) := Shape.idx_ext₂ rfl rfl
  rw [e]
  exact congrArg (V c main_arg0) (blk_emb0 t _ _)

theorem flushed (c : Dev nD) (t : Fin cfg0.N) :
    (dats V c).flushed 1 t = ((cfg0.win 1).blk t).view.read (Elt Ideal) (k0_pay1 (F := Ideal) (V c main_arg0)) := by
  show (cfg0.win 1).cut (grid0.coords t) ((dats V c).after 1 t) = _
  rw [after_1, blk0]
  funext y
  rw [View.read_apply]
  have e : y = (ix2 (y 0 : Fin 128) (y 1 : Fin 1152) : S128x1152.Idx) := Shape.idx_ext₂ rfl rfl
  rw [e]
  exact congrArg (k0_pay1 (F := Ideal) (V c main_arg0)) (blk_emb1 t _ _).symm

theorem cover (y : S128x1152.Idx) : ∃ t : Fin cfg0.N, (cfg0.win 1).flush t = true ∧ y ∈ ((cfg0.win 1).blk t).view.set := by
  refine ⟨t0_0, flush0_1 _, ?_⟩
  have e : y = ((cfg0.win 1).blk t0_0).view.emb (ix2 (y 0 : Fin 128) (y 1 : Fin 1152)) :=
    (Shape.idx_ext₂ rfl rfl : y = (ix2 (y 0 : Fin 128) (y 1 : Fin 1152) : S128x1152.Idx)).trans (blk_emb1 t0_0 _ _).symm
  rw [e]
  exact View.emb_mem_set _ _

/-- The array after the call. -/
theorem final (c : Dev nD) : (dats V c).arrAt 1 cfg0.N = k0_pay1 (F := Ideal) (V c main_arg0) :=
  (dats V c).arrAt_eq_of_cover 1 (k0_pay1 (F := Ideal) (V c main_arg0)) (fun t _ => flushed V c t) (fun y => cover y)

end Cert.Kernel3Ideal.Norm

end
-- ==== Proof.JoinBlocks.lean ====
/-
  The bodies of the second and third call of the whole kernel store what the bodies of the two calls on their own store:
  the values are the same, and casts of an array to its own shape change nothing.
-/
module

public import proofs.«01_k».proof.Proof.Gen.Kernel3Ideal.Skeleton
public import proofs.«01_k».proof.Proof.SimsBlock
public import proofs.«01_k».proof.Proof.SelBlock

@[expose] public section

set_option maxRecDepth 16384

noncomputable section

namespace Cert.Kernel3Ideal.Join

open Cert.Kernel3Ideal.Gen Idealize.ShloMosaic Idealize.SL.Sem

theorem cast_self (x : Vec Ideal S8x100352 .f32) : k2_pay2 (F := Ideal) x = x := by
  funext y
  idx_vars y
  pointwise [k2_pay2]

theorem pay3_eq (x : Vec Ideal S8x100352 .f32) : k2_pay3 (F := Ideal) x = Cert.Kernel2Ideal.Gen.k0_pay2 (F := Ideal) x := by
  unfold k2_pay3 Cert.Kernel2Ideal.Gen.k0_pay2
  rw [cast_self]

theorem pay6_eq (x : Vec Ideal S8x100352 .f32) (a : FVec Ideal S8x1 .f32) :
    k2_pay6 (F := Ideal) x a = Cert.Kernel2Ideal.Gen.k0_pay5 (F := Ideal) x a := by
  unfold k2_pay6 Cert.Kernel2Ideal.Gen.k0_pay5
  rw [pay3_eq]
  rfl

theorem pay7_eq (x : Vec Ideal S8x100352 .f32) (k : Fin k2_t1_loop.trips) (a : FVec Ideal S8x1 .f32) (b : FVec Ideal S8x64 .f32) :
    k2_pay7 (F := Ideal) x k a b = Cert.Kernel2Ideal.Gen.k0_pay6 (F := Ideal) x k a b := by
  unfold k2_pay7 Cert.Kernel2Ideal.Gen.k0_pay6
  rw [pay6_eq]

theorem pay8_eq (x : Vec Ideal S8x100352 .f32) : k2_pay8 (F := Ideal) x = Cert.Kernel2Ideal.Gen.k0_pay7 (F := Ideal) x := by
  unfold k2_pay8 Cert.Kernel2Ideal.Gen.k0_pay7
  rw [cast_self, pay3_eq]
  rfl

theorem pay9_eq (x : Vec Ideal S8x100352 .f32) (u v : FVec Ideal S8x6272 .f32) : k2_pay9 (F := Ideal) x u v
    = Cert.Kernel2Ideal.Gen.k0_pay9 (F := Ideal) x u v (Cert.Kernel2Ideal.Gen.k0_pay8 (F := Ideal) x) := rfl

theorem pay10_eq (x : Vec Ideal S8x100352 .f32) (u v : FVec Ideal S8x6272 .f32) : k2_pay10 (F := Ideal) x u v
    = Cert.Kernel2Ideal.Gen.k0_pay11 (F := Ideal) u v (Cert.Kernel2Ideal.Gen.k0_pay10 (F := Ideal) x) := rfl

theorem pay11_eq (x : Vec Ideal S8x100352 .f32) (u v : FVec Ideal S8x6272 .f32) : k2_pay11 (F := Ideal) x u v
    = Cert.Kernel2Ideal.Gen.k0_pay12 (F := Ideal) x u v (Cert.Kernel2Ideal.Gen.k0_pay10 (F := Ideal) x) := rfl

theorem pay15_eq (x : Vec Ideal S8x100352 .f32) (u v w z : FVec Ideal S8x6272 .f32) (a : FVec Ideal S8x1 .f32) :
    k2_pay15 (F := Ideal) x w z (k2_pay12 x) (k2_pay13 x u v) k2_pay14 a
    = Cert.Kernel2Ideal.Gen.k0_pay14 (F := Ideal) x w z
        (Cert.Kernel2Ideal.Gen.k0_pay13 (F := Ideal) x u v (Cert.Kernel2Ideal.Gen.k0_pay10 (F := Ideal) x)) a := rfl

theorem pay16_eq (x : Vec Ideal S8x100352 .f32) (l : IVec S8x64 32) (u v w z : FVec Ideal S8x6272 .f32) (a : FVec Ideal S8x1 .f32)
    (b : FVec Ideal S8x64 .f32) :
    k2_pay16 (F := Ideal) x l w z (k2_pay12 x) (k2_pay13 x u v) k2_pay14 a b
    = Cert.Kernel2Ideal.Gen.k0_pay15 (F := Ideal) x l w z
        (Cert.Kernel2Ideal.Gen.k0_pay13 (F := Ideal) x u v (Cert.Kernel2Ideal.Gen.k0_pay10 (F := Ideal) x)) a b := by
  unfold k2_pay16 Cert.Kernel2Ideal.Gen.k0_pay15
  rw [pay15_eq]

theorem pay17_eq (b : FVec Ideal S8x64 .f32) : k2_pay17 (F := Ideal) b = Cert.Kernel2Ideal.Gen.k0_pay16 (F := Ideal) b := rfl
theorem pay18_eq (l : IVec S8x64 32) (b : FVec Ideal S8x64 .f32) :
    k2_pay18 (F := Ideal) l b = Cert.Kernel2Ideal.Gen.k0_pay17 (F := Ideal) l b := rfl
theorem pay1_eq (x : Vec Ideal S8x100352 .f32) (l : IVec S8x64 32) (b : FVec Ideal S8x64 .f32) (c : FVec Ideal S8x1 .f32) (d : FVec Ideal S8x64 .f32) :
    k2_pay1 (F := Ideal) x l b c d = Cert.Kernel2Ideal.Gen.k0_pay1 (F := Ideal) x l b c d := rfl

/-! ## The logits -/

theorem logits_pay3 (x1 : Vec Ideal S128x3 .f32) (x3 : Vec Ideal S2048x3 .f32) :
    k1_pay3 (F := Ideal) x1 x3 = Cert.KernelIdeal.Gen.k0_pay3 (F := Ideal) x1 x3 := rfl

theorem logits_pay1 (i : BitVec 32) (u v : FVec Ideal S128x2048 .f32) : k1_pay1 (F := Ideal) i u v
    = Cert.KernelIdeal.Gen.k0_pay1 (F := Ideal) i u v (Named.named Cert.KernelIdeal.κ "neg_inv_two_var" 0xC0829CBC#32) := rfl

theorem cast_same (x : Vec Ideal S128x1152 .f32) (h : S128x1152.ShapeCasts S128x1152) : shapeCast S128x1152 x h = x := by
  funext y
  idx_vars y
  pointwise

theorem logits_pay2 (i : grid1.Coords) (x0 : Vec Ideal S128x1152 .f32) (x2 : Vec Ideal S2048x1152 .f32) :
    k1_pay2 (F := Ideal) i x0 x2 = Cert.KernelIdeal.Gen.k0_pay2 (F := Ideal) i x0 x2 := by
  unfold k1_pay2 Cert.KernelIdeal.Gen.k0_pay2
  dsimp only
  rw [cast_same]
  rfl

end Cert.Kernel3Ideal.Join

end
-- ==== Proof.JoinSims.lean ====
/-
  The second call of the whole kernel over the extended reals, from any contents of the buffers when it is reached: the
  array it leaves holds the logit of query row `q` and catalogue row `j` at entry `(q, j)`, and minus infinity past the
  catalogue's end. Its queries are the first call's result.
-/
module

public import proofs.«01_k».proof.Proof.Gen.Kernel3Ideal.Skeleton
public import proofs.«01_k».proof.Proof.Gen.Kernel3Ideal.Points
public import proofs.«01_k».proof.Proof.Gen.Kernel3Ideal.Launch
public import proofs.«01_k».proof.Proof.JoinBlocks
public import Idealize.ShloMosaic.Lib.Claim
public import Idealize.ShloMosaic.Lib.Pipeline.Frame
public import Idealize.ShloMosaic.Lib.Pipeline.FrameBody
public import Idealize.ShloMosaic.Lib.Pipeline.Value

@[expose] public section

set_option maxRecDepth 16384

noncomputable section

namespace Cert.Kernel3Ideal.Sims

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

local notation "𝕄" => MT nD τ sig Unit (Elt Ideal) ℕ (UR sig nD τ) ℕ

/-! ## The body's triple -/

variable {F : FTy → Type} [FloatOps F] [Named F]

local notation "𝕄f" => MT nD τ sig Unit (Elt F) ℕ (UR sig nD τ) ℕ

theorem zero_offsets : (![0, 0] : Fin 2 → Nat) = fun _ => 0 := funext fun a => by fin_cases a <;> rfl

/-- The output's buffer after the body: its one store, of what the loads of the inputs' buffers give. -/
def stored (i : grid1.Coords) (x0 : Vec F S128x1152 .f32) (x1 : Vec F S128x3 .f32) (x2 : Vec F S2048x1152 .f32) (x3 : Vec F S2048x3 .f32) :
    Vec F S128x2048 .f32 :=
  View.canon [⟨Rect.unit (s := S128x2048) ![0, 0] S128x2048.size inb_S128x2048_S128x2048_0_0,
    k1_pay1 (BitVec.ofNat 32 (i 0).val)
      (k1_pay2 i (View.ld x0 (Rect.unit (s := S128x1152) ![0, 0] S128x1152.size inb_S128x1152_S128x1152_0_0))
        (View.ld x2 (Rect.unit (s := S2048x1152) ![0, 0] S2048x1152.size inb_S2048x1152_S2048x1152_0_0)))
      (k1_pay3 (View.ld x1 (Rect.unit (s := S128x3) ![0, 0] S128x3.size inb_S128x3_S128x3_0_0))
        (View.ld x3 (Rect.unit (s := S2048x3) ![0, 0] S2048x3.size inb_S2048x3_S2048x3_0_0)))⟩]

theorem covers (p : Vec F S128x2048 .f32) (y : S128x2048.Idx) :
    ∃ pc ∈ ([⟨Rect.unit (s := S128x2048) ![0, 0] S128x2048.size inb_S128x2048_S128x2048_0_0, p⟩] :
      List (View.Piece (Elt F) S128x2048 .f32)), y ∈ pc.1.set :=
  View.cover_of_tiled [⟨Rect.unit (s := S128x2048) ![0, 0] S128x2048.size inb_S128x2048_S128x2048_0_0, p⟩] S128x2048.size (by rfl) y

/-- The block that a point stores, from the four blocks it reads. -/
def block (i : grid1.Coords) (x0 : Vec Ideal S128x1152 .f32) (x1 : Vec Ideal S128x3 .f32) (x2 : Vec Ideal S2048x1152 .f32)
    (x3 : Vec Ideal S2048x3 .f32) : FVec Ideal S128x2048 .f32 :=
  Cert.KernelIdeal.Sims.block i x0 x1 x2 x3

theorem block_apply (i : grid1.Coords) (x0 : Vec Ideal S128x1152 .f32) (x1 : Vec Ideal S128x3 .f32)
    (x2 : Vec Ideal S2048x1152 .f32) (x3 : Vec Ideal S2048x3 .f32) (q : Fin 128) (j : Fin 2048) :
    block i x0 x1 x2 x3 (ix2 q j) =
      if (i 0).val * 2048 + j.val < 100000 then
        Cert.Sims.logit (fun l => x0 (ix2 q l)) (fun l => x1 (ix2 q l)) (fun l => x2 (ix2 j l)) (fun l => x3 (ix2 j l))
      else ⊥ := Cert.KernelIdeal.Sims.block_apply i x0 x1 x2 x3 q j

theorem block_congr (i : grid1.Coords) (x0 : Vec Ideal S128x1152 .f32) (x1 : Vec Ideal S128x3 .f32)
    (x2 x2' : Vec Ideal S2048x1152 .f32) (x3 x3' : Vec Ideal S2048x3 .f32)
    (h2 : ∀ (j : Fin 2048) (l : Fin 1152), (i 0).val * 2048 + j.val < 100000 → x2 (ix2 j l) = x2' (ix2 j l))
    (h3 : ∀ (j : Fin 2048) (l : Fin 3), (i 0).val * 2048 + j.val < 100000 → x3 (ix2 j l) = x3' (ix2 j l)) :
    block i x0 x1 x2 x3 = block i x0 x1 x2' x3' := Cert.KernelIdeal.Sims.block_congr i x0 x1 x2 x2' x3 x3' h2 h3

/-- Loads and the store are of whole buffers: what is stored is the block of logits of the buffers' contents. -/
theorem stored_eq (i : grid1.Coords) (x0 : Vec Ideal S128x1152 .f32) (x1 : Vec Ideal S128x3 .f32) (x2 : Vec Ideal S2048x1152 .f32)
    (x3 : Vec Ideal S2048x3 .f32) : stored i x0 x1 x2 x3 = block i x0 x1 x2 x3 := by
  unfold stored block
  rw [View.canon_unit_zero zero_offsets, View.ld_unit_zero zero_offsets, View.ld_unit_zero zero_offsets,
    View.ld_unit_zero zero_offsets, View.ld_unit_zero zero_offsets, Join.logits_pay1, Join.logits_pay2, Join.logits_pay3]
  rfl

set_option maxHeartbeats 1000000 in
/-- The body on five whole staging buffers: the four inputs are left as they were, the output holds what is stored. -/
theorem body_runs (c : Dev nD) (E : Set ℕ) (i : grid1.Coords) (arg1 : Memref sig .tc .vmem S128x1152 .f32) (harg1 : arg1.IsWhole)
    (arg2 : Memref sig .tc .vmem S128x3 .f32) (harg2 : arg2.IsWhole) (arg3 : Memref sig .tc .vmem S2048x1152 .f32) (harg3 : arg3.IsWhole)
    (arg4 : Memref sig .tc .vmem S2048x3 .f32) (harg4 : arg4.IsWhole) (arg5 : Memref sig .tc .vmem S128x2048 .f32) (harg5 : arg5.IsWhole)
    (x0 : Vec F S128x1152 .f32) (x1 : Vec F S128x3 .f32) (x2 : Vec F S2048x1152 .f32) (x3 : Vec F S2048x3 .f32)
    (K : PUnit → sProp 𝕄f) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (stored i x0 x1 x2 x3)) -∗ K ⟨⟩))
      ⊢ wp frame (wpE (defs₀ (F := F)) Variants.none c none) E (cc1__sims_body i arg1 harg1 arg2 harg2 arg3 harg3 arg4 harg4 arg5 harg5) K := by
  simp only [cc1__sims_body_eq_skeleton]; unfold cc1__sims_body_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers _)

/-! ## The proof data -/

variable (V : (c : Dev nD) → (b : Ref sig .tc) → Buf (Elt Ideal) ((c : Thread nD τ).loc b))

/-- Window `w`'s block at point `t`, read off its array as the call finds it. -/
def iblk (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The catalogue's block at a point, filled out past the catalogue's end with zeros. -/
def cat (c : Dev nD) (t : Fin cfg1.N) : Vec Ideal S2048x1152 .f32 := win1_2.fill (grid1.coords t) (fun _ => (0 : EReal)) (iblk V c 2 t)
/-- The catalogue sizes' block at a point, filled out likewise. -/
def catSizes (c : Dev nD) (t : Fin cfg1.N) : Vec Ideal S2048x3 .f32 := win1_3.fill (grid1.coords t) (fun _ => (0 : EReal)) (iblk V c 3 t)

/-- The proof data: the arrays as launched; after the body the inputs' buffers at their blocks, the output's at the block
    of logits. -/
def dats (c : Dev nD) : Dat τ (Elt Ideal) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => cat V c t
    | ⟨3, _⟩ => catSizes V c t
    | ⟨4, _⟩ => block (grid1.coords t) (iblk V c 0 t) (iblk V c 1 t) (cat V c t) (catSizes V c t)
  Φ _ := Pipeline.ΦA spec1 c
  q _ := fullShare
  owed _ := 0

theorem A_eq (c : Dev nD) (w : Fin cfg1.W) : (dats V c).A w = V c (Pipeline.arrRef spec1 w) := by
  dsimp only [dats]

theorem after0_0 (c : Dev nD) (t : Fin cfg1.N) : (dats V c).after 0 t = iblk V c 0 t := by dsimp only [dats]
theorem after0_1 (c : Dev nD) (t : Fin cfg1.N) : (dats V c).after 1 t = iblk V c 1 t := by dsimp only [dats]
theorem after0_2 (c : Dev nD) (t : Fin cfg1.N) : (dats V c).after 2 t = cat V c t := by dsimp only [dats]
theorem after0_3 (c : Dev nD) (t : Fin cfg1.N) : (dats V c).after 3 t = catSizes V c t := by dsimp only [dats]
theorem after0_4 (c : Dev nD) (t : Fin cfg1.N) : (dats V c).after 4 t
    = block (grid1.coords t) (iblk V c 0 t) (iblk V c 1 t) (cat V c t) (catSizes V c t) := by dsimp only [dats]

theorem before0_0 (c : Dev nD) (t : Fin cfg1.N) (d) : (dats V c).before 0 t d = iblk V c 0 t :=
  ((dats V c).before_in_eq_fetched 0 rfl (fun _ => rfl) (fun _ _ _ => rfl)
    (fun t => by rw [after0_0]; unfold Dat.blockOf iblk; rw [A_eq]) t d).trans (by unfold Dat.fetched Dat.blockOf iblk; rw [A_eq]; rfl)
theorem before0_1 (c : Dev nD) (t : Fin cfg1.N) (d) : (dats V c).before 1 t d = iblk V c 1 t :=
  ((dats V c).before_in_eq_fetched 1 rfl (fun _ => rfl) (fun _ _ _ => rfl)
    (fun t => by rw [after0_1]; unfold Dat.blockOf iblk; rw [A_eq]) t d).trans (by unfold Dat.fetched Dat.blockOf iblk; rw [A_eq]; rfl)
theorem before0_2 (c : Dev nD) (t : Fin cfg1.N) (d) : (dats V c).before 2 t d = win1_2.fill (grid1.coords t) d (iblk V c 2 t) := by
  unfold Dat.before; rw [if_pos (fetch1_2 t)]; rfl
theorem before0_3 (c : Dev nD) (t : Fin cfg1.N) (d) : (dats V c).before 3 t d = win1_3.fill (grid1.coords t) d (iblk V c 3 t) := by
  unfold Dat.before; rw [if_pos (fetch1_3 t)]; rfl

/-! ## Where the blocks lie -/

theorem coord (t : Fin cfg1.N) : (grid1.coords t 0).val = t.val :=
  (by decide +kernel : ∀ t : Fin grid1.N, (grid1.coords t 0).val = t.val) t
theorem index2 (t : Fin cfg1.N) : win1_2.index t 0 = t.val ∧ win1_2.index t 1 = 0 :=
  (by decide +kernel : ∀ t : Fin grid1.N, win1_2.index t 0 = t.val ∧ win1_2.index t 1 = 0) t
theorem index3 (t : Fin cfg1.N) : win1_3.index t 0 = t.val ∧ win1_3.index t 1 = 0 :=
  (by decide +kernel : ∀ t : Fin grid1.N, win1_3.index t 0 = t.val ∧ win1_3.index t 1 = 0) t
theorem index4 (t : Fin cfg1.N) : win1_4.index t 0 = 0 ∧ win1_4.index t 1 = t.val :=
  (by decide +kernel : ∀ t : Fin grid1.N, win1_4.index t 0 = 0 ∧ win1_4.index t 1 = t.val) t
theorem index0 (t : Fin cfg1.N) : win1_0.index t 0 = 0 ∧ win1_0.index t 1 = 0 :=
  (by decide +kernel : ∀ t : Fin grid1.N, win1_0.index t 0 = 0 ∧ win1_0.index t 1 = 0) t
theorem index1 (t : Fin cfg1.N) : win1_1.index t 0 = 0 ∧ win1_1.index t 1 = 0 :=
  (by decide +kernel : ∀ t : Fin grid1.N, win1_1.index t 0 = 0 ∧ win1_1.index t 1 = 0) t

/-- How many rows of the catalogue's block lie inside the catalogue. -/
theorem rows2 (t : Fin cfg1.N) : win1_2.xsize (grid1.coords t) 0 = min 2048 (100000 - t.val * 2048) ∧ win1_2.xsize (grid1.coords t) 1 = 1152 :=
  (by decide +kernel : ∀ t : Fin grid1.N, win1_2.xsize (grid1.coords t) 0 = min 2048 (100000 - t.val * 2048) ∧ win1_2.xsize (grid1.coords t) 1 = 1152) t
theorem rows3 (t : Fin cfg1.N) : win1_3.xsize (grid1.coords t) 0 = min 2048 (100000 - t.val * 2048) ∧ win1_3.xsize (grid1.coords t) 1 = 3 :=
  (by decide +kernel : ∀ t : Fin grid1.N, win1_3.xsize (grid1.coords t) 0 = min 2048 (100000 - t.val * 2048) ∧ win1_3.xsize (grid1.coords t) 1 = 3) t

theorem moved2 (t : Fin cfg1.N) (j : Fin 2048) (l : Fin 1152) (h : t.val * 2048 + j.val < 100000) :
    win1_2.moved (grid1.coords t) (ix2 j l) = true :=
  (win1_2.moved_iff _ _).mpr fun a => by
    match a with
    | ⟨0, _⟩ => exact lt_of_lt_of_eq (b := min 2048 (100000 - t.val * 2048)) (show j.val < _ by omega) (rows2 t).1.symm
    | ⟨1, _⟩ => exact lt_of_lt_of_eq (show l.val < 1152 from l.isLt) (rows2 t).2.symm

theorem moved3 (t : Fin cfg1.N) (j : Fin 2048) (l : Fin 3) (h : t.val * 2048 + j.val < 100000) :
    win1_3.moved (grid1.coords t) (ix2 j l) = true :=
  (win1_3.moved_iff _ _).mpr fun a => by
    match a with
    | ⟨0, _⟩ => exact lt_of_lt_of_eq (b := min 2048 (100000 - t.val * 2048)) (show j.val < _ by omega) (rows3 t).1.symm
    | ⟨1, _⟩ => exact lt_of_lt_of_eq (show l.val < 3 from l.isLt) (rows3 t).2.symm

/-- A row of the filled block that lies inside the catalogue is the catalogue's row. -/
theorem fill2 (c : Dev nD) (t : Fin cfg1.N) (d) (j : Fin 2048) (l : Fin 1152) (h : t.val * 2048 + j.val < 100000) :
    win1_2.fill (grid1.coords t) d (iblk V c 2 t) (ix2 j l)
      = V c main_arg2 (ix2 (⟨t.val * 2048 + j.val, h⟩ : Fin 100000) l) := by
  unfold Window.fill
  rw [dif_pos (moved2 t j l h)]
  unfold iblk
  rw [View.read_apply]
  show V c main_arg2 ((win1_2.rect t).emb _) = _
  refine congrArg _ (Shape.idx_ext₂ ?_ ?_)
  · refine (Window.rect_emb_val win1_2 t _ 0).trans ?_; rw [(index2 t).1]; rfl
  · refine (Window.rect_emb_val win1_2 t _ 1).trans ?_; rw [(index2 t).2]; exact Nat.zero_add _

theorem fill3 (c : Dev nD) (t : Fin cfg1.N) (d) (j : Fin 2048) (l : Fin 3) (h : t.val * 2048 + j.val < 100000) :
    win1_3.fill (grid1.coords t) d (iblk V c 3 t) (ix2 j l)
      = V c main_arg3 (ix2 (⟨t.val * 2048 + j.val, h⟩ : Fin 100000) l) := by
  unfold Window.fill
  rw [dif_pos (moved3 t j l h)]
  unfold iblk
  rw [View.read_apply]
  show V c main_arg3 ((win1_3.rect t).emb _) = _
  refine congrArg _ (Shape.idx_ext₂ ?_ ?_)
  · refine (Window.rect_emb_val win1_3 t _ 0).trans ?_; rw [(index3 t).1]; rfl
  · refine (Window.rect_emb_val win1_3 t _ 1).trans ?_; rw [(index3 t).2]; exact Nat.zero_add _

theorem blk0 (c : Dev nD) (t : Fin cfg1.N) (q : Fin 128) (l : Fin 1152) :
    iblk V c 0 t (ix2 q l) = V c main_v0 (ix2 q l) := by
  unfold iblk
  rw [View.read_apply]
  show V c main_v0 ((win1_0.rect t).emb _) = _
  refine congrArg _ (Shape.idx_ext₂ ?_ ?_)
  · refine (Window.rect_emb_val win1_0 t _ 0).trans ?_; rw [(index0 t).1]; exact Nat.zero_add _
  · refine (Window.rect_emb_val win1_0 t _ 1).trans ?_; rw [(index0 t).2]; exact Nat.zero_add _

theorem blk1 (c : Dev nD) (t : Fin cfg1.N) (q : Fin 128) (l : Fin 3) :
    iblk V c 1 t (ix2 q l) = V c main_arg1 (ix2 q l) := by
  unfold iblk
  rw [View.read_apply]
  show V c main_arg1 ((win1_1.rect t).emb _) = _
  refine congrArg _ (Shape.idx_ext₂ ?_ ?_)
  · refine (Window.rect_emb_val win1_1 t _ 0).trans ?_; rw [(index1 t).1]; exact Nat.zero_add _
  · refine (Window.rect_emb_val win1_1 t _ 1).trans ?_; rw [(index1 t).2]; exact Nat.zero_add _

/-- What the catalogue's buffers hold past the catalogue's end does not reach the block of logits. -/
theorem block_fill (c : Dev nD) (t : Fin cfg1.N) (d2 d3) :
    block (grid1.coords t) (iblk V c 0 t) (iblk V c 1 t) (win1_2.fill (grid1.coords t) d2 (iblk V c 2 t))
        (win1_3.fill (grid1.coords t) d3 (iblk V c 3 t))
      = block (grid1.coords t) (iblk V c 0 t) (iblk V c 1 t) (cat V c t) (catSizes V c t) :=
  block_congr _ _ _ _ _ _ _
    (fun j l h => by
      rw [coord] at h
      exact (fill2 V c t _ j l h).trans (fill2 V c t _ j l h).symm)
    (fun j l h => by
      rw [coord] at h
      exact (fill3 V c t _ j l h).trans (fill3 V c t _ j l h).symm)

/-! ## The body obligation -/

def bodyPre (c : Dev nD) (t : Fin cfg1.N) : sProp 𝕄 :=
  iprop((dats V c).Φ t.castSucc ∗ (dats V c).owesAt () t.castSucc
    ∗ (∃ d, owns (c : Thread nD τ) (st1_0 t) fullShare ((dats V c).before 0 t d))
    ∗ (∃ d, owns (c : Thread nD τ) (st1_1 t) fullShare ((dats V c).before 1 t d))
    ∗ (∃ d, owns (c : Thread nD τ) (st1_2 t) fullShare ((dats V c).before 2 t d))
    ∗ (∃ d, owns (c : Thread nD τ) (st1_3 t) fullShare ((dats V c).before 3 t d))
    ∗ (∃ d, owns (c : Thread nD τ) (st1_4 t) fullShare ((dats V c).before 4 t d)))

def bodyPost (c : Dev nD) (t : Fin cfg1.N) : sProp 𝕄 :=
  iprop((dats V c).Φ t.succ ∗ (dats V c).owesAt () t.succ
    ∗ owns (c : Thread nD τ) (st1_0 t) fullShare ((dats V c).after 0 t)
    ∗ owns (c : Thread nD τ) (st1_1 t) fullShare ((dats V c).after 1 t)
    ∗ (∃ d, owns (c : Thread nD τ) (st1_2 t) fullShare (win1_2.fill (grid1.coords t) d (win1_2.cut (grid1.coords t) ((dats V c).after 2 t))))
    ∗ (∃ d, owns (c : Thread nD τ) (st1_3 t) fullShare (win1_3.fill (grid1.coords t) d (win1_3.cut (grid1.coords t) ((dats V c).after 3 t))))
    ∗ owns (c : Thread nD τ) (st1_4 t) fullShare ((dats V c).after 4 t))

theorem cut_cat (c : Dev nD) (t : Fin cfg1.N) : win1_2.cut (grid1.coords t) (cat V c t) = iblk V c 2 t := win1_2.cut_fill _ _ _
theorem cut_catSizes (c : Dev nD) (t : Fin cfg1.N) : win1_3.cut (grid1.coords t) (catSizes V c t) = iblk V c 3 t := win1_3.cut_fill _ _ _

theorem body_at (c : Dev nD) (t : Fin cfg1.N) :
    bodyPre V c t ⊢ wp frame (wpE (defs₀ (F := Ideal)) Variants.none c none) Set.univ (bodyAt1 t) (fun _ => bodyPost V c t) := by
  unfold bodyPre bodyPost bodyAt1
  simp only [before0_0, before0_1, before0_2, before0_3]
  rw [show (dats V c).Φ t.succ = (dats V c).Φ t.castSucc from rfl,
    show (dats V c).owesAt () t.succ = (dats V c).owesAt () t.castSucc from rfl,
    after0_0, after0_1, after0_2, after0_3, after0_4, cut_cat, cut_catSizes]
  iintro ⟨HΦ, Ho, ⟨%d0, H0⟩, ⟨%d1, H1⟩, ⟨%d2, H2⟩, ⟨%d3, H3⟩, ⟨%d4, H4⟩⟩
  iapply (body_runs c Set.univ (grid1.coords t) _ _ _ _ _ _ _ _ _ _ (iblk V c 0 t) (iblk V c 1 t)
    (win1_2.fill (grid1.coords t) d2 (iblk V c 2 t)) (win1_3.fill (grid1.coords t) d3 (iblk V c 3 t)) _)
  rw [stored_eq, block_fill V c t d2 d3]
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexists _; iexact H2
  isplitl [H3]; · iexists _; iexact H3
  iexact H4

theorem defs₀_row (t : Fin cfg1.N) :
    defs₀ (F := Ideal) .tc cfg1.body (cfg1.bodyArgs t (cfg1.slots t)) = bodyAt1 t := by
  unfold defs₀; rw [Defs.onTc_tc]

theorem body_obligation (c : Dev nD) : BodyObligationLoose (dats V c) (defs₀ (F := Ideal)) Variants.none () Set.univ := fun t => by
  rw [bigSep_W1, bigSep_W1, defs₀_row]
  exact triple_restated (body_at V c t) rfl .rfl fun _ => .rfl

/-! ## The array of logits after the run -/

/-- The logits of the launch's arguments. -/
def logits (c : Dev nD) : Vec Ideal S128x100352 .f32 := fun y =>
  if h : (y 1).val < 100000 then
    Cert.Sims.logit (fun l : Fin 1152 => V c main_v0 (ix2 (y 0) l))
      (fun l : Fin 3 => V c main_arg1 (ix2 (y 0) l))
      (fun l : Fin 1152 => V c main_arg2 (ix2 (⟨(y 1).val, h⟩ : Fin 100000) l))
      (fun l : Fin 3 => V c main_arg3 (ix2 (⟨(y 1).val, h⟩ : Fin 100000) l))
  else (⊥ : EReal)

theorem logits_ix (c : Dev nD) (q : Fin 128) (j : Fin 100352) : logits V c (ix2 q j) =
  if h : j.val < 100000 then
    Cert.Sims.logit (fun l : Fin 1152 => V c main_v0 (ix2 q l))
      (fun l : Fin 3 => V c main_arg1 (ix2 q l))
      (fun l : Fin 1152 => V c main_arg2 (ix2 (⟨j.val, h⟩ : Fin 100000) l))
      (fun l : Fin 3 => V c main_arg3 (ix2 (⟨j.val, h⟩ : Fin 100000) l))
  else (⊥ : EReal) := rfl

/-- An entry of a point's block of logits. -/
theorem block_value (c : Dev nD) (t : Fin cfg1.N) (q : Fin 128) (j : Fin 2048) (hj : t.val * 2048 + j.val < 100352) :
    block (grid1.coords t) (iblk V c 0 t) (iblk V c 1 t) (cat V c t) (catSizes V c t) (ix2 q j)
      = logits V c (ix2 q (⟨t.val * 2048 + j.val, hj⟩ : Fin 100352)) := by
  rw [block_apply, logits_ix, coord]
  by_cases h : t.val * 2048 + j.val < 100000
  · rw [if_pos h, dif_pos h]
    have e0 : (fun l : Fin 1152 => iblk V c 0 t (ix2 q l)) = fun l => V c main_v0 (ix2 q l) :=
      funext fun l => blk0 V c t q l
    have e1 : (fun l : Fin 3 => iblk V c 1 t (ix2 q l)) = fun l => V c main_arg1 (ix2 q l) :=
      funext fun l => blk1 V c t q l
    have e2 : (fun l : Fin 1152 => cat V c t (ix2 j l))
        = fun l => V c main_arg2 (ix2 (⟨t.val * 2048 + j.val, h⟩ : Fin 100000) l) :=
      funext fun l => fill2 V c t _ j l h
    have e3 : (fun l : Fin 3 => catSizes V c t (ix2 j l))
        = fun l => V c main_arg3 (ix2 (⟨t.val * 2048 + j.val, h⟩ : Fin 100000) l) :=
      funext fun l => fill3 V c t _ j l h
    rw [e0, e1, e2, e3]
  · rw [if_neg h, dif_neg h]

/-- Where an entry of a point's block of the output lies in the array. -/
theorem emb4 (t : Fin cfg1.N) (q : Fin 128) (j : Fin 2048) (hj : t.val * 2048 + j.val < 100352) :
    ((cfg1.win 4).blk t).view.emb (ix2 q j) = (ix2 q (⟨t.val * 2048 + j.val, hj⟩ : Fin 100352) : S128x100352.Idx) := by
  refine Shape.idx_ext₂ ?_ ?_
  · refine (Window.rect_emb_val win1_4 t _ 0).trans ?_
    rw [(index4 t).1]; exact Nat.zero_add _
  · refine (Window.rect_emb_val win1_4 t _ 1).trans ?_
    rw [(index4 t).2]; rfl

/-- A block that agrees with an array entry by entry is that array read through the point's block. -/
theorem read4 (B : Vec Ideal S128x2048 .f32) (L : Vec Ideal S128x100352 .f32) (t : Fin cfg1.N)
    (h : ∀ (q : Fin 128) (j : Fin 2048) (hj : t.val * 2048 + j.val < 100352),
      B (ix2 q j) = L (ix2 q (⟨t.val * 2048 + j.val, hj⟩ : Fin 100352))) :
    (cfg1.win 4).cut (grid1.coords t) B = ((cfg1.win 4).blk t).view.read (Elt Ideal) L := by
  funext y
  have hN : t.val < 49 := t.isLt
  have hy0 : (y 0).val < 128 := (y 0).isLt
  have hy1 : (y 1).val < 2048 := (y 1).isLt
  have ey : y = ix2 (⟨(y 0).val, hy0⟩ : Fin 128) (⟨(y 1).val, hy1⟩ : Fin 2048) := Shape.idx_ext₂ rfl rfl
  rw [View.read_apply, ey]
  refine (h _ _ (by show t.val * 2048 + (y 1).val < 100352; omega)).trans ?_
  exact congrArg L (emb4 t _ _ _).symm

/-- What a point writes back is its block of the logits. -/
theorem flushed (c : Dev nD) (t : Fin cfg1.N) :
    (dats V c).flushed 4 t = ((cfg1.win 4).blk t).view.read (Elt Ideal) (logits V c) := by
  show (cfg1.win 4).cut (grid1.coords t) ((dats V c).after 4 t) = _
  rw [after0_4]
  exact read4 _ _ t fun q j hj => block_value V c t q j hj

/-- Every entry of the array lies in the block of some point. -/
theorem cover (y : S128x100352.Idx) : ∃ t : Fin cfg1.N, (cfg1.win 4).flush t = true ∧ y ∈ ((cfg1.win 4).blk t).view.set := by
  have hy0 : (y 0).val < 128 := (y 0).isLt
  have hy1 : (y 1).val < 100352 := (y 1).isLt
  refine ⟨(⟨(y 1).val / 2048, by show _ < 49; omega⟩ : Fin 49), flush1_4 _, ?_⟩
  generalize ht : (⟨(y 1).val / 2048, _⟩ : Fin 49) = t
  have htv : t.val = (y 1).val / 2048 := by rw [← ht]
  have e : y = ((cfg1.win 4).blk t).view.emb
      (ix2 (⟨(y 0).val, hy0⟩ : Fin 128) (⟨(y 1).val % 2048, Nat.mod_lt _ (by norm_num)⟩ : Fin 2048)) := by
    refine Shape.idx_ext₂ ?_ ?_
    · refine Eq.symm ((Window.rect_emb_val win1_4 t _ 0).trans ?_)
      rw [(index4 t).1]; exact Nat.zero_add _
    · refine Eq.symm ((Window.rect_emb_val win1_4 t _ 1).trans ?_)
      rw [(index4 t).2, htv]
      show (y 1).val / 2048 * 2048 + (y 1).val % 2048 = (y 1).val
      omega
  rw [e]
  exact View.emb_mem_set _ _

/-- The array after the run. -/
theorem final (c : Dev nD) : (dats V c).arrAt 4 cfg1.N = logits V c :=
  (dats V c).arrAt_eq_of_cover 4 (logits V c) (fun t _ => flushed V c t) (fun y => cover y)

end Cert.Kernel3Ideal.Sims

end
-- ==== Proof.JoinSelect.lean ====
/-
  The third call of the whole kernel over the extended reals, from any contents of the buffers when it is reached: each
  row of the scores whose fifty greatest values are told apart gives its row of probabilities. Its scores are the second
  call's result.
-/
module

public import proofs.«01_k».proof.Proof.Gen.Kernel3Ideal.Skeleton
public import proofs.«01_k».proof.Proof.Gen.Kernel3Ideal.Points
public import proofs.«01_k».proof.Proof.Gen.Kernel3Ideal.Launch
public import proofs.«01_k».proof.Proof.Gen.Kernel3Ideal.Loops
public import proofs.«01_k».proof.Proof.JoinBlocks
public import proofs.«01_k».proof.Proof.SelSpec
public import Idealize.ShloMosaic.Lib.Claim
public import Idealize.ShloMosaic.Lib.Pipeline.Frame
public import Idealize.ShloMosaic.Lib.Pipeline.FrameBody
public import Idealize.ShloMosaic.Lib.WholeRead
public import Idealize.ShloMosaic.Lib.Pipeline.Value

@[expose] public section

set_option maxRecDepth 16384

noncomputable section

namespace Cert.Kernel3Ideal.Select

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

local notation "𝕄" => MT nD τ sig Unit (Elt Ideal) ℕ (UR sig nD τ) ℕ

/-- The lane numbers of the table. -/
def lanes : IVec S8x64 32 := iota .tc S8x64 32 [1] iota_S8x64_d1_w32

theorem zero_offsets : (![0, 0] : Fin 2 → Nat) = fun _ => 0 := funext fun a => by fin_cases a <;> rfl

/-- The body's load of the whole staging buffer. -/
theorem load_eq (arg1 : Memref sig .tc .vmem S8x100352 .f32) (harg1 : arg1.IsWhole) (x0 : Vec Ideal S8x100352 .f32) :
    View.readAt (Elt Ideal) arg1.view (Rect.unit (s := S8x100352) ![0, 0] S8x100352.size inb_S8x100352_S8x100352_0_0).toLoadRect
      (harg1.unread x0) = x0 := by
  funext i
  refine (Memref.IsWhole.readAt_unread harg1 x0 _ i).trans ?_
  exact congrFun (View.ld_unit_zero (Val := Elt Ideal) (S := S8x100352) (e := .f32) zero_offsets inb_S8x100352_S8x100352_0_0 x0) i

/-! ## What the body stores -/

/-- The first loop's last table. -/
def loop1 (x : Vec Ideal S8x100352 .f32) : FVec Ideal S8x1 .f32 × FVec Ideal S8x64 .f32 :=
  Scf.fold (fun (k : Fin k2_t1_loop.trips) s => (k2_pay6 (F := Ideal) x s.1, k2_pay7 (F := Ideal) x k s.1 s.2)) (k2_pay4, k2_pay5)

/-- What the second loop reads: the classes' second values, and the third ones in two stretches. -/
def third (x : Vec Ideal S8x100352 .f32) : FVec Ideal S8x6272 .f32 := k2_pay9 (k2_pay2 x) (k2_pay3 x) (k2_pay8 x)

/-- The second loop's last table. -/
def loop2 (x : Vec Ideal S8x100352 .f32) : FVec Ideal S8x1 .f32 × FVec Ideal S8x64 .f32 :=
  Scf.fold (fun (k : Fin k2_t2_loop.trips) s =>
    (k2_pay15 (F := Ideal) (k2_pay2 x) (k2_pay10 (k2_pay2 x) (k2_pay3 x) (third x)) (k2_pay11 (k2_pay2 x) (k2_pay3 x) (third x))
        (k2_pay12 (k2_pay2 x)) (k2_pay13 (k2_pay2 x) (k2_pay3 x) (third x)) k2_pay14 s.1,
      k2_pay16 (F := Ideal) (k2_pay2 x) lanes (k2_pay10 (k2_pay2 x) (k2_pay3 x) (third x)) (k2_pay11 (k2_pay2 x) (k2_pay3 x) (third x))
        (k2_pay12 (k2_pay2 x)) (k2_pay13 (k2_pay2 x) (k2_pay3 x) (third x)) k2_pay14 s.1 s.2)) (k2_pay4, (loop1 x).2)

/-- The block the body stores. -/
def block (x : Vec Ideal S8x100352 .f32) : FVec Ideal S8x100352 .f32 :=
  k2_pay1 (k2_pay2 x) lanes (loop2 x).2 (k2_pay17 (loop2 x).2) (k2_pay18 lanes (loop2 x).2)

theorem loop1_eq (x : Vec Ideal S8x100352 .f32) : loop1 x = Cert.Kernel2Ideal.Select.loop1 x := by
  unfold loop1 Cert.Kernel2Ideal.Select.loop1
  simp only [Join.pay6_eq, Join.pay7_eq]
  rfl

theorem third_eq (x : Vec Ideal S8x100352 .f32) : third x = Cert.Kernel2Ideal.Gen.k0_pay9 (F := Ideal) x
    (Cert.Kernel2Ideal.Gen.k0_pay2 (F := Ideal) x) (Cert.Kernel2Ideal.Gen.k0_pay7 (F := Ideal) x) (Cert.Kernel2Ideal.Gen.k0_pay8 (F := Ideal) x) := by
  unfold third
  rw [Join.cast_self, Join.pay3_eq, Join.pay8_eq, Join.pay9_eq]

theorem loop2_eq (x : Vec Ideal S8x100352 .f32) : loop2 x = Cert.Kernel2Ideal.Select.loop2 x := by
  unfold loop2 Cert.Kernel2Ideal.Select.loop2
  simp only [Join.cast_self, Join.pay3_eq, third_eq, Join.pay10_eq, Join.pay11_eq, Join.pay15_eq, Join.pay16_eq, loop1_eq]
  rfl

theorem block_eq (x : Vec Ideal S8x100352 .f32) : block x = Cert.Kernel2Ideal.Select.block x := by
  unfold block Cert.Kernel2Ideal.Select.block
  rw [loop2_eq, Join.cast_self, Join.pay17_eq, Join.pay18_eq, Join.pay1_eq]
  rfl

/-- Row `q` of a block. -/
def row (x : Vec Ideal S8x100352 .f32) (q : Fin 8) : Fin 100352 → EReal := fun p => x (ix2 q p)

theorem block_apply (x : Vec Ideal S8x100352 .f32) (q : Fin 8) (hv : ∀ p, row x q p < ⊤) (p : Fin 100352) :
    block x (ix2 q p) = Cert.Kernel2Ideal.Select.finish (Sel.inserted (row x q) 8) (row x q) p := by
  rw [block_eq]
  exact Cert.Kernel2Ideal.Select.block_apply x q hv p

theorem covers (p : Vec Ideal S8x100352 .f32) (y : S8x100352.Idx) :
    ∃ pc ∈ ([⟨Rect.unit (s := S8x100352) ![0, 0] S8x100352.size inb_S8x100352_S8x100352_0_0, p⟩] :
      List (View.Piece (Elt Ideal) S8x100352 .f32)), y ∈ pc.1.set :=
  View.cover_of_tiled [⟨Rect.unit (s := S8x100352) ![0, 0] S8x100352.size inb_S8x100352_S8x100352_0_0, p⟩] S8x100352.size (by rfl) y

set_option maxHeartbeats 1000000 in
/-- The body on two whole staging buffers: the scores are left as they were, the output holds the block. -/
theorem body_runs (c : Dev nD) (E : Set ℕ) (i : grid2.Coords) (arg1 : Memref sig .tc .vmem S8x100352 .f32) (harg1 : arg1.IsWhole)
    (arg2 : Memref sig .tc .vmem S8x100352 .f32) (harg2 : arg2.IsWhole) (x0 : Vec Ideal S8x100352 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (block x0)) -∗ K ⟨⟩))
      ⊢ wp frame (wpE (defs₀ (F := Ideal)) Variants.none c none) E (cc2__select_body i arg1 harg1 arg2 harg2) K := by
  simp only [cc2__select_body_eq_skeleton]; unfold cc2__select_body_skel
  simp only [k2_part1_eq_skeleton, k2_part2_eq_skeleton, k2_part3_eq_skeleton, k2_part4_eq_skeleton]
  unfold owns
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread _
    iexact H0
  iexists _; isplitr
  swap; · iexact H1
  ipureintro
  refine (View.read_writes_eq_canon _ _ _ (covers _)).trans ?_
  rw [View.canon_unit_zero zero_offsets]
  refine Eq.trans (b := block (View.readAt (Elt Ideal) arg1.view
    (Rect.unit (s := S8x100352) ![0, 0] S8x100352.size inb_S8x100352_S8x100352_0_0).toLoadRect (harg1.unread x0))) ?_
    (congrArg block (load_eq arg1 harg1 x0))
  unfold block loop2 loop1 third lanes
  rfl

/-! ## The proof data -/

variable (V : (c : Dev nD) → (b : Ref sig .tc) → Buf (Elt Ideal) ((c : Thread nD τ).loc b))

/-- Window `w`'s block at point `t`, read off its array as the call finds it. -/
def iblk (c : Dev nD) (w : Fin cfg2.W) (t : Fin cfg2.N) : ((cfg2.win w).xblock (cfg2.grid.coords t)).Idx → Elt Ideal (cfg2.win w).elt :=
  ((cfg2.win w).blk t).view.read (Elt Ideal) (V c (Pipeline.arrRef spec2 w))

/-- The proof data: the arrays as the call finds them; after the body the scores' buffer at its block, the output's at
    the block the body stores. -/
def dats (c : Dev nD) : Dat τ (Elt Ideal) Unit ℕ (UR sig nD τ) ℕ cfg2 c where
  A w := V c (Pipeline.arrRef spec2 w)
  after w t := match w with
    | ⟨0, _⟩ => iblk V c 0 t
    | ⟨1, _⟩ => block (iblk V c 0 t)
  Φ _ := Pipeline.ΦA spec2 c
  q _ := fullShare
  owed _ := 0

theorem A_eq (c : Dev nD) (w : Fin cfg2.W) : (dats V c).A w = V c (Pipeline.arrRef spec2 w) := by
  dsimp only [dats]
theorem after0_0 (c : Dev nD) (t : Fin cfg2.N) : (dats V c).after 0 t = iblk V c 0 t := by dsimp only [dats]
theorem after0_1 (c : Dev nD) (t : Fin cfg2.N) : (dats V c).after 1 t = block (iblk V c 0 t) := by dsimp only [dats]
theorem before0_0 (c : Dev nD) (t : Fin cfg2.N) (d) : (dats V c).before 0 t d = iblk V c 0 t :=
  ((dats V c).before_in_eq_fetched 0 rfl (fun _ => rfl) (fun _ _ _ => rfl)
    (fun t => by rw [after0_0]; unfold Dat.blockOf iblk; rw [A_eq]) t d).trans (by unfold Dat.fetched Dat.blockOf iblk; rw [A_eq]; rfl)

/-! ## The body obligation -/

def bodyPre (c : Dev nD) (t : Fin cfg2.N) : sProp 𝕄 :=
  iprop((dats V c).Φ t.castSucc ∗ (dats V c).owesAt () t.castSucc
    ∗ (∃ d, owns (c : Thread nD τ) (st2_0 t) fullShare ((dats V c).before 0 t d))
    ∗ (∃ d, owns (c : Thread nD τ) (st2_1 t) fullShare ((dats V c).before 1 t d)))

def bodyPost (c : Dev nD) (t : Fin cfg2.N) : sProp 𝕄 :=
  iprop((dats V c).Φ t.succ ∗ (dats V c).owesAt () t.succ
    ∗ owns (c : Thread nD τ) (st2_0 t) fullShare ((dats V c).after 0 t)
    ∗ (∃ d, owns (c : Thread nD τ) (st2_1 t) fullShare (win2_1.fill (grid2.coords t) d (win2_1.cut (grid2.coords t) ((dats V c).after 1 t)))))

theorem body_at (c : Dev nD) (t : Fin cfg2.N) :
    bodyPre V c t ⊢ wp frame (wpE (defs₀ (F := Ideal)) Variants.none c none) Set.univ (bodyAt2 t) (fun _ => bodyPost V c t) := by
  unfold bodyPre bodyPost bodyAt2
  simp only [before0_0]
  rw [show (dats V c).Φ t.succ = (dats V c).Φ t.castSucc from rfl,
    show (dats V c).owesAt () t.succ = (dats V c).owesAt () t.castSucc from rfl, after0_0, after0_1]
  iintro ⟨HΦ, Ho, ⟨%d0, H0⟩, ⟨%d1, H1⟩⟩
  iapply (body_runs c Set.univ (grid2.coords t) _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexists (block (iblk V c 0 t))
  rw [win2_1.fill_cut]
  iexact H1

theorem defs₀_row (t : Fin cfg2.N) :
    defs₀ (F := Ideal) .tc cfg2.body (cfg2.bodyArgs t (cfg2.slots t)) = bodyAt2 t := by
  unfold defs₀; rw [Defs.onTc_tc]

theorem body_obligation (c : Dev nD) : BodyObligationLoose (dats V c) (defs₀ (F := Ideal)) Variants.none () Set.univ := fun t => by
  rw [bigSep_W2, bigSep_W2, defs₀_row]
  exact triple_restated (body_at V c t) rfl .rfl fun _ => .rfl

/-! ## Where the blocks lie -/

theorem index0 (t : Fin cfg2.N) : win2_0.index t 0 = t.val ∧ win2_0.index t 1 = 0 :=
  (by decide +kernel : ∀ t : Fin grid2.N, win2_0.index t 0 = t.val ∧ win2_0.index t 1 = 0) t
theorem index1 (t : Fin cfg2.N) : win2_1.index t 0 = t.val ∧ win2_1.index t 1 = 0 :=
  (by decide +kernel : ∀ t : Fin grid2.N, win2_1.index t 0 = t.val ∧ win2_1.index t 1 = 0) t
theorem size1 (t : Fin cfg2.N) : ((cfg2.win 1).xblock (grid2.coords t)).size 0 = 8 ∧ ((cfg2.win 1).xblock (grid2.coords t)).size 1 = 100000 :=
  (by decide +kernel : ∀ t : Fin cfg2.N, ((cfg2.win 1).xblock (grid2.coords t)).size 0 = 8
    ∧ ((cfg2.win 1).xblock (grid2.coords t)).size 1 = 100000) t

/-- Row `q` of the scores. -/
def scores (c : Dev nD) (q : Fin 128) : Fin 100352 → EReal := fun p => V c main_v1 (ix2 q p)

theorem blk0 (c : Dev nD) (t : Fin cfg2.N) (q : Fin 8) (hq : t.val * 8 + q.val < 128) :
    row (iblk V c 0 t) q = scores V c ⟨t.val * 8 + q.val, hq⟩ := by
  funext p
  unfold row iblk
  rw [View.read_apply]
  show V c main_v1 ((win2_0.rect t).emb _) = _
  refine congrArg _ (Shape.idx_ext₂ ?_ ?_)
  · refine (Window.rect_emb_val win2_0 t _ 0).trans ?_; rw [(index0 t).1]; rfl
  · refine (Window.rect_emb_val win2_0 t _ 1).trans ?_; rw [(index0 t).2]; exact Nat.zero_add _

/-- The probabilities of the launch's scores, row `q`'s top positions being `σ q`. -/
def probs (c : Dev nD) (σ : Fin 128 → Fin 50 → Fin 100352) : Vec Ideal S128x100000 .f32 := fun y =>
  Sel.prob (scores V c (y 0)) (σ (y 0)) ⟨(y 1).val, lt_of_lt_of_le (y 1).isLt (by decide)⟩

theorem probs_ix (c : Dev nD) (σ : Fin 128 → Fin 50 → Fin 100352) (q : Fin 128) (j : Fin 100000) :
    probs V c σ (ix2 q j) = Sel.prob (scores V c q) (σ q) ⟨j, by omega⟩ := rfl

theorem block_value (c : Dev nD) (σ : Fin 128 → Fin 50 → Fin 100352) (hσ : ∀ q, Sel.Separated (scores V c q) (σ q))
    (t : Fin cfg2.N) (q : Fin 8) (hq : t.val * 8 + q.val < 128) (p : Fin 100352) :
    block (iblk V c 0 t) (ix2 q p) = Sel.prob (scores V c ⟨t.val * 8 + q.val, hq⟩) (σ ⟨t.val * 8 + q.val, hq⟩) p := by
  have h := hσ ⟨t.val * 8 + q.val, hq⟩
  have e := blk0 V c t q hq
  refine (block_apply (iblk V c 0 t) q (fun p => by rw [e]; exact h.lt_top p) p).trans ?_
  rw [e]
  exact h.finish_eq _ (fun i => h.inserted_eq i) p

theorem emb1_0 (t : Fin cfg2.N) (y : ((cfg2.win 1).xblock (grid2.coords t)).Idx) :
    (((cfg2.win 1).blk t).view.emb y 0).val = t.val * 8 + (y 0).val := by
  refine (Window.rect_emb_val win2_1 t y 0).trans ?_
  rw [(index1 t).1]
  rfl

theorem emb1_1 (t : Fin cfg2.N) (y : ((cfg2.win 1).xblock (grid2.coords t)).Idx) :
    (((cfg2.win 1).blk t).view.emb y 1).val = (y 1).val := by
  refine (Window.rect_emb_val win2_1 t y 1).trans ?_
  rw [(index1 t).2, Nat.zero_mul, Nat.zero_add]

theorem ix2_0 (a : Fin 128) (b : Fin 100000) : ((ix2 a b : S128x100000.Idx) 0).val = a.val := rfl
theorem ix2_1 (a : Fin 128) (b : Fin 100000) : ((ix2 a b : S128x100000.Idx) 1).val = b.val := rfl

theorem cut1 (B : Vec Ideal S8x100352 .f32) (t : Fin cfg2.N) (y : ((cfg2.win 1).xblock (grid2.coords t)).Idx)
    (a : Fin 8) (b : Fin 100352) (ha : (y 0).val = a.val) (hb : (y 1).val = b.val) :
    (cfg2.win 1).cut (grid2.coords t) B y = B (ix2 a b) :=
  congrArg B (Shape.idx_ext₂ ha hb)

theorem emb1 (t : Fin cfg2.N) (y : ((cfg2.win 1).xblock (grid2.coords t)).Idx)
    (a : Fin 128) (b : Fin 100000) (ha : t.val * 8 + (y 0).val = a.val) (hb : (y 1).val = b.val) :
    ((cfg2.win 1).blk t).view.emb y = (ix2 a b : S128x100000.Idx) :=
  Shape.idx_ext₂ ((emb1_0 t y).trans (ha.trans (ix2_0 a b).symm)) ((emb1_1 t y).trans (hb.trans (ix2_1 a b).symm))

/-- A block that agrees with an array entry by entry, cut to the array, is that array read through the point's block. -/
theorem read1 (B : Vec Ideal S8x100352 .f32) (L : Vec Ideal S128x100000 .f32) (t : Fin cfg2.N)
    (h : ∀ (q : Fin 8) (hq : t.val * 8 + q.val < 128) (j : Fin 100000),
      B (ix2 q ⟨j, by omega⟩) = L (ix2 (⟨t.val * 8 + q.val, hq⟩ : Fin 128) j)) :
    (cfg2.win 1).cut (grid2.coords t) B = ((cfg2.win 1).blk t).view.read (Elt Ideal) L := by
  funext y
  have hN : t.val < 16 := t.isLt
  obtain ⟨a, ha⟩ : ∃ a : Fin 8, (y 0).val = a.val := ⟨⟨_, lt_of_lt_of_eq (y 0).isLt (size1 t).1⟩, rfl⟩
  obtain ⟨b, hb⟩ : ∃ b : Fin 100000, (y 1).val = b.val := ⟨⟨_, lt_of_lt_of_eq (y 1).isLt (size1 t).2⟩, rfl⟩
  have hq : t.val * 8 + a.val < 128 := by omega
  rw [View.read_apply, cut1 B t y a ⟨b, by omega⟩ ha hb, emb1 t y ⟨t.val * 8 + a.val, hq⟩ b (by rw [ha]) hb]
  exact h a hq b

/-- What a point writes back is its block of the probabilities. -/
theorem flushed (c : Dev nD) (σ : Fin 128 → Fin 50 → Fin 100352) (hσ : ∀ q, Sel.Separated (scores V c q) (σ q)) (t : Fin cfg2.N) :
    (dats V c).flushed 1 t = ((cfg2.win 1).blk t).view.read (Elt Ideal) (probs V c σ) := by
  show (cfg2.win 1).cut (grid2.coords t) ((dats V c).after 1 t) = _
  rw [after0_1]
  exact read1 _ _ t fun q hq j => (block_value V c σ hσ t q hq _).trans (probs_ix V c σ _ j).symm

/-- Every entry of the array lies in the block of some point. -/
theorem cover (y : S128x100000.Idx) : ∃ t : Fin cfg2.N, (cfg2.win 1).flush t = true ∧ y ∈ ((cfg2.win 1).blk t).view.set := by
  have hy0 : (y 0).val < 128 := (y 0).isLt
  have hy1 : (y 1).val < 100000 := (y 1).isLt
  refine ⟨(⟨(y 0).val / 8, by show _ < 16; omega⟩ : Fin 16), flush2_1 _, ?_⟩
  generalize ht : (⟨(y 0).val / 8, _⟩ : Fin 16) = t
  have htv : t.val = (y 0).val / 8 := by rw [← ht]
  have h0 := lt_of_lt_of_eq (Nat.mod_lt (y 0).val (by norm_num : 0 < 8)) (size1 t).1.symm
  have h1 := lt_of_lt_of_eq hy1 (size1 t).2.symm
  have e : y = ((cfg2.win 1).blk t).view.emb (fun a => match a with
      | ⟨0, _⟩ => ⟨(y 0).val % 8, h0⟩
      | ⟨1, _⟩ => ⟨(y 1).val, h1⟩) := by
    refine Shape.idx_ext₂ ?_ ?_
    · refine Eq.symm ((Window.rect_emb_val win2_1 t _ 0).trans ?_)
      rw [(index1 t).1, htv]
      show (y 0).val / 8 * 8 + (y 0).val % 8 = (y 0).val
      omega
    · refine Eq.symm ((Window.rect_emb_val win2_1 t _ 1).trans ?_)
      rw [(index1 t).2]; exact Nat.zero_add _
  rw [e]
  exact View.emb_mem_set _ _

/-- The array after the run. -/
theorem final (c : Dev nD) (σ : Fin 128 → Fin 50 → Fin 100352) (hσ : ∀ q, Sel.Separated (scores V c q) (σ q)) :
    (dats V c).arrAt 1 cfg2.N = probs V c σ :=
  (dats V c).arrAt_eq_of_cover 1 (probs V c σ) (fun t _ => flushed V c σ hσ t) (fun y => cover y)

end Cert.Kernel3Ideal.Select

end
-- ==== Proof.JoinRun.lean ====
/-
  The whole kernel over the extended reals: its three calls one after the other, each from the contents the one before
  leaves. The rows of queries are normalised, the scores of the normalised queries are taken, and the scores are selected
  from; the four arguments end as they were, and every semaphore counter at zero.
-/
module

public import proofs.«01_k».proof.Proof.Gen.Kernel3Ideal.Regions
public import proofs.«01_k».proof.Proof.JoinNorm
public import proofs.«01_k».proof.Proof.JoinSims
public import proofs.«01_k».proof.Proof.JoinSelect
public import Idealize.ShloMosaic.Lib.Pipeline.RegionArraysS

@[expose] public section

set_option maxRecDepth 16384

noncomputable section

namespace Cert.Kernel3Ideal.Whole

open Cert.Kernel3Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

local notation "𝕄" => MT nD τ sig Unit (Elt Ideal) ℕ (UR sig nD τ) ℕ

/-- The contents of the buffers that a valuation per device gives. -/
abbrev held (W : Dev nD → Valuation τ sig (Elt Ideal)) (c : Dev nD) (b : Ref sig .tc) : Buf (Elt Ideal) ((c : Thread nD τ).loc b) :=
  W c (Proc.devRef .tc b)

variable (m : (ℓ : Loc nD τ sig) → Buf (Elt Ideal) ℓ) (ρ : Dev nD → PrngReg)

/-! ## The buffers between the calls -/

def W0 (c : Dev nD) : Valuation τ sig (Elt Ideal) := V0 m c
def W1 (c : Dev nD) : Valuation τ sig (Elt Ideal) := Pipeline.afterRegion (Norm.dats (held (W0 m)) c) (W0 m c)
def W2 (c : Dev nD) : Valuation τ sig (Elt Ideal) := Pipeline.afterRegion (Sims.dats (held (W1 m)) c) (W1 m c)
def W3 (c : Dev nD) : Valuation τ sig (Elt Ideal) := Pipeline.afterRegion (Select.dats (held (W2 m)) c) (W2 m c)

theorem W1_of (c : Dev nD) (r : Ref sig .tc) (h : ∀ w, Pipeline.arrRef cfg0.spec w = r → (cfg0.win w).isOut = false) :
    W1 m c (Proc.devRef .tc r) = W0 m c (Proc.devRef .tc r) :=
  Pipeline.afterRegion_keeps (Norm.dats (held (W0 m)) c) (W0 m c) launch0.win.arr_inj (Norm.A_eq (held (W0 m)) c) r h

theorem W2_of (c : Dev nD) (r : Ref sig .tc) (h : ∀ w, Pipeline.arrRef cfg1.spec w = r → (cfg1.win w).isOut = false) :
    W2 m c (Proc.devRef .tc r) = W1 m c (Proc.devRef .tc r) :=
  Pipeline.afterRegion_keeps (Sims.dats (held (W1 m)) c) (W1 m c) launch1.win.arr_inj (Sims.A_eq (held (W1 m)) c) r h

theorem W3_of (c : Dev nD) (r : Ref sig .tc) (h : ∀ w, Pipeline.arrRef cfg2.spec w = r → (cfg2.win w).isOut = false) :
    W3 m c (Proc.devRef .tc r) = W2 m c (Proc.devRef .tc r) :=
  Pipeline.afterRegion_keeps (Select.dats (held (W2 m)) c) (W2 m c) launch2.win.arr_inj (Select.A_eq (held (W2 m)) c) r h

theorem W1_v0 (c : Dev nD) : W1 m c (Proc.devRef .tc main_v0) = k0_pay1 (F := Ideal) (m ((c : Thread nD τ).loc main_arg0)) :=
  (Pipeline.afterRegion_arr (Norm.dats (held (W0 m)) c) (W0 m c) launch0.win.arr_inj 1).trans (Norm.final (held (W0 m)) c)

theorem W2_v1 (c : Dev nD) : W2 m c (Proc.devRef .tc main_v1) = Sims.logits (held (W1 m)) c :=
  (Pipeline.afterRegion_arr (Sims.dats (held (W1 m)) c) (W1 m c) launch1.win.arr_inj 4).trans (Sims.final (held (W1 m)) c)

theorem W3_v2 (c : Dev nD) (σ : Fin 128 → Fin 50 → Fin 100352) (hσ : ∀ q, Sel.Separated (Select.scores (held (W2 m)) c q) (σ q)) :
    W3 m c (Proc.devRef .tc main_v2) = Select.probs (held (W2 m)) c σ :=
  (Pipeline.afterRegion_arr (Select.dats (held (W2 m)) c) (W2 m c) launch2.win.arr_inj 1).trans (Select.final (held (W2 m)) c σ hσ)

theorem W1_arg1 (c : Dev nD) : W1 m c (Proc.devRef .tc main_arg1) = m ((c : Thread nD τ).loc main_arg1) := W1_of m c main_arg1 (by decide)
theorem W1_arg2 (c : Dev nD) : W1 m c (Proc.devRef .tc main_arg2) = m ((c : Thread nD τ).loc main_arg2) := W1_of m c main_arg2 (by decide)
theorem W1_arg3 (c : Dev nD) : W1 m c (Proc.devRef .tc main_arg3) = m ((c : Thread nD τ).loc main_arg3) := W1_of m c main_arg3 (by decide)

theorem W3_arg0 (c : Dev nD) : W3 m c (Proc.devRef .tc main_arg0) = m ((c : Thread nD τ).loc main_arg0) :=
  (W3_of m c main_arg0 (by decide)).trans ((W2_of m c main_arg0 (by decide)).trans (W1_of m c main_arg0 (by decide)))
theorem W3_arg1 (c : Dev nD) : W3 m c (Proc.devRef .tc main_arg1) = m ((c : Thread nD τ).loc main_arg1) :=
  (W3_of m c main_arg1 (by decide)).trans ((W2_of m c main_arg1 (by decide)).trans (W1_arg1 m c))
theorem W3_arg2 (c : Dev nD) : W3 m c (Proc.devRef .tc main_arg2) = m ((c : Thread nD τ).loc main_arg2) :=
  (W3_of m c main_arg2 (by decide)).trans ((W2_of m c main_arg2 (by decide)).trans (W1_arg2 m c))
theorem W3_arg3 (c : Dev nD) : W3 m c (Proc.devRef .tc main_arg3) = m ((c : Thread nD τ).loc main_arg3) :=
  (W3_of m c main_arg3 (by decide)).trans ((W2_of m c main_arg3 (by decide)).trans (W1_arg3 m c))

/-! ## The calls' records -/

/-- The proof data of the three calls. -/
def pdats : (p : Fin 3) → (c : Dev nD) → Dat τ (Elt Ideal) Unit ℕ (UR sig nD τ) ℕ (cfgs p) c
  | 0 => Norm.dats (held (W0 m))
  | 1 => Sims.dats (held (W1 m))
  | 2 => Select.dats (held (W2 m))

theorem W1_eq (c : Dev nD) : W1 m c = Pipeline.afterRegion (pdats m 0 c) (W0 m c) := by unfold W1; rfl
theorem W2_eq (c : Dev nD) : W2 m c = Pipeline.afterRegion (pdats m 1 c) (W1 m c) := by unfold W2; rfl
theorem W3_eq (c : Dev nD) : W3 m c = Pipeline.afterRegion (pdats m 2 c) (W2 m c) := by unfold W3; rfl

/-- The levels: every semaphore of a core at level zero. -/
def L : GSem nD τ sig → Finset Unit := fun g => if g.1.2 = .tc then {()} else ∅
def lv : GSem nD τ sig → Unit → ℕ := fun _ _ => 0

theorem hL (g : GSem nD τ sig) (h : g.1.2 ≠ .tc) : L g = ∅ := if_neg h

/-- What rides beside the held buffers: what the core owes, and its random-number register. -/
def rest (c : Dev nD) : sProp 𝕄 :=
  iprop((∃ Wd, owes (c : Thread nD τ) (0 : CellTallies nD τ sig Unit) Wd) ∗ (∃ r, prngReg c r) ∗ emp)

theorem cut (p : Fin 3) : Pipeline.LevelCut (pcfgs (F := Ideal)) adm () L lv p (fun _ => (0 : CellTallies nD τ sig Unit)) (fun _ => 0) where
  hι c w s := by unfold L; rw [if_pos rfl]; exact Finset.mem_singleton_self _
  hιb c w s := Nat.le_refl 0
  hD c g i h := absurd h (by show ¬ 0 < 0; omega)

set_option backward.isDefEq.respectTransparency.types false in
def R0 : RegionSeg (pcfgs (F := Ideal)) adm (pdats m) () defs₀ Variants.none L lv 0 :=
  Pipeline.RegionSeg.ofHeldIn (pcfgs (F := Ideal)) adm (pdats m) () defs₀ Variants.none L lv 0 (fun _ => 0)
    (Pipeline.ucRefs τ sig) (fun c => iprop(∃ r, prngReg c r)) (fun c => iprop(∃ r, prngReg c r)) launch0.toP rfl
    (fun c => Norm.body_obligation (held (W0 m)) c) (fun _ _ => rfl) (fun _ => rfl)
    (fun c => (Norm.dats (held (W0 m)) c).share_full fun _ => rfl) (fun _ => .rfl) (fun _ => .rfl) (fun _ => 0) (cut 0)
    (fun _ => iprop(emp)) (W0 m) (fun c w => Norm.A_eq (held (W0 m)) c w)

set_option backward.isDefEq.respectTransparency.types false in
def R1 : RegionSeg (pcfgs (F := Ideal)) adm (pdats m) () defs₀ Variants.none L lv 1 :=
  Pipeline.RegionSeg.ofHeldIn (pcfgs (F := Ideal)) adm (pdats m) () defs₀ Variants.none L lv 1 (fun _ => 0)
    (Pipeline.ucRefs τ sig) (fun c => iprop(∃ r, prngReg c r)) (fun c => iprop(∃ r, prngReg c r)) launch1.toP rfl
    (fun c => Sims.body_obligation (held (W1 m)) c) (fun _ _ => rfl) (fun _ => rfl)
    (fun c => (Sims.dats (held (W1 m)) c).share_full fun _ => rfl) (fun _ => .rfl) (fun _ => .rfl) (fun _ => 0) (cut 1)
    (fun _ => iprop(emp)) (W1 m) (fun c w => Sims.A_eq (held (W1 m)) c w)

set_option backward.isDefEq.respectTransparency.types false in
def R2 : RegionSeg (pcfgs (F := Ideal)) adm (pdats m) () defs₀ Variants.none L lv 2 :=
  Pipeline.RegionSeg.ofHeldIn (pcfgs (F := Ideal)) adm (pdats m) () defs₀ Variants.none L lv 2 (fun _ => 0)
    (Pipeline.ucRefs τ sig) (fun c => iprop(∃ r, prngReg c r)) (fun c => iprop(∃ r, prngReg c r)) launch2.toP rfl
    (fun c => Select.body_obligation (held (W2 m)) c) (fun _ _ => rfl) (fun _ => rfl)
    (fun c => (Select.dats (held (W2 m)) c).share_full fun _ => rfl) (fun _ => .rfl) (fun _ => .rfl) (fun _ => 0) (cut 2)
    (fun _ => iprop(emp)) (W2 m) (fun c w => Select.A_eq (held (W2 m)) c w)

theorem arr0_S : Pipeline.arrRefs (τ := τ) spec0 ⊆ Pipeline.ucRefs τ sig := Pipeline.arrRefs_sub_ucRefs spec0 (by decide)
theorem arr1_S : Pipeline.arrRefs (τ := τ) spec1 ⊆ Pipeline.ucRefs τ sig := Pipeline.arrRefs_sub_ucRefs spec1 (by decide)
theorem arr2_S : Pipeline.arrRefs (τ := τ) spec2 ⊆ Pipeline.ucRefs τ sig := Pipeline.arrRefs_sub_ucRefs spec2 (by decide)

/-- The device's unscoped buffers at `W c`, beside `rest`. -/
def state (W : Dev nD → Valuation τ sig (Elt Ideal)) (c : Dev nD) : sProp 𝕄 :=
  iprop(StableHlo.held (c : Thread nD τ) (Pipeline.ucRefs τ sig) (W c) ∗ rest c)

set_option backward.isDefEq.respectTransparency.types false in
theorem hpre0 (c : Dev nD) : state (W0 m) c ⊢ (R0 m).pre c := by
  unfold state rest R0
  exact Pipeline.RegionSeg.ofHeldIn_pre (pcs := pcfgs (F := Ideal)) (a := adm) (pdats := pdats m) (p := 0) (ι := ()) (defs₀ := defs₀)
    (𝒱₀ := Variants.none) (L := L) (lv := lv) (D := fun _ => 0) (S := Pipeline.ucRefs τ sig) (X := fun c => iprop(∃ r, prngReg c r))
    (Y := fun c => iprop(∃ r, prngReg c r)) (R := fun _ => iprop(emp)) (W := W0 m) arr0_S c
set_option backward.isDefEq.respectTransparency.types false in
theorem hpost0 (c : Dev nD) : (R0 m).post c ⊢ state (W1 m) c := by
  unfold state
  rw [W1_eq m c]
  exact Pipeline.RegionSeg.ofHeldIn_post (S := Pipeline.ucRefs τ sig) arr0_S c
set_option backward.isDefEq.respectTransparency.types false in
theorem hpre1 (c : Dev nD) : state (W1 m) c ⊢ (R1 m).pre c := by
  unfold state rest R1
  exact Pipeline.RegionSeg.ofHeldIn_pre (pcs := pcfgs (F := Ideal)) (a := adm) (pdats := pdats m) (p := 1) (ι := ()) (defs₀ := defs₀)
    (𝒱₀ := Variants.none) (L := L) (lv := lv) (D := fun _ => 0) (S := Pipeline.ucRefs τ sig) (X := fun c => iprop(∃ r, prngReg c r))
    (Y := fun c => iprop(∃ r, prngReg c r)) (R := fun _ => iprop(emp)) (W := W1 m) arr1_S c
set_option backward.isDefEq.respectTransparency.types false in
theorem hpost1 (c : Dev nD) : (R1 m).post c ⊢ state (W2 m) c := by
  unfold state
  rw [W2_eq m c]
  exact Pipeline.RegionSeg.ofHeldIn_post (S := Pipeline.ucRefs τ sig) arr1_S c
set_option backward.isDefEq.respectTransparency.types false in
theorem hpre2 (c : Dev nD) : state (W2 m) c ⊢ (R2 m).pre c := by
  unfold state rest R2
  exact Pipeline.RegionSeg.ofHeldIn_pre (pcs := pcfgs (F := Ideal)) (a := adm) (pdats := pdats m) (p := 2) (ι := ()) (defs₀ := defs₀)
    (𝒱₀ := Variants.none) (L := L) (lv := lv) (D := fun _ => 0) (S := Pipeline.ucRefs τ sig) (X := fun c => iprop(∃ r, prngReg c r))
    (Y := fun c => iprop(∃ r, prngReg c r)) (R := fun _ => iprop(emp)) (W := W2 m) arr2_S c
set_option backward.isDefEq.respectTransparency.types false in
theorem hpost2 (c : Dev nD) : (R2 m).post c ⊢ state (W3 m) c := by
  unfold state
  rw [W3_eq m c]
  exact Pipeline.RegionSeg.ofHeldIn_post (S := Pipeline.ucRefs τ sig) arr2_S c

theorem rest_owes (c : Dev nD) : rest c ⊢ iprop(∃ Wd, owes (c : Thread nD τ) (0 : CellTallies nD τ sig Unit) Wd) := by
  unfold rest
  iintro ⟨H, -⟩
  iexact H

/-! ## The run -/

set_option backward.isDefEq.respectTransparency.types false in
theorem run : θ_run defs (onTc (τ := τ) (main (F := Ideal))) ⟨m, fun _ => 0, ρ⟩ (fun r => (∀ c : Dev nD,
      r.2.mem ((c.tc : Thread nD τ).loc main_v2) = W3 m c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine Pipeline.θ_run_regions_kit_dev_sems (pcfgs (F := Ideal)) adm (pdats m) () cellOf_inj
    (emb₁ : Emb (URounds (GSem nD τ sig) Unit) 𝕄) defs₀ Variants.none L lv m ρ main
    (fun _ => [.region (R0 m), .region (R1 m), .region (R2 m)])
    (fun c Q => by
      rewrite [main_chain c, Seg.run_eq_chain,
        show List.map Seg.prog [Seg.region (R0 m), Seg.region (R1 m), Seg.region (R2 m)] = [
          Prog.lift (.customCall (Pipeline.entry 0) ()),
          Prog.lift (.customCall (Pipeline.entry 1) ()),
          Prog.lift (.customCall (Pipeline.entry 2) ()) ] from rfl]
      exact .rfl)
    (fun c => by simp only [Seg.pipes_region, Seg.pipes_nil]; decide) (fun _ => 0) hL (fun _ => iprop(emp))
    (initOf (Pipeline.cells cfgs cellOf_inj) (Pipeline.launchToks cfgs cellOf_inj)) ?_
    (T₀ := state (W0 m))
    (Tₙ := fun c => StableHlo.held (c : Thread nD τ) (Pipeline.ucRefs τ sig) (W3 m c))
    (hch := fun c => ⟨hpre0 m c, (hpost0 m c).trans (hpre1 m c), (hpost1 m c).trans (hpre2 m c), (hpost2 m c).trans (sep_mono .rfl (rest_owes c))⟩)
    (hinit := ?_) (QY := fun c s => s.mem ((c.tc : Thread nD τ).loc main_v2) = W3 m c (Proc.devRef .tc main_v2)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h hz => ⟨h, funext fun g => hz g (.inr (regions_no_unscoped g.2))⟩)
  · iintro Hu
    imodintro
    isplitl [Hu]
    · iapply (show (ownU (initOf (Pipeline.cells cfgs cellOf_inj) (Pipeline.launchToks cfgs cellOf_inj)) : sProp 𝕄)
        ⊢ BI.own ((emb₁ : Emb (URounds (GSem nD τ sig) Unit) 𝕄) (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c.tc : Thread nD τ).loc b)) = StableHlo.held (c : Thread nD τ) (Pipeline.ucRefs τ sig) (W0 m c)
      from Pipeline.unscopedBufs_held c (W0 m c)]
    unfold state rest
    iintro ⟨⟨Hh, -, HO, -, Hp, -⟩, -⟩
    imodintro
    isplitl [Hh]; · iexact Hh
    isplitl [HO]
    · iexists ∅
      iexact HO
    isplitl [Hp]
    · iexists ρ c
      iexact Hp
    iempintro
  · unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro
      exact ⟨h (Proc.devRef .tc main_v2) (Finset.mem_filter.mpr ⟨StableHlo.devRef_mem_tcRefs main_v2, by decide⟩),
        (h (Proc.devRef .tc main_arg0) (Finset.mem_filter.mpr ⟨StableHlo.devRef_mem_tcRefs main_arg0, by decide⟩)).trans (W3_arg0 m c),
        (h (Proc.devRef .tc main_arg1) (Finset.mem_filter.mpr ⟨StableHlo.devRef_mem_tcRefs main_arg1, by decide⟩)).trans (W3_arg1 m c),
        (h (Proc.devRef .tc main_arg2) (Finset.mem_filter.mpr ⟨StableHlo.devRef_mem_tcRefs main_arg2, by decide⟩)).trans (W3_arg2 m c),
        (h (Proc.devRef .tc main_arg3) (Finset.mem_filter.mpr ⟨StableHlo.devRef_mem_tcRefs main_arg3, by decide⟩)).trans (W3_arg3 m c)⟩
    · iexact HSI

end Cert.Kernel3Ideal.Whole

end
-- ==== Proof.JoinRef.lean ====
/-
  The whole reference over the extended reals: its result is what the reference of the selection makes of the padded
  logits that the reference of the logits makes of the normalised queries; and the whole precondition is the selection's
  precondition of those padded logits.
-/
module

public import proofs.«01_k».proof.Proof.Gen.Reference3Ideal
public import proofs.«01_k».proof.Proof.Gen.Reference3Ideal.Run
public import proofs.«01_k».proof.Proof.Gen.Pre_separated3
public import proofs.«01_k».proof.Proof.SimsRef
public import proofs.«01_k».proof.Proof.SelPre
public import proofs.«01_k».proof.Proof.SelRef

@[expose] public section

set_option maxRecDepth 16384

noncomputable section

namespace Cert.Reference3Ideal.Whole

open Cert.Reference3Ideal Cert.Reference3Ideal.Gen Cert.Reference3Ideal.Value Idealize.ShloMosaic Idealize.SL.Sem

/-- The normalised queries as the reference's operations compose them. -/
def unit (x : FVec Ideal S128x1152 .f32) : FVec Ideal S128x1152 .f32 :=
  Host.divf x (broadcastInDim S128x1152 ![0, 1] bcast_S128x1_S128x1152_0_1 (maximumf (broadcastInDim S128x1 ![] bcast_S_S128x1 (id (constant S_ .f32 0x2B8CBCCC#32))) (Host.sqrt (broadcastInDim S128x1 ![0] bcast_S128_S128x1_0 (Host.reduceAdd (mulf x x) (constant S_ .f32 0x00000000#32) reducesTo_S128x1152_S128_d1 h_S_)))))

theorem unit_apply (x : FVec Ideal S128x1152 .f32) (q : Fin 128) (l : Fin 1152) :
    unit x (ix2 q l)
      = Ideal.div (x (ix2 q l)) (max (Ideal.ofBits .f32 0x2B8CBCCC#32) (Ideal.sqrt (∑ k, x (ix2 q k) * x (ix2 q k)))) := by
  pointwise [unit]
  rfl

/-- The padded logits of the arguments. -/
def padded (x0 : FVec Ideal S128x1152 .f32) (x1 : FVec Ideal S128x3 .f32) (x2 : FVec Ideal S100000x1152 .f32)
    (x3 : FVec Ideal S100000x3 .f32) : FVec Ideal Cert.ReferenceIdeal.S128x100352 .f32 :=
  Cert.ReferenceIdeal.Sims.logits (unit x0) x1 x2 x3

theorem pad_cut (s : FVec Ideal S128x100000 .f32) (v : FVec Ideal S_ .f32)
    (hp : S128x100000.Pads (![0, 0] : Fin 2 → Nat) ![0, 352] ![0, 0] Cert.Reference2Ideal.S128x100352) (h0 : 0 < S_.numel) :
    Sel.cut (pad Cert.Reference2Ideal.S128x100352 ![0, 0] ![0, 352] ![0, 0] s v hp h0) = s := by
  funext y
  obtain ⟨q, p, rfl⟩ := Sel.exists_ix2 (R := 128) (N := 100000) y
  rw [Sel.cut_apply]
  pointwise

variable (V : Valuation τ sig (Elt Ideal)) (V' : Valuation Cert.Reference2Ideal.τ Cert.Reference2Ideal.sig (Elt Ideal))
  (hV : V' (Proc.devRef .tc Cert.Reference2Ideal.main_arg0)
    = padded (V (Proc.devRef .tc main_arg0)) (V (Proc.devRef .tc main_arg1)) (V (Proc.devRef .tc main_arg2)) (V (Proc.devRef .tc main_arg3)))

include hV

theorem v35_eq : res_main_v35 V = Cert.Reference2Ideal.Value.res_main_v0 V' := by
  unfold Cert.Reference2Ideal.Value.res_main_v0
  rw [hV]
  unfold padded Cert.ReferenceIdeal.Sims.logits
  exact (pad_cut _ _ _ _).symm

omit hV in
theorem v37_eq : res_main_v37 V = Cert.Reference2Ideal.Value.res_main_v2 V' := rfl

theorem values_eq : res_main_values V = Cert.Reference2Ideal.Value.res_main_values V' := by
  unfold res_main_values Cert.Reference2Ideal.Value.res_main_values; rw [v35_eq V V' hV]

theorem indices_eq : res_main_indices V = Cert.Reference2Ideal.Value.res_main_indices V' := by
  unfold res_main_indices Cert.Reference2Ideal.Value.res_main_indices; rw [v35_eq V V' hV]

theorem v44_eq : res_main_v44 V = Cert.Reference2Ideal.Value.res_main_v9 V' := by
  unfold res_main_v44 Cert.Reference2Ideal.Value.res_main_v9; rw [values_eq V V' hV]

theorem v64_eq : res_main_v64 V = Cert.Reference2Ideal.Value.res_main_v29 V' := by
  unfold res_main_v64 Cert.Reference2Ideal.Value.res_main_v29; rw [v44_eq V V' hV, indices_eq V V' hV, v37_eq V V']; rfl

theorem v68_eq : res_main_v68 V = Cert.Reference2Ideal.Value.res_main_v33 V' := by
  unfold res_main_v68 Cert.Reference2Ideal.Value.res_main_v33; rw [v64_eq V V' hV]

theorem v69_eq : res_main_v69 V = Cert.Reference2Ideal.Value.res_main_v34 V' := by
  unfold res_main_v69 Cert.Reference2Ideal.Value.res_main_v34; rw [v68_eq V V' hV]

omit hV in
theorem call_eq : res_main_call4_v0 V = Cert.Reference2Ideal.Value.res_main_call0_v0 V' := rfl

theorem v70_eq : res_main_v70 V = Cert.Reference2Ideal.Value.res_main_v35 V' := by
  unfold res_main_v70 Cert.Reference2Ideal.Value.res_main_v35; rw [v69_eq V V' hV, call_eq V V']; rfl

theorem v85_eq : res_main_v85 V = Cert.Reference2Ideal.Value.res_main_v50 V' := by
  unfold res_main_v85 Cert.Reference2Ideal.Value.res_main_v50; rw [v68_eq V V' hV, v70_eq V V' hV, v37_eq V V']; rfl

theorem v108_eq : res_main_v108 V = Cert.Reference2Ideal.Value.res_main_v73 V' := by
  unfold res_main_v108 Cert.Reference2Ideal.Value.res_main_v73; rw [v85_eq V V' hV, v70_eq V V' hV, v37_eq V V']; rfl

omit hV in
theorem part2_eq (x : FVec Ideal Cert.ReferenceIdeal.S128x100352 .f32) :
    Cert.Pre_separated3.fn_part2 (F := Ideal) x (extractStridedSlice S128x100000 ![0, 0] x Cert.Pre_separated.Facts.slices_S128x100352_S128x100000_0_0)
      = Cert.Pre_separated.fn (F := Ideal) x := by
  unfold Cert.Pre_separated3.fn_part2 Cert.Pre_separated3.fn_part3 Cert.Pre_separated3.fn_part4 Cert.Pre_separated.fn Cert.Pre_separated.fn_part1
    Cert.Pre_separated.fn_part2
  rfl

omit hV in
/-- The whole precondition is the selection's of the padded logits. -/
theorem pre_eq (x0 : FVec Ideal S128x1152 .f32) (x1 : FVec Ideal S128x3 .f32) (x2 : FVec Ideal S100000x1152 .f32)
    (x3 : FVec Ideal S100000x3 .f32) :
    Cert.Pre_separated3.fn (F := Ideal) x0 x1 x2 x3 = Cert.Pre_separated.fn (F := Ideal) (padded x0 x1 x2 x3) := by
  have e : Cert.Pre_separated3.fn (F := Ideal) x0 x1 x2 x3
      = Cert.Pre_separated3.fn_part2 (padded x0 x1 x2 x3)
        (extractStridedSlice S128x100000 ![0, 0] (padded x0 x1 x2 x3) Cert.Pre_separated.Facts.slices_S128x100352_S128x100000_0_0) := by
    unfold Cert.Pre_separated3.fn Cert.Pre_separated3.fn_part1 Cert.Pre_separated3.fn_pad Cert.Pre_separated3.fn_norm Cert.Pre_separated3.fn_clip
      Cert.Pre_separated3.fn_norm_0 Cert.Pre_separated3.fn_clip_1 padded Cert.ReferenceIdeal.Sims.logits unit
    rfl
  exact e.trans (part2_eq _)

end Cert.Reference3Ideal.Whole

end
-- ==== Proof.JoinUnit.lean ====
/-
  The first call's rows of queries, read at an entry: each is divided by its length, the length taken from below by the
  small constant, as the reference does.
-/
module

public import proofs.«01_k».proof.Proof.Gen.Kernel3Ideal.Skeleton
public import proofs.«01_k».proof.Proof.SimsScalar
public import Idealize.ShloMosaic.Lib.Pointwise

@[expose] public section

noncomputable section

namespace Cert.Kernel3Ideal.Norm

open Cert.Kernel3Ideal Cert.Kernel3Ideal.Gen Idealize.ShloMosaic

theorem pay_read (x : FVec Ideal S128x1152 .f32) (q : Fin 128) (l : Fin 1152) :
    k0_pay1 (F := Ideal) x (ix2 q l)
      = Ideal.div (x (ix2 q l)) (Ideal.sqrt (max (∑ k, x (ix2 q k) * x (ix2 q k))
          ((5316911940649 / 5316911983139663491615228241121378304 : ℝ) : EReal))) := by
  pointwise [k0_pay1]
  rfl

/-- An entry of a normalised row, as the reference states it. -/
theorem pay_apply (x : FVec Ideal S128x1152 .f32) (q : Fin 128) (l : Fin 1152) :
    k0_pay1 (F := Ideal) x (ix2 q l)
      = Ideal.div (x (ix2 q l)) (max (Ideal.ofBits .f32 0x2B8CBCCC#32) (Ideal.sqrt (∑ k, x (ix2 q k) * x (ix2 q k)))) := by
  have hs : (0 : EReal) ≤ ∑ k, x (ix2 q k) * x (ix2 q k) := Finset.sum_nonneg fun k _ => Cert.Sims.mul_self_nonneg (x (ix2 q k))
  have he : ((5316911940649 / 5316911983139663491615228241121378304 : ℝ) : EReal)
      = (((2305843 / 2305843009213693952 : ℝ) ^ 2 : ℝ) : EReal) := by norm_num
  rw [pay_read, he, Cert.Sims.sqrt_max_sq _ hs _ (by norm_num), ← Cert.Sims.word_eps]

end Cert.Kernel3Ideal.Norm

end
-- ==== Proof.JoinSame.lean ====
/-
  The whole kernel and the whole reference over the extended reals: the scores that the kernel's third call is given are
  the reference's padded logits, so that the two select the same probabilities from them.
-/
module

public import proofs.«01_k».proof.Proof.JoinRun
public import proofs.«01_k».proof.Proof.JoinRef
public import proofs.«01_k».proof.Proof.JoinUnit

@[expose] public section

set_option maxRecDepth 16384

noncomputable section

namespace Cert.Kernel3Ideal.Whole

open Cert.Kernel3Ideal Cert.Kernel3Ideal.Gen Idealize.ShloMosaic Idealize.ShloMosaic.TcCoe Idealize.SL.Sem

variable (m : (ℓ : Loc nD τ sig) → Buf (Elt Ideal) ℓ)

/-- The first call's result is the reference's array of normalised queries. -/
theorem unit_eq (x : FVec Ideal S128x1152 .f32) : k0_pay1 (F := Ideal) x = Cert.Reference3Ideal.Whole.unit x := by
  funext y
  obtain ⟨q, l, rfl⟩ := Sel.exists_ix2 (R := 128) (N := 1152) y
  exact (Norm.pay_apply x q l).trans (Cert.Reference3Ideal.Whole.unit_apply x q l).symm

/-- The reference's padded logits of the kernel's arguments. -/
def scores (c : Dev nD) : FVec Ideal Cert.ReferenceIdeal.S128x100352 .f32 :=
  Cert.Reference3Ideal.Whole.padded (m ((c.tc : Thread nD τ).loc main_arg0)) (m ((c.tc : Thread nD τ).loc main_arg1))
    (m ((c.tc : Thread nD τ).loc main_arg2)) (m ((c.tc : Thread nD τ).loc main_arg3))

/-- The second call's result is the reference's array of padded logits. -/
theorem scores_eq (c : Dev nD) : W2 m c (Proc.devRef .tc main_v1) = scores m c := by
  rw [W2_v1]
  funext y
  obtain ⟨q, j, rfl⟩ := Sel.exists_ix2 (R := 128) (N := 100352) y
  refine (Sims.logits_ix (held (W1 m)) c q j).trans ?_
  have e0 : held (W1 m) c main_v0 = Cert.Reference3Ideal.Whole.unit (m ((c.tc : Thread nD τ).loc main_arg0)) := (W1_v0 m c).trans (unit_eq _)
  have e1 : held (W1 m) c main_arg1 = m ((c.tc : Thread nD τ).loc main_arg1) := W1_arg1 m c
  have e2 : held (W1 m) c main_arg2 = m ((c.tc : Thread nD τ).loc main_arg2) := W1_arg2 m c
  have e3 : held (W1 m) c main_arg3 = m ((c.tc : Thread nD τ).loc main_arg3) := W1_arg3 m c
  rw [e0, e1, e2, e3]
  exact (Cert.ReferenceIdeal.Sims.logits_apply _ _ _ _ q j).symm

/-- The precondition tells the fifty greatest scores of every row apart. -/
theorem separated (c : Dev nD)
    (h : Cert.Pre_separated3.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) (q : Fin 128) :
    Sel.Separated (fun p => scores m c (ix2 q p)) (Sel.top (scores m c) q) :=
  Sel.separated _ ((Cert.Reference3Ideal.Whole.pre_eq _ _ _ _).symm.trans h) q

theorem row_eq (c : Dev nD) (q : Fin 128) : Select.scores (held (W2 m)) c q = fun p => scores m c (ix2 q p) := by
  unfold Select.scores
  rw [show held (W2 m) c main_v1 = scores m c from scores_eq m c]

/-- The kernel's probabilities are the reference's. -/
theorem result_eq (c : Dev nD) (hsep : ∀ q, Sel.Separated (fun p => scores m c (ix2 q p)) (Sel.top (scores m c) q))
    (V : Valuation Cert.Reference3Ideal.τ Cert.Reference3Ideal.sig (Elt Ideal))
    (h0 : V (Proc.devRef .tc Cert.Reference3Ideal.main_arg0) = m ((c.tc : Thread nD τ).loc main_arg0))
    (h1 : V (Proc.devRef .tc Cert.Reference3Ideal.main_arg1) = m ((c.tc : Thread nD τ).loc main_arg1))
    (h2 : V (Proc.devRef .tc Cert.Reference3Ideal.main_arg2) = m ((c.tc : Thread nD τ).loc main_arg2))
    (h3 : V (Proc.devRef .tc Cert.Reference3Ideal.main_arg3) = m ((c.tc : Thread nD τ).loc main_arg3)) :
    Cert.Reference2Ideal.Select.normal (Cert.Reference3Ideal.Value.res_main_v108 V) = W3 m c (Proc.devRef .tc main_v2) := by
  let V' : Valuation Cert.Reference2Ideal.τ Cert.Reference2Ideal.sig (Elt Ideal) :=
    Function.update (fun b => (Classical.choice inferInstance : b.ty.Contents (Elt Ideal)))
      (Proc.devRef .tc Cert.Reference2Ideal.main_arg0) (scores m c)
  have hV : V' (Proc.devRef .tc Cert.Reference2Ideal.main_arg0) = scores m c := Function.update_self _ _ _
  have hsep' : ∀ q, Sel.Separated (Select.scores (held (W2 m)) c q) (Sel.top (scores m c) q) := fun q => by
    rw [row_eq]; exact hsep q
  rw [W3_v2 m c (Sel.top (scores m c)) hsep', Cert.Reference3Ideal.Whole.v108_eq V V' (by rw [hV, h0, h1, h2, h3]; rfl)]
  funext y
  obtain ⟨q, p, rfl⟩ := Sel.exists_ix2 (R := 128) (N := 100000) y
  refine (Cert.Reference2Ideal.Select.result_apply V' _ hV hsep q p).trans ?_
  refine Eq.trans ?_ (Select.probs_ix (held (W2 m)) c (Sel.top (scores m c)) q p).symm
  rw [row_eq]
  rfl

end Cert.Kernel3Ideal.Whole

end
-- ==== Proof.JoinFrameBodies.lean ====
/-
  The bodies of the kernel's three calls at any float values, each on staging buffers whose contents are not named: a body
  runs, faults nowhere and hands its staging buffers back, each at some contents. The last block of the catalogue overhangs
  its array, so the scores after the second call hold words that nothing names; every window's contents are therefore
  forgotten, and what a call leaves is known only to exist.
-/
module

public import proofs.«01_k».proof.Proof.Gen.Kernel3.Skeleton
public import proofs.«01_k».proof.Proof.Gen.Kernel3.Regions
public import proofs.«01_k».proof.Proof.Gen.Kernel3.Points
public import Idealize.ShloMosaic.Lib.Pipeline.RegionsForgetLinks
public import Idealize.SL.BI.ExclCounters
public import Idealize.ShloMosaic.Lib.Claim
public import Idealize.ShloMosaic.Lib.Pipeline.Frame
public import Idealize.ShloMosaic.Lib.Pipeline.FrameBody
public import Idealize.ShloMosaic.Lib.WholeRead
public import proofs.«01_k».proof.Proof.Gen.Kernel3.Loops

@[expose] public section

set_option maxRecDepth 16384

noncomputable section

namespace Cert.Kernel3.Whole

open Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

/-- The ghost state: one copy of the pipelines' own per call of the program, and a component that is not used. -/
abbrev UU : Type := IProdConst (Fin 3) (UR sig nD τ) × Counters

local notation "𝕄" => MT nD τ sig Unit (Elt F) ℕ UU ℕ

/-! ## The bodies -/

set_option maxHeartbeats 1000000 in
/-- The rows of queries normalised: two staging buffers. -/
theorem norm_runs (c : Dev nD) (E : Set ℕ)
    (arg0 : Memref sig .tc .vmem S128x1152 .f32) (harg0 : arg0.IsWhole)
    (arg1 : Memref sig .tc .vmem S128x1152 .f32) (harg1 : arg1.IsWhole)
    (K : PUnit → sProp 𝕄) :
    iprop((∃ d, owns (c : Thread nD τ) arg0 fullShare d)
        ∗ (∃ d, owns (c : Thread nD τ) arg1 fullShare d)
        ∗ (iprop((∃ d, owns (c : Thread nD τ) arg0 fullShare d)
            ∗ (∃ d, owns (c : Thread nD τ) arg1 fullShare d)) -∗ K ⟨⟩))
      ⊢ wp frame (wpE (defs₀ (F := F)) Variants.none c none) E (cc0__qnorm_body arg0 harg0 arg1 harg1) K := by
  simp only [cc0__qnorm_body_eq_skeleton]; unfold cc0__qnorm_body_skel
  unfold owns
  iintro ⟨⟨%d0, %f0, -, H0⟩, ⟨%d1, %f1, -, H1⟩, Hk⟩
  sl_exec
  sl_step
  iapply Hk
  isplitl [H0]
  · iexists _; iexists _; isplitr
    swap; · iexact H0
    ipureintro; rfl
  iexists _; iexists _; isplitr
  swap; · iexact H1
  ipureintro; rfl

set_option maxHeartbeats 1000000 in
/-- A block of scores: five staging buffers. -/
theorem sims_runs (c : Dev nD) (E : Set ℕ) (i : grid1.Coords)
    (arg1 : Memref sig .tc .vmem S128x1152 .f32) (harg1 : arg1.IsWhole)
    (arg2 : Memref sig .tc .vmem S128x3 .f32) (harg2 : arg2.IsWhole)
    (arg3 : Memref sig .tc .vmem S2048x1152 .f32) (harg3 : arg3.IsWhole)
    (arg4 : Memref sig .tc .vmem S2048x3 .f32) (harg4 : arg4.IsWhole)
    (arg5 : Memref sig .tc .vmem S128x2048 .f32) (harg5 : arg5.IsWhole)
    (K : PUnit → sProp 𝕄) :
    iprop((∃ d, owns (c : Thread nD τ) arg1 fullShare d)
        ∗ (∃ d, owns (c : Thread nD τ) arg2 fullShare d)
        ∗ (∃ d, owns (c : Thread nD τ) arg3 fullShare d)
        ∗ (∃ d, owns (c : Thread nD τ) arg4 fullShare d)
        ∗ (∃ d, owns (c : Thread nD τ) arg5 fullShare d)
        ∗ (iprop((∃ d, owns (c : Thread nD τ) arg1 fullShare d)
            ∗ (∃ d, owns (c : Thread nD τ) arg2 fullShare d)
            ∗ (∃ d, owns (c : Thread nD τ) arg3 fullShare d)
            ∗ (∃ d, owns (c : Thread nD τ) arg4 fullShare d)
            ∗ (∃ d, owns (c : Thread nD τ) arg5 fullShare d)) -∗ K ⟨⟩))
      ⊢ wp frame (wpE (defs₀ (F := F)) Variants.none c none) E (cc1__sims_body i arg1 harg1 arg2 harg2 arg3 harg3 arg4 harg4 arg5 harg5) K := by
  simp only [cc1__sims_body_eq_skeleton]; unfold cc1__sims_body_skel
  simp only [k1_part1_eq_skeleton]
  unfold owns
  iintro ⟨⟨%d0, %f0, -, H0⟩, ⟨%d1, %f1, -, H1⟩, ⟨%d2, %f2, -, H2⟩, ⟨%d3, %f3, -, H3⟩, ⟨%d4, %f4, -, H4⟩, Hk⟩
  sl_exec
  sl_step
  iapply Hk
  isplitl [H0]
  · iexists _; iexists _; isplitr
    swap; · iexact H0
    ipureintro; rfl
  isplitl [H1]
  · iexists _; iexists _; isplitr
    swap; · iexact H1
    ipureintro; rfl
  isplitl [H2]
  · iexists _; iexists _; isplitr
    swap; · iexact H2
    ipureintro; rfl
  isplitl [H3]
  · iexists _; iexists _; isplitr
    swap; · iexact H3
    ipureintro; rfl
  iexists _; iexists _; isplitr
  swap; · iexact H4
  ipureintro; rfl

set_option maxHeartbeats 1000000 in
/-- A block of the selection: two staging buffers. -/
theorem select_runs (c : Dev nD) (E : Set ℕ) (i : grid2.Coords)
    (arg1 : Memref sig .tc .vmem S8x100352 .f32) (harg1 : arg1.IsWhole)
    (arg2 : Memref sig .tc .vmem S8x100352 .f32) (harg2 : arg2.IsWhole)
    (K : PUnit → sProp 𝕄) :
    iprop((∃ d, owns (c : Thread nD τ) arg1 fullShare d)
        ∗ (∃ d, owns (c : Thread nD τ) arg2 fullShare d)
        ∗ (iprop((∃ d, owns (c : Thread nD τ) arg1 fullShare d)
            ∗ (∃ d, owns (c : Thread nD τ) arg2 fullShare d)) -∗ K ⟨⟩))
      ⊢ wp frame (wpE (defs₀ (F := F)) Variants.none c none) E (cc2__select_body i arg1 harg1 arg2 harg2) K := by
  simp only [cc2__select_body_eq_skeleton]; unfold cc2__select_body_skel
  simp only [k2_part1_eq_skeleton, k2_part2_eq_skeleton, k2_part3_eq_skeleton, k2_part4_eq_skeleton]
  unfold owns
  iintro ⟨⟨%d0, %f0, -, H0⟩, ⟨%d1, %f1, -, H1⟩, Hk⟩
  sl_exec
  sl_step
  iapply Hk
  isplitl [H0]
  · iexists _; iexists _; isplitr
    swap; · iexact H0
    ipureintro; rfl
  iexists _; iexists _; isplitr
  swap; · iexact H1
  ipureintro; rfl

/-! ## The proof data -/

/-- The proof data of call 0 over the buffers as it finds them: the arrays as found, no staging buffer's contents named. -/
def dats0 (W : Dev nD → Valuation τ sig (Elt F)) (c : Dev nD) : Dat τ (Elt F) Unit ℕ UU ℕ cfg0 c where
  A w := W c (Proc.devRef .tc (Pipeline.arrRef spec0 w))
  after w t := Pipeline.Dat.unnamed (cfg := cfg0) w t
  Φ _ := Pipeline.ΦA spec0 c
  q _ := fullShare
  owed _ := 0

/-- The proof data of call 1 over the buffers as it finds them: the arrays as found, no staging buffer's contents named. -/
def dats1 (W : Dev nD → Valuation τ sig (Elt F)) (c : Dev nD) : Dat τ (Elt F) Unit ℕ UU ℕ cfg1 c where
  A w := W c (Proc.devRef .tc (Pipeline.arrRef spec1 w))
  after w t := Pipeline.Dat.unnamed (cfg := cfg1) w t
  Φ _ := Pipeline.ΦA spec1 c
  q _ := fullShare
  owed _ := 0

/-- The proof data of call 2 over the buffers as it finds them: the arrays as found, no staging buffer's contents named. -/
def dats2 (W : Dev nD → Valuation τ sig (Elt F)) (c : Dev nD) : Dat τ (Elt F) Unit ℕ UU ℕ cfg2 c where
  A w := W c (Proc.devRef .tc (Pipeline.arrRef spec2 w))
  after w t := Pipeline.Dat.unnamed (cfg := cfg2) w t
  Φ _ := Pipeline.ΦA spec2 c
  q _ := fullShare
  owed _ := 0

/-- The proof data of the three calls. -/
def dats (W : Dev nD → Valuation τ sig (Elt F)) : (p : Fin 3) → (c : Dev nD) → Dat τ (Elt F) Unit ℕ UU ℕ (cfgs p) c
  | 0 => dats0 W
  | 1 => dats1 W
  | 2 => dats2 W

variable (W : Dev nD → Valuation τ sig (Elt F))

/-! ### Call 0 -/

def bodyPre0 (c : Dev nD) (t : Fin cfg0.N) : sProp 𝕄 :=
  iprop((dats0 W c).Φ t.castSucc ∗ (dats0 W c).owesAt () t.castSucc
    ∗ (∃ d, owns (c : Thread nD τ) (st0_0 t) fullShare d)
    ∗ (∃ d, owns (c : Thread nD τ) (st0_1 t) fullShare d))
def bodyPost0 (c : Dev nD) (t : Fin cfg0.N) : sProp 𝕄 :=
  iprop((dats0 W c).Φ t.succ ∗ (dats0 W c).owesAt () t.succ
    ∗ (∃ d, owns (c : Thread nD τ) (st0_0 t) fullShare d)
    ∗ (∃ d, owns (c : Thread nD τ) (st0_1 t) fullShare d))

theorem body_at0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  rw [show (dats0 W c).Φ t.succ = (dats0 W c).Φ t.castSucc from rfl,
    show (dats0 W c).owesAt () t.succ = (dats0 W c).owesAt () t.castSucc from rfl]
  iintro ⟨HΦ, Ho, H⟩
  icases H with ⟨H0, H1⟩
  iapply (norm_runs c Set.univ _ _ _ _ _)
  isplitl [H0]; · iexact H0
  isplitl [H1]; · iexact H1
  iintro H
  isplitl [HΦ]; · iexact HΦ
  isplitl [Ho]; · iexact Ho
  iexact H

theorem row0 (t : Fin cfg0.N) : defs₀ (F := F) .tc cfg0.body (cfg0.bodyArgs t (cfg0.slots t)) = bodyAt0 t := by
  unfold defs₀; rw [Defs.onTc_tc]

theorem obligation0 (c : Dev nD) :
    BodyObligationLoose (dats0 W c) (defs₀ (F := F)) Variants.none () Set.univ (fun _ => true) := fun t => by
  rw [bigSep_W0, row0]
  exact triple_restated (body_at0 W c t) rfl .rfl fun _ => .rfl

/-! ### Call 1 -/

def bodyPre1 (c : Dev nD) (t : Fin cfg1.N) : sProp 𝕄 :=
  iprop((dats1 W c).Φ t.castSucc ∗ (dats1 W c).owesAt () t.castSucc
    ∗ (∃ d, owns (c : Thread nD τ) (st1_0 t) fullShare d)
    ∗ (∃ d, owns (c : Thread nD τ) (st1_1 t) fullShare d)
    ∗ (∃ d, owns (c : Thread nD τ) (st1_2 t) fullShare d)
    ∗ (∃ d, owns (c : Thread nD τ) (st1_3 t) fullShare d)
    ∗ (∃ d, owns (c : Thread nD τ) (st1_4 t) fullShare d))
def bodyPost1 (c : Dev nD) (t : Fin cfg1.N) : sProp 𝕄 :=
  iprop((dats1 W c).Φ t.succ ∗ (dats1 W c).owesAt () t.succ
    ∗ (∃ d, owns (c : Thread nD τ) (st1_0 t) fullShare d)
    ∗ (∃ d, owns (c : Thread nD τ) (st1_1 t) fullShare d)
    ∗ (∃ d, owns (c : Thread nD τ) (st1_2 t) fullShare d)
    ∗ (∃ d, owns (c : Thread nD τ) (st1_3 t) fullShare d)
    ∗ (∃ d, owns (c : Thread nD τ) (st1_4 t) fullShare d))

theorem body_at1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  rw [show (dats1 W c).Φ t.succ = (dats1 W c).Φ t.castSucc from rfl,
    show (dats1 W c).owesAt () t.succ = (dats1 W c).owesAt () t.castSucc from rfl]
  iintro ⟨HΦ, Ho, H⟩
  icases H with ⟨H0, H1, H2, H3, H4⟩
  iapply (sims_runs c Set.univ (grid1.coords t) _ _ _ _ _ _ _ _ _ _ _)
  isplitl [H0]; · iexact H0
  isplitl [H1]; · iexact H1
  isplitl [H2]; · iexact H2
  isplitl [H3]; · iexact H3
  isplitl [H4]; · iexact H4
  iintro H
  isplitl [HΦ]; · iexact HΦ
  isplitl [Ho]; · iexact Ho
  iexact H

theorem row1 (t : Fin cfg1.N) : defs₀ (F := F) .tc cfg1.body (cfg1.bodyArgs t (cfg1.slots t)) = bodyAt1 t := by
  unfold defs₀; rw [Defs.onTc_tc]

theorem obligation1 (c : Dev nD) :
    BodyObligationLoose (dats1 W c) (defs₀ (F := F)) Variants.none () Set.univ (fun _ => true) := fun t => by
  rw [bigSep_W1, row1]
  exact triple_restated (body_at1 W c t) rfl .rfl fun _ => .rfl

/-! ### Call 2 -/

def bodyPre2 (c : Dev nD) (t : Fin cfg2.N) : sProp 𝕄 :=
  iprop((dats2 W c).Φ t.castSucc ∗ (dats2 W c).owesAt () t.castSucc
    ∗ (∃ d, owns (c : Thread nD τ) (st2_0 t) fullShare d)
    ∗ (∃ d, owns (c : Thread nD τ) (st2_1 t) fullShare d))
def bodyPost2 (c : Dev nD) (t : Fin cfg2.N) : sProp 𝕄 :=
  iprop((dats2 W c).Φ t.succ ∗ (dats2 W c).owesAt () t.succ
    ∗ (∃ d, owns (c : Thread nD τ) (st2_0 t) fullShare d)
    ∗ (∃ d, owns (c : Thread nD τ) (st2_1 t) fullShare d))

theorem body_at2 (c : Dev nD) (t : Fin cfg2.N) :
    bodyPre2 W c t ⊢ wp frame (wpE (defs₀ (F := F)) Variants.none c none) Set.univ (bodyAt2 t) (fun _ => bodyPost2 W c t) := by
  unfold bodyPre2 bodyPost2 bodyAt2
  rw [show (dats2 W c).Φ t.succ = (dats2 W c).Φ t.castSucc from rfl,
    show (dats2 W c).owesAt () t.succ = (dats2 W c).owesAt () t.castSucc from rfl]
  iintro ⟨HΦ, Ho, H⟩
  icases H with ⟨H0, H1⟩
  iapply (select_runs c Set.univ (grid2.coords t) _ _ _ _ _)
  isplitl [H0]; · iexact H0
  isplitl [H1]; · iexact H1
  iintro H
  isplitl [HΦ]; · iexact HΦ
  isplitl [Ho]; · iexact Ho
  iexact H

theorem row2 (t : Fin cfg2.N) : defs₀ (F := F) .tc cfg2.body (cfg2.bodyArgs t (cfg2.slots t)) = bodyAt2 t := by
  unfold defs₀; rw [Defs.onTc_tc]

theorem obligation2 (c : Dev nD) :
    BodyObligationLoose (dats2 W c) (defs₀ (F := F)) Variants.none () Set.univ (fun _ => true) := fun t => by
  rw [bigSep_W2, row2]
  exact triple_restated (body_at2 W c t) rfl .rfl fun _ => .rfl

end Cert.Kernel3.Whole

end
-- ==== Proof.JoinFrame.lean ====
/-
  The run of the whole kernel at any float values: its three calls one after the other end, fault nowhere, leave the four
  arguments as they were and every semaphore counter at zero. The scores that the second call leaves hold words that nothing
  names, so the contents between the calls are not a function of the launch: the state there is "at some contents, the four
  arguments as launched", and each call is proved at every such contents.
-/
module

public import proofs.«01_k».proof.Proof.JoinFrameBodies
public import Idealize.ShloMosaic.Lib.HostLoop.Lifted
public import Idealize.ShloMosaic.Lib.HostLoop.Plain
public import Idealize.ShloMosaic.Lib.Pipeline.RegionArraysS
public import Idealize.ShloMosaic.Lib.Claim

@[expose] public section

set_option maxRecDepth 16384

noncomputable section

namespace Cert.Kernel3.Whole

open Cert.Kernel3.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg CSeg Ticket BodyObligationLoose)

variable {F : FTy → Type} [FloatOps F]

local notation "𝕄" => MT nD τ sig Unit (Elt F) ℕ UU ℕ

/-! ## What a call leaves in its arrays -/

/-- The arrays after a call of which no window is named: at some contents, an array that is only read as the call found it. -/
theorem arrays_left {Λ : Labels} {cfg : Cfg sig Λ} {c : Dev nD} (dat : Dat τ (Elt F) Unit ℕ UU ℕ cfg c) (n : ℕ) :
    ((dat.toRForget fun _ => true).arraysAt n : sProp 𝕄)
      ⊢ iprop(∃ A : (w : Fin cfg.W) → Buf (Elt F) ((cfg.win w).arr.view.loc (c.tc : Thread nD τ)),
        ⌜∀ w, (cfg.win w).isOut = false → A w = dat.A w⌝ ∗ dat.arrays A) := by
  unfold RDat.arraysAt Dat.arrays
  refine (BI.bigSep_exists_pi Finset.univ _).trans ?_
  iintro ⟨%A, H⟩
  ihave H := (BI.bigSep_pure_sep Finset.univ (fun w => (dat.toRForget fun _ => true).ArrAt w n (A w)) _) $$ H
  icases H with ⟨%hA, H⟩
  iexists A
  isplitr
  · ipureintro
    intro w hw
    have h := hA w (Finset.mem_univ w)
    rw [RDat.ArrAt_in _ w hw n] at h
    exact h
  iexact H

/-! ## The calls' records -/

/-- The levels: every semaphore of a core at level zero. -/
def L : GSem nD τ sig → Finset Unit := fun g => if g.1.2 = .tc then {()} else ∅
def lv : GSem nD τ sig → Unit → ℕ := fun _ _ => 0

theorem hL (g : GSem nD τ sig) (h : g.1.2 ≠ .tc) : L g = ∅ := if_neg h

theorem cut (p : Fin 3) : Pipeline.LevelCut (pcfgs (F := F)) adm () L lv p (fun _ => (0 : CellTallies nD τ sig Unit)) (fun _ => 0) where
  hι c w s := by unfold L; rw [if_pos rfl]; exact Finset.mem_singleton_self _
  hιb c w s := Nat.le_refl 0
  hD c g i h := absurd h (by show ¬ 0 < 0; omega)

/-- What rides beside the held buffers: the core's random-number register, and what the core owes. -/
def rest (c : Dev nD) : sProp 𝕄 :=
  iprop((∃ r, prngReg c r) ∗ ∃ Wd, owes (c : Thread nD τ) (0 : CellTallies nD τ sig Unit) Wd)

variable (W : Dev nD → Valuation τ sig (Elt F))

/-- The proof data of the three calls with every window's contents forgotten. -/
def rdats (p : Fin 3) (c : Dev nD) : RDat τ (Elt F) Unit ℕ UU ℕ (cfgs p) c := (dats W p c).toRForget fun _ => true

/-- After the call the buffers are as before, but for the array `o`. -/
def After (o : Ref sig .tc) (c : Dev nD) (X : Valuation τ sig (Elt F)) : Prop :=
  ∀ r : Ref sig .tc, r ≠ o → X (Proc.devRef .tc r) = W c (Proc.devRef .tc r)

set_option backward.isDefEq.respectTransparency.types false in
/-- The record of one call that writes the array `o`: entered with the device's unscoped buffers at `W c`, left with them at
    some contents that differ from `W c` at `o` only. -/
def record (p : Fin 3) (o : Ref sig .tc) (kit : Pipeline.PLaunchFacts (nD := nD) (τ := τ) (pcfgs (F := F)) p)
    (hsub : Pipeline.arrRefs (τ := τ) (cfgs p).spec ⊆ Pipeline.ucRefs τ sig)
    (ho : (Proc.devRef .tc o : DevRef τ sig) ∈ Pipeline.arrRefs (τ := τ) (cfgs p).spec)
    (hbody : ∀ c, BodyObligationLoose (dats W p c) (defs₀ (F := F)) Variants.none () Set.univ (fun _ => true))
    (howed : ∀ c t, (dats W p c).owed t = 0) (hrec : ∀ c, (dats W p c).recorded 0 = Set.univ)
    (hshare : ∀ c w, (dats W p c).share w = fullShare)
    (hΦ : ∀ c t, (dats W p c).Φ t = Pipeline.ΦA (cfgs p).spec c)
    (hA : ∀ c w, (dats W p c).A w = W c (Proc.devRef .tc (Pipeline.arrRef (cfgs p).spec w)))
    (hput : ∀ c (A : (w : Fin (cfgs p).W) → Buf (Elt F) (((cfgs p).win w).arr.view.loc (c.tc : Thread nD τ))),
      (∀ w, ((cfgs p).win w).isOut = false → A w = (dats W p c).A w) →
      ∃ X : Valuation τ sig (Elt F), (∀ w, A w = X (Proc.devRef .tc (Pipeline.arrRef (cfgs p).spec w))) ∧ After W o c X) :
    RDat.RegionSeg (pcfgs (F := F)) adm (rdats W) () defs₀ Variants.none L lv p where
  win := kit.to₀.win
  block_pos := kit.to₀.block_pos
  stage_whole := kit.to₀.stage_whole
  K := PEmpty
  osem k := k.elim
  ho := Pipeline.OwnSemFacts.none _
  hbody c := (hbody c).toRForget
  hwaits c := Pipeline.RDat.cellsWaits_of_cut (Pipeline.pin pcfgs adm) (rdats W) () p c 0 0 (howed c) ((cut (F := F) p).hι c) ((cut (F := F) p).hιb c) ((cut (F := F) p).hD c)
  pre c := iprop(StableHlo.held (c : Thread nD τ) (Pipeline.ucRefs τ sig) (W c) ∗ rest c)
  post c := iprop(∃ X, StableHlo.held (c : Thread nD τ) (Pipeline.ucRefs τ sig) X ∗ ⌜After W o c X⌝ ∗ rest c)
  X c := iprop(∃ r, prngReg c r)
  Y c := iprop(∃ r, prngReg c r)
  Z c := StableHlo.held (c : Thread nD τ) (Pipeline.ucRefs τ sig \ Pipeline.arrRefs (cfgs p).spec) (W c)
  hentry c := by
    show _ ⊢ |={Set.univ}=> iprop((dats W p c).arrays (dats W p c).A
        ∗ Pipeline.prefHeld ((pcfgs (F := F)) p).pre c (fun _ => fullShare) (adm (F := F) p).1
        ∗ (dats W p c).owesAt () 0 ∗ _ ∗ _)
    rw [Pipeline.prefHeld_of_none _ rfl, Pipeline.arrays_held pcfgs adm (dats W) p kit c (hshare c) (dats W p c).A (W c) (hA c),
      StableHlo.held_sub_split (c.tc : Thread nD τ) hsub (W c)]
    unfold rest
    iintro ⟨⟨⟨Ha, Hr⟩, Hp, HO⟩, -, -⟩
    imodintro
    isplitl [Ha]; · iexact Ha
    isplitr; · iempintro
    isplitl [HO]
    · unfold Dat.owesAt Pipeline.owesWithin Dat.bound
      rw [howed c 0, hrec c]
      icases HO with ⟨%Wd, HO⟩; iexists Wd; isplitr; · ipureintro; exact fun _ _ => Or.inl trivial
      iexact HO
    isplitl [Hp]; · iexact Hp
    iexact Hr
  hin c := by
    show _ ⊢ (dats W p c).Φ 0
    rw [hΦ c 0]
    unfold Pipeline.ΦA
    iintro ⟨Hp, -, Hr⟩
    isplitl [Hr]; · iexact Hr
    iexact Hp
  hout c := by
    show (dats W p c).Φ (Fin.last (cfgs p).N) ⊢ _
    rw [hΦ c _, Pipeline.ownSems0_none]
    unfold Pipeline.ΦA
    iintro ⟨Hr, Hp⟩
    isplitl [Hp]; · iexact Hp
    isplitr; · iempintro
    iexact Hr
  hexit c := by
    show iprop(((dats W p c).toRForget fun _ => true).arraysAt (cfgs p).N ∗ (dats W p c).owesAt () (Fin.last (cfgs p).N) ∗ _ ∗ _) ⊢ _
    iintro ⟨Ha, HO, Hp, Hr⟩
    ihave Ha := (arrays_left (dats W p c) (cfgs p).N) $$ Ha
    icases Ha with ⟨%A, %h, Ha⟩
    obtain ⟨X, hX, hkeep⟩ := hput c A h
    imodintro
    iexists X
    rw [StableHlo.held_sub_split (c.tc : Thread nD τ) hsub X,
      ← Pipeline.arrays_held pcfgs adm (dats W) p kit c (hshare c) A X hX,
      StableHlo.held_congr (c.tc : Thread nD τ) (S := Pipeline.ucRefs τ sig \ Pipeline.arrRefs (cfgs p).spec) (V := X) (V' := W c) (fun b hb => by
        obtain ⟨hu, hn⟩ := Finset.mem_sdiff.mp hb
        obtain ⟨r, -, rfl⟩ := Finset.mem_map.mp (Finset.mem_filter.mp hu).1
        exact hkeep r fun e => hn (e ▸ ho))]
    unfold rest
    isplitl [Ha Hr]
    · isplitl [Ha]; · iexact Ha
      iexact Hr
    isplitr; · ipureintro; exact hkeep
    isplitl [Hp]; · iexact Hp
    unfold Dat.owesAt Pipeline.owesWithin
    rw [howed c (Fin.last _)]
    icases HO with ⟨%Wd, -, HO⟩; iexists Wd; iexact HO

theorem put0 (c : Dev nD) (A : (w : Fin cfg0.W) → Buf (Elt F) ((cfg0.win w).arr.view.loc (c.tc : Thread nD τ)))
    (h : ∀ w, (cfg0.win w).isOut = false → A w = (dats0 W c).A w) :
    ∃ X : Valuation τ sig (Elt F), (∀ w, A w = X (Proc.devRef .tc (Pipeline.arrRef spec0 w))) ∧ After W main_v0 c X :=
  ⟨Function.update (W c) (Proc.devRef .tc main_v0) (A 1), fun
    | 0 => (h 0 rfl).trans (Function.update_of_ne (StableHlo.devRef_ne_of_ne (by decide)) _ _).symm
    | 1 => (Function.update_self (Proc.devRef .tc main_v0 : DevRef τ sig) (A 1) (W c)).symm
    | ⟨_ + 2, h⟩ => absurd h (Nat.not_lt.2 (Nat.le_add_left _ _)),
    fun r hr => Function.update_of_ne (StableHlo.devRef_ne_of_ne hr) _ _⟩

theorem sub0 : Pipeline.arrRefs (τ := τ) spec0 ⊆ Pipeline.ucRefs τ sig := Pipeline.arrRefs_sub_ucRefs spec0 (by decide)

set_option backward.isDefEq.respectTransparency.types false in
/-- Call 0, which writes `main_v0`. -/
def record0 : RDat.RegionSeg (pcfgs (F := F)) adm (rdats W) () defs₀ Variants.none L lv 0 :=
  record W 0 main_v0 launch0.toP sub0 (by decide) (obligation0 W) (fun _ _ => rfl) (fun _ => rfl)
    (fun c => (dats0 W c).share_full fun _ => rfl) (fun _ _ => rfl) (fun _ _ => rfl) (put0 W)

theorem put1 (c : Dev nD) (A : (w : Fin cfg1.W) → Buf (Elt F) ((cfg1.win w).arr.view.loc (c.tc : Thread nD τ)))
    (h : ∀ w, (cfg1.win w).isOut = false → A w = (dats1 W c).A w) :
    ∃ X : Valuation τ sig (Elt F), (∀ w, A w = X (Proc.devRef .tc (Pipeline.arrRef spec1 w))) ∧ After W main_v1 c X :=
  ⟨Function.update (W c) (Proc.devRef .tc main_v1) (A 4), fun
    | 0 => (h 0 rfl).trans (Function.update_of_ne (StableHlo.devRef_ne_of_ne (by decide)) _ _).symm
    | 1 => (h 1 rfl).trans (Function.update_of_ne (StableHlo.devRef_ne_of_ne (by decide)) _ _).symm
    | 2 => (h 2 rfl).trans (Function.update_of_ne (StableHlo.devRef_ne_of_ne (by decide)) _ _).symm
    | 3 => (h 3 rfl).trans (Function.update_of_ne (StableHlo.devRef_ne_of_ne (by decide)) _ _).symm
    | 4 => (Function.update_self (Proc.devRef .tc main_v1 : DevRef τ sig) (A 4) (W c)).symm
    | ⟨_ + 5, h⟩ => absurd h (Nat.not_lt.2 (Nat.le_add_left _ _)),
    fun r hr => Function.update_of_ne (StableHlo.devRef_ne_of_ne hr) _ _⟩

theorem sub1 : Pipeline.arrRefs (τ := τ) spec1 ⊆ Pipeline.ucRefs τ sig := Pipeline.arrRefs_sub_ucRefs spec1 (by decide)

set_option backward.isDefEq.respectTransparency.types false in
/-- Call 1, which writes `main_v1`. -/
def record1 : RDat.RegionSeg (pcfgs (F := F)) adm (rdats W) () defs₀ Variants.none L lv 1 :=
  record W 1 main_v1 launch1.toP sub1 (by decide) (obligation1 W) (fun _ _ => rfl) (fun _ => rfl)
    (fun c => (dats1 W c).share_full fun _ => rfl) (fun _ _ => rfl) (fun _ _ => rfl) (put1 W)

theorem put2 (c : Dev nD) (A : (w : Fin cfg2.W) → Buf (Elt F) ((cfg2.win w).arr.view.loc (c.tc : Thread nD τ)))
    (h : ∀ w, (cfg2.win w).isOut = false → A w = (dats2 W c).A w) :
    ∃ X : Valuation τ sig (Elt F), (∀ w, A w = X (Proc.devRef .tc (Pipeline.arrRef spec2 w))) ∧ After W main_v2 c X :=
  ⟨Function.update (W c) (Proc.devRef .tc main_v2) (A 1), fun
    | 0 => (h 0 rfl).trans (Function.update_of_ne (StableHlo.devRef_ne_of_ne (by decide)) _ _).symm
    | 1 => (Function.update_self (Proc.devRef .tc main_v2 : DevRef τ sig) (A 1) (W c)).symm
    | ⟨_ + 2, h⟩ => absurd h (Nat.not_lt.2 (Nat.le_add_left _ _)),
    fun r hr => Function.update_of_ne (StableHlo.devRef_ne_of_ne hr) _ _⟩

theorem sub2 : Pipeline.arrRefs (τ := τ) spec2 ⊆ Pipeline.ucRefs τ sig := Pipeline.arrRefs_sub_ucRefs spec2 (by decide)

set_option backward.isDefEq.respectTransparency.types false in
/-- Call 2, which writes `main_v2`. -/
def record2 : RDat.RegionSeg (pcfgs (F := F)) adm (rdats W) () defs₀ Variants.none L lv 2 :=
  record W 2 main_v2 launch2.toP sub2 (by decide) (obligation2 W) (fun _ _ => rfl) (fun _ => rfl)
    (fun c => (dats2 W c).share_full fun _ => rfl) (fun _ _ => rfl) (fun _ _ => rfl) (put2 W)

/-! ## The calls one after the other -/

variable (m : (ℓ : Loc nD τ sig) → Buf (Elt F) ℓ) (ρ : Dev nD → PrngReg)

/-- The four arguments are as launched. -/
def Kept (X : Valuation τ sig (Elt F)) (c : Dev nD) : Prop :=
  X (Proc.devRef .tc main_arg0) = m ((c : Thread nD τ).loc main_arg0)
  ∧ X (Proc.devRef .tc main_arg1) = m ((c : Thread nD τ).loc main_arg1)
  ∧ X (Proc.devRef .tc main_arg2) = m ((c : Thread nD τ).loc main_arg2)
  ∧ X (Proc.devRef .tc main_arg3) = m ((c : Thread nD τ).loc main_arg3)

theorem Kept.after {m : (ℓ : Loc nD τ sig) → Buf (Elt F) ℓ} {Y X : Valuation τ sig (Elt F)} {c : Dev nD} {o : Ref sig .tc}
    (h : Kept m Y c) (ho : main_arg0 ≠ o ∧ main_arg1 ≠ o ∧ main_arg2 ≠ o ∧ main_arg3 ≠ o) (hX : After (fun _ => Y) o c X) : Kept m X c :=
  ⟨(hX _ ho.1).trans h.1, (hX _ ho.2.1).trans h.2.1, (hX _ ho.2.2.1).trans h.2.2.1, (hX _ ho.2.2.2).trans h.2.2.2⟩

/-- The state between the calls: the device's unscoped buffers at some contents, the four arguments as launched. -/
def state (c : Dev nD) : sProp 𝕄 :=
  iprop(∃ X, StableHlo.held (c : Thread nD τ) (Pipeline.ucRefs τ sig) X ∗ ⌜Kept m X c⌝ ∗ rest c)

/-- A call's copy of the pipelines' ghost state. -/
def tickets (j : Fin 3) : Ticket (Ix := Unit) (Name := ℕ) (U := UU) (Lvl := ℕ) (nD := nD) (τ := τ) (pcfgs (F := F)) adm where
  p := j
  pdats := dats fun c => V0 m c
  EP := embAt j

/-- The program has no host loop. -/
def loops : Fin 0 → Prog (TpuEff nD τ sig (Elt F) (HostLoop.Sig (Pipeline.Sig Λ₀ (Fin 3) fun p => (pcfgs (F := F) p).Adm) 0) .tc) PUnit :=
  fun l => l.elim0

set_option backward.isDefEq.respectTransparency.types false in
/-- Call 0 at every contents it may find. -/
def seg0 : CSeg (pcfgs (F := F)) adm defs₀ Variants.none L lv loops (tickets m) :=
  CSeg.regionFR pcfgs adm () cellOf_inj defs₀ Variants.none L lv loops (tickets m) 0
    (fun X => rdats fun _ => X) (fun X => record0 fun _ => X) (Kept m)

set_option backward.isDefEq.respectTransparency.types false in
theorem pre0 (c : Dev nD) : state m c ⊢ (seg0 m).pre c :=
  CSeg.regionFR_pre (A := fun X => StableHlo.held (c : Thread nD τ) (Pipeline.ucRefs τ sig) X) (E := rest c) c fun _ _ => .rfl

set_option backward.isDefEq.respectTransparency.types false in
theorem post0 (c : Dev nD) : (seg0 m).post c ⊢ state m c :=
  CSeg.regionFR_post c fun X h => by
    show iprop(∃ Y, StableHlo.held (c : Thread nD τ) (Pipeline.ucRefs τ sig) Y ∗ ⌜After (fun _ => X) main_v0 c Y⌝ ∗ rest c) ⊢ _
    unfold state
    iintro ⟨%Y, Hh, %hY, HR⟩
    iexists Y
    isplitl [Hh]; · iexact Hh
    isplitr; · ipureintro; exact h.after (by decide) hY
    iexact HR

set_option backward.isDefEq.respectTransparency.types false in
/-- Call 1 at every contents it may find. -/
def seg1 : CSeg (pcfgs (F := F)) adm defs₀ Variants.none L lv loops (tickets m) :=
  CSeg.regionFR pcfgs adm () cellOf_inj defs₀ Variants.none L lv loops (tickets m) 1
    (fun X => rdats fun _ => X) (fun X => record1 fun _ => X) (Kept m)

set_option backward.isDefEq.respectTransparency.types false in
theorem pre1 (c : Dev nD) : state m c ⊢ (seg1 m).pre c :=
  CSeg.regionFR_pre (A := fun X => StableHlo.held (c : Thread nD τ) (Pipeline.ucRefs τ sig) X) (E := rest c) c fun _ _ => .rfl

set_option backward.isDefEq.respectTransparency.types false in
theorem post1 (c : Dev nD) : (seg1 m).post c ⊢ state m c :=
  CSeg.regionFR_post c fun X h => by
    show iprop(∃ Y, StableHlo.held (c : Thread nD τ) (Pipeline.ucRefs τ sig) Y ∗ ⌜After (fun _ => X) main_v1 c Y⌝ ∗ rest c) ⊢ _
    unfold state
    iintro ⟨%Y, Hh, %hY, HR⟩
    iexists Y
    isplitl [Hh]; · iexact Hh
    isplitr; · ipureintro; exact h.after (by decide) hY
    iexact HR

set_option backward.isDefEq.respectTransparency.types false in
/-- Call 2 at every contents it may find. -/
def seg2 : CSeg (pcfgs (F := F)) adm defs₀ Variants.none L lv loops (tickets m) :=
  CSeg.regionFR pcfgs adm () cellOf_inj defs₀ Variants.none L lv loops (tickets m) 2
    (fun X => rdats fun _ => X) (fun X => record2 fun _ => X) (Kept m)

set_option backward.isDefEq.respectTransparency.types false in
theorem pre2 (c : Dev nD) : state m c ⊢ (seg2 m).pre c :=
  CSeg.regionFR_pre (A := fun X => StableHlo.held (c : Thread nD τ) (Pipeline.ucRefs τ sig) X) (E := rest c) c fun _ _ => .rfl

set_option backward.isDefEq.respectTransparency.types false in
theorem post2 (c : Dev nD) : (seg2 m).post c ⊢ state m c :=
  CSeg.regionFR_post c fun X h => by
    show iprop(∃ Y, StableHlo.held (c : Thread nD τ) (Pipeline.ucRefs τ sig) Y ∗ ⌜After (fun _ => X) main_v2 c Y⌝ ∗ rest c) ⊢ _
    unfold state
    iintro ⟨%Y, Hh, %hY, HR⟩
    iexists Y
    isplitl [Hh]; · iexact Hh
    isplitr; · ipureintro; exact h.after (by decide) hY
    iexact HR

/-- What is left at the end beside what the core owes. -/
def last (c : Dev nD) : sProp 𝕄 :=
  iprop(∃ X, StableHlo.held (c : Thread nD τ) (Pipeline.ucRefs τ sig) X ∗ ⌜Kept m X c⌝)

theorem state_last (c : Dev nD) :
    state m c ⊢ iprop(last m c ∗ ∃ Wd, owes (c.tc : Thread nD τ) (0 : CellTallies nD τ sig Unit) Wd) := by
  unfold state last rest
  iintro ⟨%X, Hh, %hX, -, HO⟩
  isplitl [Hh]
  · iexists X
    isplitl [Hh]; · iexact Hh
    ipureintro; exact hX
  iexact HO

/-- The ghost state at launch: every call's cells and transfers in its own copy. -/
def ghost : UU := (fun _ => initOf (Pipeline.cells cfgs cellOf_inj) (Pipeline.launchToks cfgs cellOf_inj), 1)

set_option backward.isDefEq.respectTransparency.types false in
/-- The run of the program with its labels read among those of a program with host loops. -/
theorem run_lifted : θ_run (HostLoop.defs (loops (F := F)) (Pipeline.defs pcfgs defs₀)) (onTc (τ := τ) fun d => HostLoop.liftProg (L := 0) (main (F := F) d))
    ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine Pipeline.θ_run_regions_loop_kit_sems (pcfgs (F := F)) adm cellOf_inj defs₀ Variants.none L lv loops (tickets m) m ρ
    (fun d => HostLoop.liftProg (L := 0) (main (F := F) d)) [seg0 m, seg1 m, seg2 m]
    (fun c Q => by
      rw [main_chain c, HostLoop.liftProg_chain]
      exact .rfl)
    (by
      simp only [List.pairwise_cons, List.mem_cons, List.not_mem_nil, List.Pairwise.nil, or_false, forall_eq_or_imp, forall_eq,
        and_true, false_imp_iff, implies_true]
      exact ⟨⟨show Disjoint ({0} : Finset (Fin 3)) {1} by decide, show Disjoint ({0} : Finset (Fin 3)) {2} by decide⟩,
        show Disjoint ({1} : Finset (Fin 3)) {2} by decide⟩)
    (fun _ => 0) hL (fun _ => iprop(emp)) ghost ?_
    (T₀ := state m) (Tₙ := last m)
    (hch := ⟨pre0 m, fun c => (post0 m c).trans (pre1 m c), fun c => (post1 m c).trans (pre2 m c), fun c => (post2 m c).trans (state_last m c)⟩)
    (hinit := ?_) (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h hz => ⟨h, funext fun g => hz g (.inr (regions_no_unscoped g.2))⟩)
  · iintro Hu
    ihave H := (ownU_pair _ _) $$ Hu
    icases H with ⟨HP, -⟩
    imodintro
    isplitl [HP]
    · iapply (own_iprod (J := Fin 3) (B := Counters) (fun _ => initOf (Pipeline.cells cfgs cellOf_inj) (Pipeline.launchToks cfgs cellOf_inj)))
      iexact HP
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c.tc : Thread nD τ).loc b)) = StableHlo.held (c : Thread nD τ) (Pipeline.ucRefs τ sig) (V0 m c)
      from Pipeline.unscopedBufs_held c (V0 m c)]
    unfold state rest
    iintro ⟨⟨Hh, -, HO, -, Hp, -⟩, -⟩
    imodintro
    iexists (V0 m c)
    isplitl [Hh]; · iexact Hh
    isplitr; · ipureintro; exact ⟨rfl, rfl, rfl, rfl⟩
    isplitl [Hp]
    · iexists ρ c
      iexact Hp
    iexists ∅
    iexact HO
  · unfold last StableHlo.held
    iintro ⟨⟨%X, Hh, %hX⟩, HSI⟩
    ihave Hr := (pointsTo_read_all (Pipeline.ucRefs τ sig) (fun b => ((c : Thread nD τ).1, b)) X s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans hX.1,
        (h (Proc.devRef .tc main_arg1) (Finset.mem_filter.mpr ⟨StableHlo.devRef_mem_tcRefs main_arg1, by decide⟩)).trans hX.2.1,
        (h (Proc.devRef .tc main_arg2) (Finset.mem_filter.mpr ⟨StableHlo.devRef_mem_tcRefs main_arg2, by decide⟩)).trans hX.2.2.1,
        (h (Proc.devRef .tc main_arg3) (Finset.mem_filter.mpr ⟨StableHlo.devRef_mem_tcRefs main_arg3, by decide⟩)).trans hX.2.2.2⟩
    · iexact HSI

/-- The frame of the whole kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  HostLoop.θ_run_of_lift loops (Pipeline.defs pcfgs defs₀) main ⟨m, fun _ => 0, ρ⟩ _ (run_lifted m ρ)

end Cert.Kernel3.Whole

end
-- ==== Proof.lean ====
/-
  The claim: the frames of the programs, that the named constants keep the kernels' values, that the kernel of the logits
  and its reference compute the same logits, that the kernel of the selection and its reference compute the same
  probabilities, and that the whole kernel and its reference do.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Loops
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Loops
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_separated
public import proofs.«01_k».proof.Proof.Gen.Kernel3
public import proofs.«01_k».proof.Proof.Gen.Kernel3.Skeleton
public import proofs.«01_k».proof.Proof.Gen.Kernel3.Launch
public import proofs.«01_k».proof.Proof.Gen.Kernel3.Loops
public import proofs.«01_k».proof.Proof.Gen.Kernel3.Points
public import proofs.«01_k».proof.Proof.Gen.Kernel3.Regions
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Loops
public import proofs.«01_k».proof.Proof.Gen.Kernel3Ideal.Points
public import proofs.«01_k».proof.Proof.Gen.Kernel3Ideal.Regions
public import proofs.«01_k».proof.Proof.Gen.Reference3Ideal
public import proofs.«01_k».proof.Proof.Gen.Reference3Ideal.Run
public import proofs.«01_k».proof.Proof.Gen.Pre_separated3
public import proofs.«01_k».proof.Proof.SimsFrame
public import proofs.«01_k».proof.Proof.SimsRun
public import proofs.«01_k».proof.Proof.SimsRef
public import proofs.«01_k».proof.Proof.SelPre
public import proofs.«01_k».proof.Proof.SelRun
public import proofs.«01_k».proof.Proof.SelRef
public import proofs.«01_k».proof.Proof.JoinSame
public import proofs.«01_k».proof.Proof.JoinFrame
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference reads its arguments and writes results of its own; it has no semaphore. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The named constants are the values that the reference's own constants have. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

theorem preserves3 : Cert.preserves_Kernel3_Kernel3Ideal :=
  ⟨IdealRules.named_const.statement _ _ _ _ _ rfl, IdealRules.named_const.statement _ _ _ _ _ rfl,
    IdealRules.named_const.statement _ _ _ _ _ rfl, IdealRules.named_const.statement _ _ _ _ _ rfl⟩

theorem preserves2 : Cert.preserves_Kernel2_Kernel2Ideal := IdealRules.named_const.statement _ _ _ _ _ rfl

/-- The kernel's array of logits and the reference's are the same function of the arguments. -/
theorem same (c : Dev Cert.KernelIdeal.nD) (m : (ℓ : Loc Cert.KernelIdeal.nD Cert.KernelIdeal.τ Cert.KernelIdeal.sig) → Buf (Elt Ideal) ℓ) :
    Cert.KernelIdeal.Sims.logits m c
      = Cert.ReferenceIdeal.Sims.logits (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) := by
  funext y
  rw [show y = ix2 (n0 := 128) (n1 := 100352) (y 0) (y 1) from Shape.idx_ext₂ rfl rfl]
  exact (Cert.KernelIdeal.Sims.logits_ix m c (y 0) (y 1)).trans (Cert.ReferenceIdeal.Sims.logits_apply _ _ _ _ (y 0) (y 1)).symm

theorem algebraic : Cert.algebraic_KernelIdeal_ReferenceIdeal := by
  intro m g m' g' _ hargs
  refine ⟨fun c => Cert.KernelIdeal.Sims.logits m c, Cert.KernelIdeal.Sims.run_logits m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3⟩ := hargs c
  rw [h0, h1, h2, h3]
  exact (same c m).symm

/-- The second reference likewise. -/
theorem reference2_frame : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The second kernel's probabilities, its scores' top positions being the reference's, are the reference's. -/
theorem same_probs (c : Dev Cert.Kernel2Ideal.nD) (m : (ℓ : Loc Cert.Kernel2Ideal.nD Cert.Kernel2Ideal.τ Cert.Kernel2Ideal.sig) → Buf (Elt Ideal) ℓ)
    (x : FVec Ideal Cert.Reference2Ideal.S128x100352 .f32)
    (e : m ((c.tc : Thread Cert.Kernel2Ideal.nD Cert.Kernel2Ideal.τ).loc Cert.Kernel2Ideal.main_arg0) = x)
    (V : Valuation Cert.Reference2Ideal.τ Cert.Reference2Ideal.sig (Elt Ideal))
    (hV : V (Proc.devRef .tc Cert.Reference2Ideal.main_arg0) = x) (hsep : ∀ q, Sel.Separated (Cert.Reference2Ideal.Select.row x q) (Sel.top x q)) :
    Cert.Reference2Ideal.Select.normal (Cert.Reference2Ideal.Value.res_main_v73 V) = Cert.Kernel2Ideal.Select.probs m c (Sel.top x) := by
  subst e
  funext y
  obtain ⟨q, p, rfl⟩ := Sel.exists_ix2 (R := 128) (N := 100000) y
  exact Cert.Reference2Ideal.Select.result_apply V _ hV hsep q p

theorem algebraic2 : Cert.algebraic_Kernel2Ideal_Reference2Ideal_pre_separated := by
  intro m g m' g' hpre hargs
  have hsep := fun (c : Dev Cert.Kernel2Ideal.nD) (q : Fin 128) => Sel.separated _ (hpre c) q
  refine ⟨fun c => Cert.Kernel2Ideal.Select.probs m c (Sel.top _), Cert.Kernel2Ideal.Select.run_probs m g (fun c => Sel.top _) hsep, ?_⟩
  refine (θ_run Cert.Reference2Ideal.defs _ _).mono (fun r h c => ⟨(h c).1.trans ?_, (h c).2⟩)
    (Cert.Reference2Ideal.Value.run (F := Ideal) m' g')
  exact same_probs c m _ rfl _ (hargs c) (hsep c)

/-- The whole reference likewise. -/
theorem reference3_frame : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The whole kernel ends, with its arguments as they were and every counter at zero. -/
theorem kernel3_frame : Cert.quiescent_Kernel3Ideal := fun m ρ _ =>
  (θ_run Cert.Kernel3Ideal.defs _ _).mono (fun r h => ⟨fun c => (h.1 c).2, h.2⟩) (Cert.Kernel3Ideal.Whole.run m ρ)

theorem algebraic3 : Cert.algebraic_Kernel3Ideal_Reference3Ideal_pre_separated3 := by
  intro m g m' g' hpre hargs
  refine ⟨fun c => Cert.Kernel3Ideal.Whole.W3 m c (Proc.devRef .tc Cert.Kernel3Ideal.main_v2), ?_, ?_⟩
  · exact (θ_run Cert.Kernel3Ideal.defs _ _).mono (fun r h c => h.1 c) (Cert.Kernel3Ideal.Whole.run m g)
  · refine (θ_run Cert.Reference3Ideal.defs _ _).mono (fun r h c => ⟨(h c).1.trans ?_, (h c).2⟩)
      (Cert.Reference3Ideal.Value.run (F := Ideal) m' g')
    obtain ⟨h0, h1, h2, h3⟩ := hargs c
    exact Cert.Kernel3Ideal.Whole.result_eq m c (Cert.Kernel3Ideal.Whole.separated m c (hpre c)) _ h0 h1 h2 h3

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts, Cert.Pre_separated.Gen.facts, Cert.Pre_separated3.Gen.facts,
  fun m ρ _ => Cert.Kernel.Sims.frame m ρ, fun m ρ _ => Cert.KernelIdeal.Sims.frame m ρ, reference_frame,
  fun m ρ _ => Cert.Kernel2.Gen.frame m ρ, fun m ρ _ => Cert.Kernel2Ideal.Gen.frame m ρ, fun m ρ _ => Cert.Kernel2Ideal.Gen.frame m ρ,
  reference2_frame, fun m ρ _ => reference2_frame m ρ trivial,
  fun m ρ _ => Cert.Kernel3.Whole.frame m ρ, kernel3_frame, fun m ρ _ => kernel3_frame m ρ trivial, reference3_frame, fun m ρ _ => reference3_frame m ρ trivial,
  preserves, algebraic, preserves2, algebraic2, preserves3, algebraic3⟩

end Cert.Proof

end
